-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_scales_out [hPre_scales_out : Cert.Pre_scales_out.Facts] (m : (ℓ : Loc Cert.OutIdeal.nD Cert.OutIdeal.τ Cert.OutIdeal.sig) → Buf (Elt Ideal) ℓ) : Prop :=
  ∀ c : Dev Cert.OutIdeal.nD,
    (Cert.Pre_scales_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_scales_out [hPre_scales_out : Cert.Pre_scales_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_scales_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_scales_gate [hPre_scales_gate : Cert.Pre_scales_gate.Facts] (m : (ℓ : Loc Cert.GateIdeal.nD Cert.GateIdeal.τ Cert.GateIdeal.sig) → Buf (Elt Ideal) ℓ) : Prop :=
  ∀ c : Dev Cert.GateIdeal.nD,
    (Cert.Pre_scales_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_scales_gate [hPre_scales_gate : Cert.Pre_scales_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_scales_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_scales_qk [hPre_scales_qk : Cert.Pre_scales_qk.Facts] (m : (ℓ : Loc Cert.QkIdeal.nD Cert.QkIdeal.τ Cert.QkIdeal.sig) → Buf (Elt Ideal) ℓ) : Prop :=
  ∀ c : Dev Cert.QkIdeal.nD,
    (Cert.Pre_scales_qk.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3))) = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_scales_qk [hPre_scales_qk : Cert.Pre_scales_qk.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_scales_qk.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3))) = (fun _ => 1#1)

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValIdeal_scales_v [hPre_scales_v : Cert.Pre_scales_v.Facts] (m : (ℓ : Loc Cert.ValIdeal.nD Cert.ValIdeal.τ Cert.ValIdeal.sig) → Buf (Elt Ideal) ℓ) : Prop :=
  ∀ c : Dev Cert.ValIdeal.nD,
    (Cert.Pre_scales_v.fn (F := Ideal) (m ((c.tc : Thread Cert.ValIdeal.nD Cert.ValIdeal.τ).loc Cert.ValIdeal.main_arg0)) (m ((c.tc : Thread Cert.ValIdeal.nD Cert.ValIdeal.τ).loc Cert.ValIdeal.main_arg1)) (m ((c.tc : Thread Cert.ValIdeal.nD Cert.ValIdeal.τ).loc Cert.ValIdeal.main_arg2)) (m ((c.tc : Thread Cert.ValIdeal.nD Cert.ValIdeal.τ).loc Cert.ValIdeal.main_arg3))) = (fun _ => 1#1)

def Pre_ValRefIdeal (m : (ℓ : Loc Cert.ValRefIdeal.nD Cert.ValRefIdeal.τ Cert.ValRefIdeal.sig) → Buf (Elt Ideal) ℓ) : Prop :=
  True

def Pre_ValRefIdeal_scales_v [hPre_scales_v : Cert.Pre_scales_v.Facts] (m : (ℓ : Loc Cert.ValRefIdeal.nD Cert.ValRefIdeal.τ Cert.ValRefIdeal.sig) → Buf (Elt Ideal) ℓ) : Prop :=
  ∀ c : Dev Cert.ValRefIdeal.nD,
    (Cert.Pre_scales_v.fn (F := Ideal) (m ((c.tc : Thread Cert.ValRefIdeal.nD Cert.ValRefIdeal.τ).loc Cert.ValRefIdeal.main_arg0)) (m ((c.tc : Thread Cert.ValRefIdeal.nD Cert.ValRefIdeal.τ).loc Cert.ValRefIdeal.main_arg1)) (m ((c.tc : Thread Cert.ValRefIdeal.nD Cert.ValRefIdeal.τ).loc Cert.ValRefIdeal.main_arg2)) (m ((c.tc : Thread Cert.ValRefIdeal.nD Cert.ValRefIdeal.τ).loc Cert.ValRefIdeal.main_arg3))) = (fun _ => 1#1)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutIdeal_pre_scales_out [hOutIdeal : Cert.OutIdeal.Facts] [hPre_scales_out : Cert.Pre_scales_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_scales_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutRefIdeal_pre_scales_out [hOutRefIdeal : Cert.OutRefIdeal.Facts] [hPre_scales_out : Cert.Pre_scales_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_scales_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_scales_gate [hGateIdeal : Cert.GateIdeal.Facts] [hPre_scales_gate : Cert.Pre_scales_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_scales_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_scales_gate [hGateRefIdeal : Cert.GateRefIdeal.Facts] [hPre_scales_gate : Cert.Pre_scales_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_scales_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ r.2.sem = fun _ => 0)

def quiescent_QkIdeal_pre_scales_qk [hQkIdeal : Cert.QkIdeal.Facts] [hPre_scales_qk : Cert.Pre_scales_qk.Facts] : Prop :=
  ∀ (m : (ℓ : Loc Cert.QkIdeal.nD Cert.QkIdeal.τ Cert.QkIdeal.sig) → Buf (Elt Ideal) ℓ) (g : Dev Cert.QkIdeal.nD → PrngReg), Pre_QkIdeal_scales_qk m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3))
      ∧ r.2.sem = fun _ => 0)

def quiescent_QkRefIdeal_pre_scales_qk [hQkRefIdeal : Cert.QkRefIdeal.Facts] [hPre_scales_qk : Cert.Pre_scales_qk.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_scales_qk m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2)
      ∧ r.2.mem ((c.tc : Thread Cert.Val.nD Cert.Val.τ).loc Cert.Val.main_arg3) = m ((c.tc : Thread Cert.Val.nD Cert.Val.τ).loc Cert.Val.main_arg3))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
      ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ r.2.sem = fun _ => 0)

def quiescent_ValIdeal_pre_scales_v [hValIdeal : Cert.ValIdeal.Facts] [hPre_scales_v : Cert.Pre_scales_v.Facts] : Prop :=
  ∀ (m : (ℓ : Loc Cert.ValIdeal.nD Cert.ValIdeal.τ Cert.ValIdeal.sig) → Buf (Elt Ideal) ℓ) (g : Dev Cert.ValIdeal.nD → PrngReg), Pre_ValIdeal_scales_v m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
      ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2)
      ∧ r.2.mem ((c.tc : Thread Cert.ValRefIdeal.nD Cert.ValRefIdeal.τ).loc Cert.ValRefIdeal.main_arg3) = m ((c.tc : Thread Cert.ValRefIdeal.nD Cert.ValRefIdeal.τ).loc Cert.ValRefIdeal.main_arg3))
      ∧ r.2.sem = fun _ => 0)

def quiescent_ValRefIdeal_pre_scales_v [hValRefIdeal : Cert.ValRefIdeal.Facts] [hPre_scales_v : Cert.Pre_scales_v.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal_scales_v m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2)
      ∧ r.2.mem ((c.tc : Thread Cert.ValRefIdeal.nD Cert.ValRefIdeal.τ).loc Cert.ValRefIdeal.main_arg3) = m ((c.tc : Thread Cert.ValRefIdeal.nD Cert.ValRefIdeal.τ).loc Cert.ValRefIdeal.main_arg3))
      ∧ r.2.sem = fun _ => 0)

def preserves_Out_OutIdeal : Prop :=
  True

def algebraic_OutIdeal_OutRefIdeal_pre_scales_out [hOutIdeal : Cert.OutIdeal.Facts] [hOutRefIdeal : Cert.OutRefIdeal.Facts] [hPre_scales_out : Cert.Pre_scales_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_scales_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Gate_GateIdeal : Prop :=
  True

def algebraic_GateIdeal_GateRefIdeal_pre_scales_gate [hGateIdeal : Cert.GateIdeal.Facts] [hGateRefIdeal : Cert.GateRefIdeal.Facts] [hPre_scales_gate : Cert.Pre_scales_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_scales_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Qk_QkIdeal : Prop :=
  True

def algebraic_QkIdeal_QkRefIdeal_pre_scales_qk [hQkIdeal : Cert.QkIdeal.Facts] [hQkRefIdeal : Cert.QkRefIdeal.Facts] [hPre_scales_qk : Cert.Pre_scales_qk.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal_scales_qk m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)) →
    ∃ (v0 : (c : Dev Cert.QkIdeal.nD) → Buf (Elt Ideal) ((c.tc : Thread Cert.QkIdeal.nD Cert.QkIdeal.τ).loc Cert.QkIdeal.main_v1_0)) (v1 : (c : Dev Cert.QkIdeal.nD) → Buf (Elt Ideal) ((c.tc : Thread Cert.QkIdeal.nD Cert.QkIdeal.τ).loc Cert.QkIdeal.main_v1_1)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v1_0) = v0 c
          ∧ r.2.mem ((c.tc : Thread Cert.QkIdeal.nD Cert.QkIdeal.τ).loc Cert.QkIdeal.main_v1_1) = v1 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v1_0) = v0 c
          ∧ r.2.mem ((c.tc : Thread Cert.QkRefIdeal.nD Cert.QkRefIdeal.τ).loc Cert.QkRefIdeal.main_v1_1) = v1 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3))

def preserves_Val_ValIdeal : Prop :=
  True

def algebraic_ValIdeal_ValRefIdeal_pre_scales_v [hValIdeal : Cert.ValIdeal.Facts] [hValRefIdeal : Cert.ValRefIdeal.Facts] [hPre_scales_v : Cert.Pre_scales_v.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal_scales_v m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)
      ∧ m' ((c.tc : Thread Cert.ValRefIdeal.nD Cert.ValRefIdeal.τ).loc Cert.ValRefIdeal.main_arg2) = m ((c.tc : Thread Cert.ValIdeal.nD Cert.ValIdeal.τ).loc Cert.ValIdeal.main_arg2)
      ∧ m' ((c.tc : Thread Cert.ValRefIdeal.nD Cert.ValRefIdeal.τ).loc Cert.ValRefIdeal.main_arg3) = m ((c.tc : Thread Cert.ValIdeal.nD Cert.ValIdeal.τ).loc Cert.ValIdeal.main_arg3)) →
    ∃ (v0 : (c : Dev Cert.ValIdeal.nD) → Buf (Elt Ideal) ((c.tc : Thread Cert.ValIdeal.nD Cert.ValIdeal.τ).loc Cert.ValIdeal.main_v1_0)) (v1 : (c : Dev Cert.ValIdeal.nD) → Buf (Elt Ideal) ((c.tc : Thread Cert.ValIdeal.nD Cert.ValIdeal.τ).loc Cert.ValIdeal.main_v1_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v1_0) = v0 c
          ∧ r.2.mem ((c.tc : Thread Cert.ValIdeal.nD Cert.ValIdeal.τ).loc Cert.ValIdeal.main_v1_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
          ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v1_0) = v0 c
          ∧ r.2.mem ((c.tc : Thread Cert.ValRefIdeal.nD Cert.ValRefIdeal.τ).loc Cert.ValRefIdeal.main_v1_1) = v1 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1)
          ∧ r.2.mem ((c.tc : Thread Cert.ValRefIdeal.nD Cert.ValRefIdeal.τ).loc Cert.ValRefIdeal.main_arg2) = m' ((c.tc : Thread Cert.ValRefIdeal.nD Cert.ValRefIdeal.τ).loc Cert.ValRefIdeal.main_arg2)
          ∧ r.2.mem ((c.tc : Thread Cert.ValRefIdeal.nD Cert.ValRefIdeal.τ).loc Cert.ValRefIdeal.main_arg3) = m' ((c.tc : Thread Cert.ValRefIdeal.nD Cert.ValRefIdeal.τ).loc Cert.ValRefIdeal.main_arg3))

def Claim : Prop :=
  ∃ (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hQk : Cert.Qk.Facts) (hQkIdeal : Cert.QkIdeal.Facts) (hQkRefIdeal : Cert.QkRefIdeal.Facts) (hVal : Cert.Val.Facts) (hValIdeal : Cert.ValIdeal.Facts) (hValRefIdeal : Cert.ValRefIdeal.Facts) (hPre_scales_out : Cert.Pre_scales_out.Facts) (hPre_scales_gate : Cert.Pre_scales_gate.Facts) (hPre_scales_qk : Cert.Pre_scales_qk.Facts) (hPre_scales_v : Cert.Pre_scales_v.Facts),
    quiescent_Out (hOut := hOut)
    ∧ quiescent_OutIdeal (hOutIdeal := hOutIdeal)
    ∧ quiescent_OutIdeal_pre_scales_out (hOutIdeal := hOutIdeal) (hPre_scales_out := hPre_scales_out)
    ∧ quiescent_OutRefIdeal (hOutRefIdeal := hOutRefIdeal)
    ∧ quiescent_OutRefIdeal_pre_scales_out (hOutRefIdeal := hOutRefIdeal) (hPre_scales_out := hPre_scales_out)
    ∧ quiescent_Gate (hGate := hGate)
    ∧ quiescent_GateIdeal (hGateIdeal := hGateIdeal)
    ∧ quiescent_GateIdeal_pre_scales_gate (hGateIdeal := hGateIdeal) (hPre_scales_gate := hPre_scales_gate)
    ∧ quiescent_GateRefIdeal (hGateRefIdeal := hGateRefIdeal)
    ∧ quiescent_GateRefIdeal_pre_scales_gate (hGateRefIdeal := hGateRefIdeal) (hPre_scales_gate := hPre_scales_gate)
    ∧ quiescent_Qk (hQk := hQk)
    ∧ quiescent_QkIdeal (hQkIdeal := hQkIdeal)
    ∧ quiescent_QkIdeal_pre_scales_qk (hQkIdeal := hQkIdeal) (hPre_scales_qk := hPre_scales_qk)
    ∧ quiescent_QkRefIdeal (hQkRefIdeal := hQkRefIdeal)
    ∧ quiescent_QkRefIdeal_pre_scales_qk (hQkRefIdeal := hQkRefIdeal) (hPre_scales_qk := hPre_scales_qk)
    ∧ quiescent_Val (hVal := hVal)
    ∧ quiescent_ValIdeal (hValIdeal := hValIdeal)
    ∧ quiescent_ValIdeal_pre_scales_v (hValIdeal := hValIdeal) (hPre_scales_v := hPre_scales_v)
    ∧ quiescent_ValRefIdeal (hValRefIdeal := hValRefIdeal)
    ∧ quiescent_ValRefIdeal_pre_scales_v (hValRefIdeal := hValRefIdeal) (hPre_scales_v := hPre_scales_v)
    ∧ preserves_Out_OutIdeal
    ∧ algebraic_OutIdeal_OutRefIdeal_pre_scales_out (hOutIdeal := hOutIdeal) (hOutRefIdeal := hOutRefIdeal) (hPre_scales_out := hPre_scales_out)
    ∧ preserves_Gate_GateIdeal
    ∧ algebraic_GateIdeal_GateRefIdeal_pre_scales_gate (hGateIdeal := hGateIdeal) (hGateRefIdeal := hGateRefIdeal) (hPre_scales_gate := hPre_scales_gate)
    ∧ preserves_Qk_QkIdeal
    ∧ algebraic_QkIdeal_QkRefIdeal_pre_scales_qk (hQkIdeal := hQkIdeal) (hQkRefIdeal := hQkRefIdeal) (hPre_scales_qk := hPre_scales_qk)
    ∧ preserves_Val_ValIdeal
    ∧ algebraic_ValIdeal_ValRefIdeal_pre_scales_v (hValIdeal := hValIdeal) (hValRefIdeal := hValRefIdeal) (hPre_scales_v := hPre_scales_v)
-- ==== Pre_scales_gate.lean ====
abbrev S6x1536x3072 : Shape := ⟨3, ![6, 1536, 3072]⟩
abbrev S2560x3072 : Shape := ⟨2, ![2560, 3072]⟩
abbrev S2560x96 : Shape := ⟨2, ![2560, 96]⟩
abbrev S_ : Shape := ⟨0, ![]⟩

class Facts : Prop where
  bcast_S_S2560x96 : S_.BroadcastsInDim S2560x96 (![] : Fin 0 → Fin S2560x96.rank)
  reducesTo_S2560x96_S_d0_1 : S2560x96.ReducesTo [0, 1] S_
  h_S_ : 0 < S_.numel

variable [Facts]

def fn {F : FTy → Type} [FloatOps F] (main_arg0 : FVec F S6x1536x3072 .bf16) (main_arg1 : FVec F S2560x3072 .fp8e4m3) (main_arg2 : IVec S2560x96 8) : IVec S_ 1 :=
  let main_c : IVec S_ 8 := constantI S_ 8 1#8
  let main_v0 : IVec S2560x96 8 := broadcastInDim S2560x96 ![] bcast_S_S2560x96 main_c
  let main_v1 : IVec S2560x96 1 := cmpi .uge main_arg2 main_v0
  let main_c_0 : IVec S_ 8 := constantI S_ 8 254#8
  let main_v2 : IVec S2560x96 8 := broadcastInDim S2560x96 ![] bcast_S_S2560x96 main_c_0
  let main_v3 : IVec S2560x96 1 := cmpi .ule main_arg2 main_v2
  let main_v4 : IVec S2560x96 1 := andi main_v1 main_v3
  let main_c_1 : IVec S_ 1 := constantI S_ 1 1#1
  let main_v5 : IVec S_ 1 := (fun x v => Host.reduce IntOp.andi x v reducesTo_S2560x96_S_d0_1 h_S_) main_v4 main_c_1
  main_v5
-- ==== Pre_scales_out.lean ====
abbrev S6x1536x2560 : Shape := ⟨3, ![6, 1536, 2560]⟩
abbrev S3072x2560 : Shape := ⟨2, ![3072, 2560]⟩
abbrev S3072x80 : Shape := ⟨2, ![3072, 80]⟩
abbrev S_ : Shape := ⟨0, ![]⟩

class Facts : Prop where
  bcast_S_S3072x80 : S_.BroadcastsInDim S3072x80 (![] : Fin 0 → Fin S3072x80.rank)
  reducesTo_S3072x80_S_d0_1 : S3072x80.ReducesTo [0, 1] S_
  h_S_ : 0 < S_.numel

variable [Facts]

def fn {F : FTy → Type} [FloatOps F] (main_arg0 : FVec F S6x1536x2560 .bf16) (main_arg1 : FVec F S3072x2560 .fp8e4m3) (main_arg2 : IVec S3072x80 8) : IVec S_ 1 :=
  let main_c : IVec S_ 8 := constantI S_ 8 1#8
  let main_v0 : IVec S3072x80 8 := broadcastInDim S3072x80 ![] bcast_S_S3072x80 main_c
  let main_v1 : IVec S3072x80 1 := cmpi .uge main_arg2 main_v0
  let main_c_0 : IVec S_ 8 := constantI S_ 8 254#8
  let main_v2 : IVec S3072x80 8 := broadcastInDim S3072x80 ![] bcast_S_S3072x80 main_c_0
  let main_v3 : IVec S3072x80 1 := cmpi .ule main_arg2 main_v2
  let main_v4 : IVec S3072x80 1 := andi main_v1 main_v3
  let main_c_1 : IVec S_ 1 := constantI S_ 1 1#1
  let main_v5 : IVec S_ 1 := (fun x v => Host.reduce IntOp.andi x v reducesTo_S3072x80_S_d0_1 h_S_) main_v4 main_c_1
  main_v5
-- ==== Pre_scales_qk.lean ====
abbrev S6x1536x3072 : Shape := ⟨3, ![6, 1536, 3072]⟩
abbrev S2048x3072 : Shape := ⟨2, ![2048, 3072]⟩
abbrev S2048x96 : Shape := ⟨2, ![2048, 96]⟩
abbrev S2048x4 : Shape := ⟨2, ![2048, 4]⟩
abbrev S_ : Shape := ⟨0, ![]⟩

class Facts : Prop where
  bcast_S_S2048x96 : S_.BroadcastsInDim S2048x96 (![] : Fin 0 → Fin S2048x96.rank)
  reducesTo_S2048x96_S_d0_1 : S2048x96.ReducesTo [0, 1] S_
  h_S_ : 0 < S_.numel

variable [Facts]

def fn {F : FTy → Type} [FloatOps F] (main_arg0 : FVec F S6x1536x3072 .bf16) (main_arg1 : FVec F S2048x3072 .fp8e4m3) (main_arg2 : IVec S2048x96 8) (main_arg3 : FVec F S2048x4 .f32) : IVec S_ 1 :=
  let main_c : IVec S_ 8 := constantI S_ 8 1#8
  let main_v0 : IVec S2048x96 8 := broadcastInDim S2048x96 ![] bcast_S_S2048x96 main_c
  let main_v1 : IVec S2048x96 1 := cmpi .uge main_arg2 main_v0
  let main_c_0 : IVec S_ 8 := constantI S_ 8 254#8
  let main_v2 : IVec S2048x96 8 := broadcastInDim S2048x96 ![] bcast_S_S2048x96 main_c_0
  let main_v3 : IVec S2048x96 1 := cmpi .ule main_arg2 main_v2
  let main_v4 : IVec S2048x96 1 := andi main_v1 main_v3
  let main_c_1 : IVec S_ 1 := constantI S_ 1 1#1
  let main_v5 : IVec S_ 1 := (fun x v => Host.reduce IntOp.andi x v reducesTo_S2048x96_S_d0_1 h_S_) main_v4 main_c_1
  main_v5
-- ==== Pre_scales_v.lean ====
abbrev S6x1536x3072 : Shape := ⟨3, ![6, 1536, 3072]⟩
abbrev S2560x3072 : Shape := ⟨2, ![2560, 3072]⟩
abbrev S2560x96 : Shape := ⟨2, ![2560, 96]⟩
abbrev S2560x4 : Shape := ⟨2, ![2560, 4]⟩
abbrev S_ : Shape := ⟨0, ![]⟩

class Facts : Prop where
  bcast_S_S2560x96 : S_.BroadcastsInDim S2560x96 (![] : Fin 0 → Fin S2560x96.rank)
  reducesTo_S2560x96_S_d0_1 : S2560x96.ReducesTo [0, 1] S_
  h_S_ : 0 < S_.numel

variable [Facts]

def fn {F : FTy → Type} [FloatOps F] (main_arg0 : FVec F S6x1536x3072 .bf16) (main_arg1 : FVec F S2560x3072 .fp8e4m3) (main_arg2 : IVec S2560x96 8) (main_arg3 : FVec F S2560x4 .f32) : IVec S_ 1 :=
  let main_c : IVec S_ 8 := constantI S_ 8 1#8
  let main_v0 : IVec S2560x96 8 := broadcastInDim S2560x96 ![] bcast_S_S2560x96 main_c
  let main_v1 : IVec S2560x96 1 := cmpi .uge main_arg2 main_v0
  let main_c_0 : IVec S_ 8 := constantI S_ 8 254#8
  let main_v2 : IVec S2560x96 8 := broadcastInDim S2560x96 ![] bcast_S_S2560x96 main_c_0
  let main_v3 : IVec S2560x96 1 := cmpi .ule main_arg2 main_v2
  let main_v4 : IVec S2560x96 1 := andi main_v1 main_v3
  let main_c_1 : IVec S_ 1 := constantI S_ 1 1#1
  let main_v5 : IVec S_ 1 := (fun x v => Host.reduce IntOp.andi x v reducesTo_S2560x96_S_d0_1 h_S_) main_v4 main_c_1
  main_v5
-- ==== Out.lean ====
abbrev S6x1536x2560 : Shape := ⟨3, ![6, 1536, 2560]⟩
abbrev S3072x2560 : Shape := ⟨2, ![3072, 2560]⟩
abbrev S3072x80 : Shape := ⟨2, ![3072, 80]⟩
abbrev S6x1536x3072 : Shape := ⟨3, ![6, 1536, 3072]⟩
abbrev S1x1536x2560 : Shape := ⟨3, ![1, 1536, 2560]⟩
abbrev S1024x2560 : Shape := ⟨2, ![1024, 2560]⟩
abbrev S1024x80 : Shape := ⟨2, ![1024, 80]⟩
abbrev S1x1536x1024 : Shape := ⟨3, ![1, 1536, 1024]⟩
abbrev S128x80 : Shape := ⟨2, ![128, 80]⟩
abbrev S128x48 : Shape := ⟨2, ![128, 48]⟩
abbrev S128x128 : Shape := ⟨2, ![128, 128]⟩
abbrev S128x128x1 : Shape := ⟨3, ![128, 128, 1]⟩
abbrev S1x256x2560 : Shape := ⟨3, ![1, 256, 2560]⟩
abbrev S256x2560 : Shape := ⟨2, ![256, 2560]⟩
abbrev S256x1024 : Shape := ⟨2, ![256, 1024]⟩
abbrev S1x256x1024 : Shape := ⟨3, ![1, 256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S6x1536x2560, .bf16⟩
  | .hbm, ⟨1, _⟩ => ⟨S3072x2560, .fp8e4m3⟩
  | .hbm, ⟨2, _⟩ => ⟨S3072x80, .i8⟩
  | .hbm, ⟨3, _⟩ => ⟨S6x1536x3072, .bf16⟩
  | .local _ .vmem, ⟨0, _⟩ => ⟨S1x1536x2560, .bf16⟩
  | .local _ .vmem, ⟨1, _⟩ => ⟨S1x1536x2560, .bf16⟩
  | .local _ .vmem, ⟨2, _⟩ => ⟨S1024x2560, .fp8e4m3⟩
  | .local _ .vmem, ⟨3, _⟩ => ⟨S1024x2560, .fp8e4m3⟩
  | .local _ .vmem, ⟨4, _⟩ => ⟨S1024x80, .i8⟩
  | .local _ .vmem, ⟨5, _⟩ => ⟨S1024x80, .i8⟩
  | .local _ .vmem, ⟨6, _⟩ => ⟨S1x1536x1024, .bf16⟩
  | .local _ .vmem, ⟨7, _⟩ => ⟨S1x1536x1024, .bf16⟩
  | .local _ .vmem, ⟨8, _⟩ => ⟨S1024x2560, .bf16⟩
  | _, _ => ⟨S6x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_48 : BitVec 32 := 0#32
  let c8_i32 : BitVec 32 := 8#32
  let v51 : BitVec 32 := Scalar.addi c0_i32_48 c8_i32
  let c1_i32 : BitVec 32 := 1#32
  ⟨c0_i32_48, v51, c1_i32⟩
def k0_off1 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v55 : Index := Scalar.indexCast v54
  let c0_52 : Index := 0#32
  ![v55.toNat, 0]
def k0_off2 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v98 : Index := Scalar.indexCast v54
  let c0_63 : Index := 0#32
  ![v98.toNat, 0]
def k0_off3 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v144 : Index := Scalar.indexCast v54
  let c128 : Index := 128#32
  ![v144.toNat, 128]
def k0_off4 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v190 : Index := Scalar.indexCast v54
  let c256_87 : Index := 256#32
  ![v190.toNat, 256]
def k0_off5 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v236 : Index := Scalar.indexCast v54
  let c384 : Index := 384#32
  ![v236.toNat, 384]
def k0_off6 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v282 : Index := Scalar.indexCast v54
  let c512_110 : Index := 512#32
  ![v282.toNat, 512]
def k0_off7 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v328 : Index := Scalar.indexCast v54
  let c640 : Index := 640#32
  ![v328.toNat, 640]
def k0_off8 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v374 : Index := Scalar.indexCast v54
  let c768_133 : Index := 768#32
  ![v374.toNat, 768]
def k0_off9 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v420 : Index := Scalar.indexCast v54
  let c896 : Index := 896#32
  ![v420.toNat, 896]
def k0_off10 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v466 : Index := Scalar.indexCast v54
  let c1024_157 : Index := 1024#32
  ![v466.toNat, 1024]
def k0_off11 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v512 : Index := Scalar.indexCast v54
  let c1152 : Index := 1152#32
  ![v512.toNat, 1152]
def k0_off12 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v558 : Index := Scalar.indexCast v54
  let c1280_180 : Index := 1280#32
  ![v558.toNat, 1280]
def k0_off13 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v604 : Index := Scalar.indexCast v54
  let c1408 : Index := 1408#32
  ![v604.toNat, 1408]
def k0_off14 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v650 : Index := Scalar.indexCast v54
  let c1536 : Index := 1536#32
  ![v650.toNat, 1536]
def k0_off15 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v696 : Index := Scalar.indexCast v54
  let c1664 : Index := 1664#32
  ![v696.toNat, 1664]
def k0_off16 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v742 : Index := Scalar.indexCast v54
  let c1792 : Index := 1792#32
  ![v742.toNat, 1792]
def k0_off17 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v788 : Index := Scalar.indexCast v54
  let c1920 : Index := 1920#32
  ![v788.toNat, 1920]
def k0_off18 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v834 : Index := Scalar.indexCast v54
  let c2048 : Index := 2048#32
  ![v834.toNat, 2048]
def k0_off19 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v880 : Index := Scalar.indexCast v54
  let c2176 : Index := 2176#32
  ![v880.toNat, 2176]
def k0_off20 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v926 : Index := Scalar.indexCast v54
  let c2304 : Index := 2304#32
  ![v926.toNat, 2304]
def k0_off21 (k0_t1 : Fin k0_t1_loop.trips) : Fin 2 → Nat :=
  let c0_i32_51 : BitVec 32 := 0#32
  let c0_i32_48 : BitVec 32 := 0#32
  let c1_i32 : BitVec 32 := 1#32
  let arg7 : BitVec 32 := Scf.iv c0_i32_48 c1_i32 k0_t1
  let c1_i32_50 : BitVec 32 := 1#32
  let v52 : BitVec 32 := Scalar.muli arg7 c1_i32_50
  let v53 : BitVec 32 := Scalar.addi c0_i32_51 v52
  let c128_i32 : BitVec 32 := 128#32
  let v54 : BitVec 32 := Scalar.muli v53 c128_i32
  let v972 : Index := Scalar.indexCast v54
  let c2432 : Index := 2432#32
  ![v972.toNat, 2432]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1536x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x80 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S6x1536x2560 : Shape := ⟨3, ![6, 1536, 2560]⟩
abbrev S3072x2560 : Shape := ⟨2, ![3072, 2560]⟩
abbrev S3072x80 : Shape := ⟨2, ![3072, 80]⟩
abbrev S6x1536x3072 : Shape := ⟨3, ![6, 1536, 3072]⟩
abbrev S3072x80x32 : Shape := ⟨3, ![3072, 80, 32]⟩
abbrev S3072x80x1 : Shape := ⟨3, ![3072, 80, 1]⟩
abbrev S9216x2560 : Shape := ⟨2, ![9216, 2560]⟩
abbrev S9216x3072 : Shape := ⟨2, ![9216, 3072]⟩

abbrev nBuf : Space → Nat
  | .hbm => 4
  | .vmem => 4
  | .smem => 0
  | _ => 0

abbrev bufTy : (tb : Table) → Fin (tcTables nBuf tb) → BufTy
  | .hbm, ⟨0, _⟩ => ⟨S6x1536x2560, .bf16⟩
  | .hbm, ⟨1, _⟩ => ⟨S3072x2560, .fp8e4m3⟩
  | .hbm, ⟨2, _⟩ => ⟨S3072x80, .i8⟩
  | .hbm, ⟨3, _⟩ => ⟨S6x1536x3072, .bf16⟩
  | .local _ .vmem, ⟨0, _⟩ => ⟨S6x1536x2560, .bf16⟩
  | .local _ .vmem, ⟨1, _⟩ => ⟨S3072x2560, .fp8e4m3⟩
  | .local _ .vmem, ⟨2, _⟩ => ⟨S3072x80, .i8⟩
  | .local _ .vmem, ⟨3, _⟩ => ⟨S6x1536x3072, .bf16⟩
  | _, _ => ⟨S6x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x80 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gate.lean ====
abbrev S6x1536x3072 : Shape := ⟨3, ![6, 1536, 3072]⟩
abbrev S2560x3072 : Shape := ⟨2, ![2560, 3072]⟩
abbrev S2560x96 : Shape := ⟨2, ![2560, 96]⟩
abbrev S6x8x1536x320 : Shape := ⟨4, ![6, 8, 1536, 320]⟩
abbrev S1x1536x3072 : Shape := ⟨3, ![1, 1536, 3072]⟩
abbrev S1280x3072 : Shape := ⟨2, ![1280, 3072]⟩
abbrev S1280x96 : Shape := ⟨2, ![1280, 96]⟩
abbrev S1x4x1536x320 : Shape := ⟨4, ![1, 4, 1536, 320]⟩
abbrev S128x96 : Shape := ⟨2, ![128, 96]⟩
abbrev S128x32 : Shape := ⟨2, ![128, 32]⟩
abbrev S128x128 : Shape := ⟨2, ![128, 128]⟩
abbrev S128x128x1 : Shape := ⟨3, ![128, 128, 1]⟩
abbrev S1x256x3072 : Shape := ⟨3, ![1, 256, 3072]⟩
abbrev S256x3072 : Shape := ⟨2, ![256, 3072]⟩
abbrev S256x1280 : Shape := ⟨2, ![256, 1280]⟩
abbrev S256x320 : Shape := ⟨2, ![256, 320]⟩
abbrev S1x1x256x320 : Shape := ⟨4, ![1, 1, 256, 320]⟩

abbrev nBuf : Space → Nat
  | .hbm => 4
  | .vmem => 9
  | .smem => 0
  | _ => 0

abbrev bufTy : (tb : Table) → Fin (tcTables nBuf tb) → BufTy
  | .hbm, ⟨0, _⟩ => ⟨S6x1536x3072, .bf16⟩
  | .hbm, ⟨1, _⟩ => ⟨S2560x3072, .fp8e4m3⟩
  | .hbm, ⟨2, _⟩ => ⟨S2560x96, .i8⟩
  | .hbm, ⟨3, _⟩ => ⟨S6x8x1536x320, .bf16⟩
  | .local _ .vmem, ⟨0, _⟩ => ⟨S1x1536x3072, .bf16⟩
  | .local _ .vmem, ⟨1, _⟩ => ⟨S1x1536x3072, .bf16⟩
  | .local _ .vmem, ⟨2, _⟩ => ⟨S1280x3072, .fp8e4m3⟩
  | .local _ .vmem, ⟨3, _⟩ => ⟨S1280x3072, .fp8e4m3⟩
  | .local _ .vmem, ⟨4, _⟩ => ⟨S1280x96, .i8⟩
  | .local _ .vmem, ⟨5, _⟩ => ⟨S1280x96, .i8⟩
  | .local _ .vmem, ⟨6, _⟩ => ⟨S1x4x1536x320, .bf16⟩
  | .local _ .vmem, ⟨7, _⟩ => ⟨S1x4x1536x320, .bf16⟩
  | .local _ .vmem, ⟨8, _⟩ => ⟨S1280x3072, .bf16⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_123 : BitVec 32 := 0#32
  let c10_i32 : BitVec 32 := 10#32
  let v129 : BitVec 32 := Scalar.addi c0_i32_123 c10_i32
  let c1_i32 : BitVec 32 := 1#32
  ⟨c0_i32_123, v129, c1_i32⟩
def k0_off1 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v133 : Index := Scalar.indexCast v132
  let c0_127 : Index := 0#32
  ![v133.toNat, 0]
def k0_off2 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v176 : Index := Scalar.indexCast v132
  let c0_138 : Index := 0#32
  ![v176.toNat, 0]
def k0_off3 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v222 : Index := Scalar.indexCast v132
  let c128 : Index := 128#32
  ![v222.toNat, 128]
def k0_off4 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v268 : Index := Scalar.indexCast v132
  let c256_161 : Index := 256#32
  ![v268.toNat, 256]
def k0_off5 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v314 : Index := Scalar.indexCast v132
  let c384 : Index := 384#32
  ![v314.toNat, 384]
def k0_off6 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v360 : Index := Scalar.indexCast v132
  let c512_184 : Index := 512#32
  ![v360.toNat, 512]
def k0_off7 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v406 : Index := Scalar.indexCast v132
  let c640 : Index := 640#32
  ![v406.toNat, 640]
def k0_off8 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v452 : Index := Scalar.indexCast v132
  let c768_207 : Index := 768#32
  ![v452.toNat, 768]
def k0_off9 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v498 : Index := Scalar.indexCast v132
  let c896 : Index := 896#32
  ![v498.toNat, 896]
def k0_off10 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v544 : Index := Scalar.indexCast v132
  let c1024_231 : Index := 1024#32
  ![v544.toNat, 1024]
def k0_off11 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v590 : Index := Scalar.indexCast v132
  let c1152 : Index := 1152#32
  ![v590.toNat, 1152]
def k0_off12 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v636 : Index := Scalar.indexCast v132
  let c1280_254 : Index := 1280#32
  ![v636.toNat, 1280]
def k0_off13 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v682 : Index := Scalar.indexCast v132
  let c1408 : Index := 1408#32
  ![v682.toNat, 1408]
def k0_off14 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v728 : Index := Scalar.indexCast v132
  let c1536 : Index := 1536#32
  ![v728.toNat, 1536]
def k0_off15 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v774 : Index := Scalar.indexCast v132
  let c1664 : Index := 1664#32
  ![v774.toNat, 1664]
def k0_off16 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v820 : Index := Scalar.indexCast v132
  let c1792 : Index := 1792#32
  ![v820.toNat, 1792]
def k0_off17 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v866 : Index := Scalar.indexCast v132
  let c1920 : Index := 1920#32
  ![v866.toNat, 1920]
def k0_off18 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v912 : Index := Scalar.indexCast v132
  let c2048 : Index := 2048#32
  ![v912.toNat, 2048]
def k0_off19 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v958 : Index := Scalar.indexCast v132
  let c2176 : Index := 2176#32
  ![v958.toNat, 2176]
def k0_off20 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1004 : Index := Scalar.indexCast v132
  let c2304 : Index := 2304#32
  ![v1004.toNat, 2304]
def k0_off21 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1050 : Index := Scalar.indexCast v132
  let c2432 : Index := 2432#32
  ![v1050.toNat, 2432]
def k0_off22 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1096 : Index := Scalar.indexCast v132
  let c2560 : Index := 2560#32
  ![v1096.toNat, 2560]
def k0_off23 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1142 : Index := Scalar.indexCast v132
  let c2688 : Index := 2688#32
  ![v1142.toNat, 2688]
def k0_off24 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1188 : Index := Scalar.indexCast v132
  let c2816 : Index := 2816#32
  ![v1188.toNat, 2816]
def k0_off25 (k0_t1 : Fin k0_t1_loop.trips) : Fin 2 → Nat :=
  let c0_i32_126 : BitVec 32 := 0#32
  let c0_i32_123 : BitVec 32 := 0#32
  let c1_i32 : BitVec 32 := 1#32
  let arg7 : BitVec 32 := Scf.iv c0_i32_123 c1_i32 k0_t1
  let c1_i32_125 : BitVec 32 := 1#32
  let v130 : BitVec 32 := Scalar.muli arg7 c1_i32_125
  let v131 : BitVec 32 := Scalar.addi c0_i32_126 v130
  let c128_i32 : BitVec 32 := 128#32
  let v132 : BitVec 32 := Scalar.muli v131 c128_i32
  let v1234 : Index := Scalar.indexCast v132
  let c2944 : Index := 2944#32
  ![v1234.toNat, 2944]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1536x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x96 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1536x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S6x1536x3072 : Shape := ⟨3, ![6, 1536, 3072]⟩
abbrev S2560x3072 : Shape := ⟨2, ![2560, 3072]⟩
abbrev S2560x96 : Shape := ⟨2, ![2560, 96]⟩
abbrev S6x8x1536x320 : Shape := ⟨4, ![6, 8, 1536, 320]⟩
abbrev S2560x96x32 : Shape := ⟨3, ![2560, 96, 32]⟩
abbrev S2560x96x1 : Shape := ⟨3, ![2560, 96, 1]⟩
abbrev S9216x3072 : Shape := ⟨2, ![9216, 3072]⟩
abbrev S9216x2560 : Shape := ⟨2, ![9216, 2560]⟩
abbrev S6x1536x2560 : Shape := ⟨3, ![6, 1536, 2560]⟩
abbrev S6x1536x8x320 : Shape := ⟨4, ![6, 1536, 8, 320]⟩

abbrev nBuf : Space → Nat
  | .hbm => 4
  | .vmem => 4
  | .smem => 0
  | _ => 0

abbrev bufTy : (tb : Table) → Fin (tcTables nBuf tb) → BufTy
  | .hbm, ⟨0, _⟩ => ⟨S6x1536x3072, .bf16⟩
  | .hbm, ⟨1, _⟩ => ⟨S2560x3072, .fp8e4m3⟩
  | .hbm, ⟨2, _⟩ => ⟨S2560x96, .i8⟩
  | .hbm, ⟨3, _⟩ => ⟨S6x8x1536x320, .bf16⟩
  | .local _ .vmem, ⟨0, _⟩ => ⟨S6x1536x3072, .bf16⟩
  | .local _ .vmem, ⟨1, _⟩ => ⟨S2560x3072, .fp8e4m3⟩
  | .local _ .vmem, ⟨2, _⟩ => ⟨S2560x96, .i8⟩
  | .local _ .vmem, ⟨3, _⟩ => ⟨S6x8x1536x320, .bf16⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x8x1536x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qk.lean ====
abbrev S6x1536x3072 : Shape := ⟨3, ![6, 1536, 3072]⟩
abbrev S2048x3072 : Shape := ⟨2, ![2048, 3072]⟩
abbrev S2048x96 : Shape := ⟨2, ![2048, 96]⟩
abbrev S2048x4 : Shape := ⟨2, ![2048, 4]⟩
abbrev S4x2048 : Shape := ⟨2, ![4, 2048]⟩
abbrev S6x1536x2048 : Shape := ⟨3, ![6, 1536, 2048]⟩
abbrev S6x3x2048 : Shape := ⟨3, ![6, 3, 2048]⟩
abbrev S1x1536x3072 : Shape := ⟨3, ![1, 1536, 3072]⟩
abbrev S1024x3072 : Shape := ⟨2, ![1024, 3072]⟩
abbrev S1024x96 : Shape := ⟨2, ![1024, 96]⟩
abbrev S4x1024 : Shape := ⟨2, ![4, 1024]⟩
abbrev S1x1536x1024 : Shape := ⟨3, ![1, 1536, 1024]⟩
abbrev S1x3x1024 : Shape := ⟨3, ![1, 3, 1024]⟩
abbrev S1544x1024 : Shape := ⟨2, ![1544, 1024]⟩
abbrev S128x96 : Shape := ⟨2, ![128, 96]⟩
abbrev S128x32 : Shape := ⟨2, ![128, 32]⟩
abbrev S128x128 : Shape := ⟨2, ![128, 128]⟩
abbrev S128x128x1 : Shape := ⟨3, ![128, 128, 1]⟩
abbrev S8x1024 : Shape := ⟨2, ![8, 1024]⟩
abbrev S1x256x3072 : Shape := ⟨3, ![1, 256, 3072]⟩
abbrev S256x3072 : Shape := ⟨2, ![256, 3072]⟩
abbrev S256x1024 : Shape := ⟨2, ![256, 1024]⟩
abbrev S1x1024 : Shape := ⟨2, ![1, 1024]⟩
abbrev S1x256x1024 : Shape := ⟨3, ![1, 256, 1024]⟩
abbrev S3x1024 : Shape := ⟨2, ![3, 1024]⟩

abbrev nBuf : Space → Nat
  | .hbm => 7
  | .vmem => 14
  | .smem => 0
  | _ => 0

abbrev bufTy : (tb : Table) → Fin (tcTables nBuf tb) → BufTy
  | .hbm, ⟨0, _⟩ => ⟨S6x1536x3072, .bf16⟩
  | .hbm, ⟨1, _⟩ => ⟨S2048x3072, .fp8e4m3⟩
  | .hbm, ⟨2, _⟩ => ⟨S2048x96, .i8⟩
  | .hbm, ⟨3, _⟩ => ⟨S2048x4, .f32⟩
  | .hbm, ⟨4, _⟩ => ⟨S4x2048, .f32⟩
  | .hbm, ⟨5, _⟩ => ⟨S6x1536x2048, .bf16⟩
  | .hbm, ⟨6, _⟩ => ⟨S6x3x2048, .bf16⟩
  | .local _ .vmem, ⟨0, _⟩ => ⟨S1x1536x3072, .bf16⟩
  | .local _ .vmem, ⟨1, _⟩ => ⟨S1x1536x3072, .bf16⟩
  | .local _ .vmem, ⟨2, _⟩ => ⟨S1024x3072, .fp8e4m3⟩
  | .local _ .vmem, ⟨3, _⟩ => ⟨S1024x3072, .fp8e4m3⟩
  | .local _ .vmem, ⟨4, _⟩ => ⟨S1024x96, .i8⟩
  | .local _ .vmem, ⟨5, _⟩ => ⟨S1024x96, .i8⟩
  | .local _ .vmem, ⟨6, _⟩ => ⟨S4x1024, .f32⟩
  | .local _ .vmem, ⟨7, _⟩ => ⟨S4x1024, .f32⟩
  | .local _ .vmem, ⟨8, _⟩ => ⟨S1x1536x1024, .bf16⟩
  | .local _ .vmem, ⟨9, _⟩ => ⟨S1x1536x1024, .bf16⟩
  | .local _ .vmem, ⟨10, _⟩ => ⟨S1x3x1024, .bf16⟩
  | .local _ .vmem, ⟨11, _⟩ => ⟨S1x3x1024, .bf16⟩
  | .local _ .vmem, ⟨12, _⟩ => ⟨S1024x3072, .bf16⟩
  | .local _ .vmem, ⟨13, _⟩ => ⟨S1544x1024, .f32⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_135 : BitVec 32 := 0#32
  let c8_i32 : BitVec 32 := 8#32
  let v239 : BitVec 32 := Scalar.addi c0_i32_135 c8_i32
  let c1_i32 : BitVec 32 := 1#32
  ⟨c0_i32_135, v239, c1_i32⟩
def k0_off1 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v243 : Index := Scalar.indexCast v242
  let c0_139 : Index := 0#32
  ![v243.toNat, 0]
def k0_off2 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v286 : Index := Scalar.indexCast v242
  let c0_150 : Index := 0#32
  ![v286.toNat, 0]
def k0_off3 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v332 : Index := Scalar.indexCast v242
  let c128 : Index := 128#32
  ![v332.toNat, 128]
def k0_off4 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v378 : Index := Scalar.indexCast v242
  let c256_174 : Index := 256#32
  ![v378.toNat, 256]
def k0_off5 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v424 : Index := Scalar.indexCast v242
  let c384 : Index := 384#32
  ![v424.toNat, 384]
def k0_off6 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v470 : Index := Scalar.indexCast v242
  let c512_197 : Index := 512#32
  ![v470.toNat, 512]
def k0_off7 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v516 : Index := Scalar.indexCast v242
  let c640 : Index := 640#32
  ![v516.toNat, 640]
def k0_off8 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v562 : Index := Scalar.indexCast v242
  let c768_220 : Index := 768#32
  ![v562.toNat, 768]
def k0_off9 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v608 : Index := Scalar.indexCast v242
  let c896 : Index := 896#32
  ![v608.toNat, 896]
def k0_off10 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v654 : Index := Scalar.indexCast v242
  let c1024_244 : Index := 1024#32
  ![v654.toNat, 1024]
def k0_off11 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v700 : Index := Scalar.indexCast v242
  let c1152 : Index := 1152#32
  ![v700.toNat, 1152]
def k0_off12 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v746 : Index := Scalar.indexCast v242
  let c1280_267 : Index := 1280#32
  ![v746.toNat, 1280]
def k0_off13 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v792 : Index := Scalar.indexCast v242
  let c1408 : Index := 1408#32
  ![v792.toNat, 1408]
def k0_off14 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v838 : Index := Scalar.indexCast v242
  let c1536 : Index := 1536#32
  ![v838.toNat, 1536]
def k0_off15 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v884 : Index := Scalar.indexCast v242
  let c1664 : Index := 1664#32
  ![v884.toNat, 1664]
def k0_off16 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v930 : Index := Scalar.indexCast v242
  let c1792 : Index := 1792#32
  ![v930.toNat, 1792]
def k0_off17 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v976 : Index := Scalar.indexCast v242
  let c1920 : Index := 1920#32
  ![v976.toNat, 1920]
def k0_off18 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1022 : Index := Scalar.indexCast v242
  let c2048 : Index := 2048#32
  ![v1022.toNat, 2048]
def k0_off19 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1068 : Index := Scalar.indexCast v242
  let c2176 : Index := 2176#32
  ![v1068.toNat, 2176]
def k0_off20 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1114 : Index := Scalar.indexCast v242
  let c2304 : Index := 2304#32
  ![v1114.toNat, 2304]
def k0_off21 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1160 : Index := Scalar.indexCast v242
  let c2432 : Index := 2432#32
  ![v1160.toNat, 2432]
def k0_off22 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1206 : Index := Scalar.indexCast v242
  let c2560 : Index := 2560#32
  ![v1206.toNat, 2560]
def k0_off23 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1252 : Index := Scalar.indexCast v242
  let c2688 : Index := 2688#32
  ![v1252.toNat, 2688]
def k0_off24 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1298 : Index := Scalar.indexCast v242
  let c2816 : Index := 2816#32
  ![v1298.toNat, 2816]
def k0_off25 (k0_t1 : Fin k0_t1_loop.trips) : Fin 2 → Nat :=
  let c0_i32_138 : BitVec 32 := 0#32
  let c0_i32_135 : BitVec 32 := 0#32
  let c1_i32 : BitVec 32 := 1#32
  let arg10 : BitVec 32 := Scf.iv c0_i32_135 c1_i32 k0_t1
  let c1_i32_137 : BitVec 32 := 1#32
  let v240 : BitVec 32 := Scalar.muli arg10 c1_i32_137
  let v241 : BitVec 32 := Scalar.addi c0_i32_138 v240
  let c128_i32 : BitVec 32 := 128#32
  let v242 : BitVec 32 := Scalar.muli v241 c128_i32
  let v1344 : Index := Scalar.indexCast v242
  let c2944 : Index := 2944#32
  ![v1344.toNat, 2944]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1536x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x96 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkRefIdeal.lean ====
abbrev S6x1536x3072 : Shape := ⟨3, ![6, 1536, 3072]⟩
abbrev S2048x3072 : Shape := ⟨2, ![2048, 3072]⟩
abbrev S2048x96 : Shape := ⟨2, ![2048, 96]⟩
abbrev S2048x4 : Shape := ⟨2, ![2048, 4]⟩
abbrev S4x2048 : Shape := ⟨2, ![4, 2048]⟩
abbrev S6x1536x2048 : Shape := ⟨3, ![6, 1536, 2048]⟩
abbrev S6x3x2048 : Shape := ⟨3, ![6, 3, 2048]⟩
abbrev S2048x96x32 : Shape := ⟨3, ![2048, 96, 32]⟩
abbrev S2048x96x1 : Shape := ⟨3, ![2048, 96, 1]⟩
abbrev S9216x3072 : Shape := ⟨2, ![9216, 3072]⟩
abbrev S9216x2048 : Shape := ⟨2, ![9216, 2048]⟩
abbrev S6x1539x2048 : Shape := ⟨3, ![6, 1539, 2048]⟩
abbrev S1x2048 : Shape := ⟨2, ![1, 2048]⟩
abbrev S1x1x2048 : Shape := ⟨3, ![1, 1, 2048]⟩

abbrev nBuf : Space → Nat
  | .hbm => 7
  | .vmem => 6
  | .smem => 0
  | _ => 0

abbrev bufTy : (tb : Table) → Fin (tcTables nBuf tb) → BufTy
  | .hbm, ⟨0, _⟩ => ⟨S6x1536x3072, .bf16⟩
  | .hbm, ⟨1, _⟩ => ⟨S2048x3072, .fp8e4m3⟩
  | .hbm, ⟨2, _⟩ => ⟨S2048x96, .i8⟩
  | .hbm, ⟨3, _⟩ => ⟨S2048x4, .f32⟩
  | .hbm, ⟨4, _⟩ => ⟨S4x2048, .f32⟩
  | .hbm, ⟨5, _⟩ => ⟨S6x1536x2048, .bf16⟩
  | .hbm, ⟨6, _⟩ => ⟨S6x3x2048, .bf16⟩
  | .local _ .vmem, ⟨0, _⟩ => ⟨S6x1536x3072, .bf16⟩
  | .local _ .vmem, ⟨1, _⟩ => ⟨S2048x3072, .fp8e4m3⟩
  | .local _ .vmem, ⟨2, _⟩ => ⟨S2048x96, .i8⟩
  | .local _ .vmem, ⟨3, _⟩ => ⟨S4x2048, .f32⟩
  | .local _ .vmem, ⟨4, _⟩ => ⟨S6x1536x2048, .bf16⟩
  | .local _ .vmem, ⟨5, _⟩ => ⟨S6x3x2048, .bf16⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Val.lean ====
abbrev S6x1536x3072 : Shape := ⟨3, ![6, 1536, 3072]⟩
abbrev S2560x3072 : Shape := ⟨2, ![2560, 3072]⟩
abbrev S2560x96 : Shape := ⟨2, ![2560, 96]⟩
abbrev S2560x4 : Shape := ⟨2, ![2560, 4]⟩
abbrev S4x2560 : Shape := ⟨2, ![4, 2560]⟩
abbrev S6x8x1536x320 : Shape := ⟨4, ![6, 8, 1536, 320]⟩
abbrev S6x3x2560 : Shape := ⟨3, ![6, 3, 2560]⟩
abbrev S1x1536x3072 : Shape := ⟨3, ![1, 1536, 3072]⟩
abbrev S1280x3072 : Shape := ⟨2, ![1280, 3072]⟩
abbrev S1280x96 : Shape := ⟨2, ![1280, 96]⟩
abbrev S4x1280 : Shape := ⟨2, ![4, 1280]⟩
abbrev S1x4x1536x320 : Shape := ⟨4, ![1, 4, 1536, 320]⟩
abbrev S1x3x1280 : Shape := ⟨3, ![1, 3, 1280]⟩
abbrev S1544x1280 : Shape := ⟨2, ![1544, 1280]⟩
abbrev S128x96 : Shape := ⟨2, ![128, 96]⟩
abbrev S128x32 : Shape := ⟨2, ![128, 32]⟩
abbrev S128x128 : Shape := ⟨2, ![128, 128]⟩
abbrev S128x128x1 : Shape := ⟨3, ![128, 128, 1]⟩
abbrev S8x1280 : Shape := ⟨2, ![8, 1280]⟩
abbrev S1x256x3072 : Shape := ⟨3, ![1, 256, 3072]⟩
abbrev S256x3072 : Shape := ⟨2, ![256, 3072]⟩
abbrev S256x1280 : Shape := ⟨2, ![256, 1280]⟩
abbrev S1x1280 : Shape := ⟨2, ![1, 1280]⟩
abbrev S256x320 : Shape := ⟨2, ![256, 320]⟩
abbrev S1x1x256x320 : Shape := ⟨4, ![1, 1, 256, 320]⟩
abbrev S3x1280 : Shape := ⟨2, ![3, 1280]⟩

abbrev nBuf : Space → Nat
  | .hbm => 7
  | .vmem => 14
  | .smem => 0
  | _ => 0

abbrev bufTy : (tb : Table) → Fin (tcTables nBuf tb) → BufTy
  | .hbm, ⟨0, _⟩ => ⟨S6x1536x3072, .bf16⟩
  | .hbm, ⟨1, _⟩ => ⟨S2560x3072, .fp8e4m3⟩
  | .hbm, ⟨2, _⟩ => ⟨S2560x96, .i8⟩
  | .hbm, ⟨3, _⟩ => ⟨S2560x4, .f32⟩
  | .hbm, ⟨4, _⟩ => ⟨S4x2560, .f32⟩
  | .hbm, ⟨5, _⟩ => ⟨S6x8x1536x320, .bf16⟩
  | .hbm, ⟨6, _⟩ => ⟨S6x3x2560, .bf16⟩
  | .local _ .vmem, ⟨0, _⟩ => ⟨S1x1536x3072, .bf16⟩
  | .local _ .vmem, ⟨1, _⟩ => ⟨S1x1536x3072, .bf16⟩
  | .local _ .vmem, ⟨2, _⟩ => ⟨S1280x3072, .fp8e4m3⟩
  | .local _ .vmem, ⟨3, _⟩ => ⟨S1280x3072, .fp8e4m3⟩
  | .local _ .vmem, ⟨4, _⟩ => ⟨S1280x96, .i8⟩
  | .local _ .vmem, ⟨5, _⟩ => ⟨S1280x96, .i8⟩
  | .local _ .vmem, ⟨6, _⟩ => ⟨S4x1280, .f32⟩
  | .local _ .vmem, ⟨7, _⟩ => ⟨S4x1280, .f32⟩
  | .local _ .vmem, ⟨8, _⟩ => ⟨S1x4x1536x320, .bf16⟩
  | .local _ .vmem, ⟨9, _⟩ => ⟨S1x4x1536x320, .bf16⟩
  | .local _ .vmem, ⟨10, _⟩ => ⟨S1x3x1280, .bf16⟩
  | .local _ .vmem, ⟨11, _⟩ => ⟨S1x3x1280, .bf16⟩
  | .local _ .vmem, ⟨12, _⟩ => ⟨S1280x3072, .bf16⟩
  | .local _ .vmem, ⟨13, _⟩ => ⟨S1544x1280, .f32⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_213 : BitVec 32 := 0#32
  let c10_i32 : BitVec 32 := 10#32
  let v317 : BitVec 32 := Scalar.addi c0_i32_213 c10_i32
  let c1_i32 : BitVec 32 := 1#32
  ⟨c0_i32_213, v317, c1_i32⟩
def k0_off1 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v321 : Index := Scalar.indexCast v320
  let c0_217 : Index := 0#32
  ![v321.toNat, 0]
def k0_off2 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v364 : Index := Scalar.indexCast v320
  let c0_228 : Index := 0#32
  ![v364.toNat, 0]
def k0_off3 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v410 : Index := Scalar.indexCast v320
  let c128 : Index := 128#32
  ![v410.toNat, 128]
def k0_off4 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v456 : Index := Scalar.indexCast v320
  let c256_251 : Index := 256#32
  ![v456.toNat, 256]
def k0_off5 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v502 : Index := Scalar.indexCast v320
  let c384 : Index := 384#32
  ![v502.toNat, 384]
def k0_off6 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v548 : Index := Scalar.indexCast v320
  let c512_274 : Index := 512#32
  ![v548.toNat, 512]
def k0_off7 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v594 : Index := Scalar.indexCast v320
  let c640 : Index := 640#32
  ![v594.toNat, 640]
def k0_off8 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v640 : Index := Scalar.indexCast v320
  let c768_297 : Index := 768#32
  ![v640.toNat, 768]
def k0_off9 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v686 : Index := Scalar.indexCast v320
  let c896 : Index := 896#32
  ![v686.toNat, 896]
def k0_off10 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v732 : Index := Scalar.indexCast v320
  let c1024_321 : Index := 1024#32
  ![v732.toNat, 1024]
def k0_off11 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v778 : Index := Scalar.indexCast v320
  let c1152 : Index := 1152#32
  ![v778.toNat, 1152]
def k0_off12 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v824 : Index := Scalar.indexCast v320
  let c1280_344 : Index := 1280#32
  ![v824.toNat, 1280]
def k0_off13 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v870 : Index := Scalar.indexCast v320
  let c1408 : Index := 1408#32
  ![v870.toNat, 1408]
def k0_off14 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v916 : Index := Scalar.indexCast v320
  let c1536 : Index := 1536#32
  ![v916.toNat, 1536]
def k0_off15 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v962 : Index := Scalar.indexCast v320
  let c1664 : Index := 1664#32
  ![v962.toNat, 1664]
def k0_off16 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1008 : Index := Scalar.indexCast v320
  let c1792 : Index := 1792#32
  ![v1008.toNat, 1792]
def k0_off17 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1054 : Index := Scalar.indexCast v320
  let c1920 : Index := 1920#32
  ![v1054.toNat, 1920]
def k0_off18 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1100 : Index := Scalar.indexCast v320
  let c2048 : Index := 2048#32
  ![v1100.toNat, 2048]
def k0_off19 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1146 : Index := Scalar.indexCast v320
  let c2176 : Index := 2176#32
  ![v1146.toNat, 2176]
def k0_off20 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1192 : Index := Scalar.indexCast v320
  let c2304 : Index := 2304#32
  ![v1192.toNat, 2304]
def k0_off21 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1238 : Index := Scalar.indexCast v320
  let c2432 : Index := 2432#32
  ![v1238.toNat, 2432]
def k0_off22 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1284 : Index := Scalar.indexCast v320
  let c2560 : Index := 2560#32
  ![v1284.toNat, 2560]
def k0_off23 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1330 : Index := Scalar.indexCast v320
  let c2688 : Index := 2688#32
  ![v1330.toNat, 2688]
def k0_off24 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1376 : Index := Scalar.indexCast v320
  let c2816 : Index := 2816#32
  ![v1376.toNat, 2816]
def k0_off25 (k0_t1 : Fin k0_t1_loop.trips) : Fin 2 → Nat :=
  let c0_i32_216 : BitVec 32 := 0#32
  let c0_i32_213 : BitVec 32 := 0#32
  let c1_i32 : BitVec 32 := 1#32
  let arg10 : BitVec 32 := Scf.iv c0_i32_213 c1_i32 k0_t1
  let c1_i32_215 : BitVec 32 := 1#32
  let v318 : BitVec 32 := Scalar.muli arg10 c1_i32_215
  let v319 : BitVec 32 := Scalar.addi c0_i32_216 v318
  let c128_i32 : BitVec 32 := 128#32
  let v320 : BitVec 32 := Scalar.muli v319 c128_i32
  let v1422 : Index := Scalar.indexCast v320
  let c2944 : Index := 2944#32
  ![v1422.toNat, 2944]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1536x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x96 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1536x320 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ValRefIdeal.lean ====
abbrev S6x1536x3072 : Shape := ⟨3, ![6, 1536, 3072]⟩
abbrev S2560x3072 : Shape := ⟨2, ![2560, 3072]⟩
abbrev S2560x96 : Shape := ⟨2, ![2560, 96]⟩
abbrev S2560x4 : Shape := ⟨2, ![2560, 4]⟩
abbrev S4x2560 : Shape := ⟨2, ![4, 2560]⟩
abbrev S6x8x1536x320 : Shape := ⟨4, ![6, 8, 1536, 320]⟩
abbrev S6x3x2560 : Shape := ⟨3, ![6, 3, 2560]⟩
abbrev S2560x96x32 : Shape := ⟨3, ![2560, 96, 32]⟩
abbrev S2560x96x1 : Shape := ⟨3, ![2560, 96, 1]⟩
abbrev S9216x3072 : Shape := ⟨2, ![9216, 3072]⟩
abbrev S9216x2560 : Shape := ⟨2, ![9216, 2560]⟩
abbrev S6x1536x2560 : Shape := ⟨3, ![6, 1536, 2560]⟩
abbrev S6x1539x2560 : Shape := ⟨3, ![6, 1539, 2560]⟩
abbrev S1x2560 : Shape := ⟨2, ![1, 2560]⟩
abbrev S1x1x2560 : Shape := ⟨3, ![1, 1, 2560]⟩
abbrev S6x1536x8x320 : Shape := ⟨4, ![6, 1536, 8, 320]⟩

abbrev nBuf : Space → Nat
  | .hbm => 7
  | .vmem => 6
  | .smem => 0
  | _ => 0

abbrev bufTy : (tb : Table) → Fin (tcTables nBuf tb) → BufTy
  | .hbm, ⟨0, _⟩ => ⟨S6x1536x3072, .bf16⟩
  | .hbm, ⟨1, _⟩ => ⟨S2560x3072, .fp8e4m3⟩
  | .hbm, ⟨2, _⟩ => ⟨S2560x96, .i8⟩
  | .hbm, ⟨3, _⟩ => ⟨S2560x4, .f32⟩
  | .hbm, ⟨4, _⟩ => ⟨S4x2560, .f32⟩
  | .hbm, ⟨5, _⟩ => ⟨S6x8x1536x320, .bf16⟩
  | .hbm, ⟨6, _⟩ => ⟨S6x3x2560, .bf16⟩
  | .local _ .vmem, ⟨0, _⟩ => ⟨S6x1536x3072, .bf16⟩
  | .local _ .vmem, ⟨1, _⟩ => ⟨S2560x3072, .fp8e4m3⟩
  | .local _ .vmem, ⟨2, _⟩ => ⟨S2560x96, .i8⟩
  | .local _ .vmem, ⟨3, _⟩ => ⟨S4x2560, .f32⟩
  | .local _ .vmem, ⟨4, _⟩ => ⟨S6x8x1536x320, .bf16⟩
  | .local _ .vmem, ⟨5, _⟩ => ⟨S6x3x2560, .bf16⟩
  | _, _ => ⟨S6x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x8x1536x320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Common.lean ====
/- Facts shared by the four projection kernels: the scale byte's power of two, and the lane gather that puts one
   scale byte on each of 32 neighbouring codes. Nothing here names a printed program. -/
module

public import Idealize.ShloMosaic.Lib.Pointwise
public import Idealize.ShloMosaic.Lib.Pipeline.ValueKit
public import Idealize.ShloMosaic.PureOps.Ideal.Laws

@[expose] public section

noncomputable section

namespace Cert.Common

open Idealize.ShloMosaic

/-! ## The scale byte -/

/-- The power of two that the kernel makes of a scale byte: the byte as the exponent field of a binary32 word. -/
def factor (s : BitVec 8) : EReal := Ideal.ofBits .f32 ((BitVec.zeroExtend 32 s) <<< (23 : ℕ))

/-- The power of two that the reference takes of a scale byte: `2 ^ (byte - 127)`. -/
def power (s : BitVec 8) : EReal := Ideal.exp2 ((((BitVec.zeroExtend 32 s) - 127#32).toInt : ℝ) : EReal)

/-- The fields of a scale byte shifted up by 23 places: sign clear, the byte as the exponent, no fraction; and the byte less 127 as
    an integer. -/
theorem fields (s : BitVec 8) : ((BitVec.zeroExtend 32 s <<< (23 : ℕ)).extractLsb' (8 + 23) 1 == 1#1) = false
    ∧ ((BitVec.zeroExtend 32 s <<< (23 : ℕ)).extractLsb' 23 8).toNat = s.toNat
    ∧ ((BitVec.zeroExtend 32 s <<< (23 : ℕ)).extractLsb' 0 23).toNat = 0
    ∧ (BitVec.zeroExtend 32 s - 127#32).toInt = (s.toNat : ℤ) - 127 := by
  have key : ∀ i : Fin 256, ((BitVec.zeroExtend 32 (BitVec.ofFin (w := 8) i) <<< (23 : ℕ)).extractLsb' (8 + 23) 1 == 1#1) = false
      ∧ ((BitVec.zeroExtend 32 (BitVec.ofFin (w := 8) i) <<< (23 : ℕ)).extractLsb' 23 8).toNat = (BitVec.ofFin (w := 8) i).toNat
      ∧ ((BitVec.zeroExtend 32 (BitVec.ofFin (w := 8) i) <<< (23 : ℕ)).extractLsb' 0 23).toNat = 0
      ∧ (BitVec.zeroExtend 32 (BitVec.ofFin (w := 8) i) - 127#32).toInt = ((BitVec.ofFin (w := 8) i).toNat : ℤ) - 127 := by
    decide +kernel
  exact key s.toFin

/-- Where the byte is neither 0 nor 255 the two agree. -/
theorem factor_eq_power (s : BitVec 8) (h1 : 1 ≤ s.toNat) (h2 : s.toNat ≤ 254) : factor s = power s := by
  obtain ⟨f1, f2, f3, f4⟩ := fields s
  unfold factor power
  rw [f4]
  show Ideal.ieee 8 23 _ = _
  unfold Ideal.ieee
  dsimp only
  rw [f1, f2, f3, if_neg (by omega), if_neg (by omega)]
  show _ = ((Real.rpow 2 (((s.toNat : ℤ) - 127 : ℤ) : ℝ) : ℝ) : EReal)
  refine EReal.coe_eq_coe_iff.mpr ?_
  have : Real.rpow 2 (((s.toNat : ℤ) - 127 : ℤ) : ℝ) = (2 : ℝ) ^ ((s.toNat : ℤ) - 127) := Real.rpow_intCast 2 _
  rw [this]
  have e : ((s.toNat : ℤ) - (2 ^ (8 - 1) - 1) - (23 : ℕ) : ℤ) = (s.toNat : ℤ) - 127 - 23 := by norm_num
  rw [e, zpow_sub₀ (two_ne_zero) ((s.toNat : ℤ) - 127) 23]
  norm_num
  field_simp

/-! ## The lane gather -/

/-- The shape of a tile. -/
abbrev T128 : Shape := ⟨2, ![128, 128]⟩

/-- The shape of a tile of one-column entries. -/
abbrev T128x1 : Shape := ⟨3, ![128, 128, 1]⟩

/-- The gather of the kernel's text, with the tile's first scale column `c` as a parameter: lane `l` takes the entry
    `l / 32 + c` of its row (the printed floor division, its correction for negative lanes, and the wrap of a negative
    index). -/
def gatherAt (c : BitVec 32) (v59 v60 : IVec T128 32) : IVec T128 32 :=
  have v107 : IVec T128 32 := broadcast T128 32#32
  have v108 : IVec T128 32 := divsi v60 v107
  have v109 : IVec T128 32 := broadcast T128 0#32
  have v110 : IVec T128 1 := cmpi .sgt v60 v109
  have v111 : IVec T128 32 := extui 32 v110 (by decide)
  have v112 : IVec T128 32 := broadcast T128 0#32
  have v113 : IVec T128 1 := cmpi .slt v60 v112
  have v114 : IVec T128 32 := extui 32 v113 (by decide)
  have v115 : IVec T128 32 := subi v111 v114
  let v116 : BitVec 1 := Scalar.cmpi .sgt 32#32 0#32
  let v117 : BitVec 32 := Scalar.extui v116
  let v118 : BitVec 1 := Scalar.cmpi .slt 32#32 0#32
  let v119 : BitVec 32 := Scalar.extui v118
  let v120 : BitVec 32 := Scalar.subi v117 v119
  have v121 : IVec T128 32 := broadcast T128 v120
  have v122 : IVec T128 1 := cmpi .ne v115 v121
  have v123 : IVec T128 32 := broadcast T128 32#32
  have v124 : IVec T128 32 := remsi v60 v123
  have v125 : IVec T128 32 := broadcast T128 0#32
  have v126 : IVec T128 1 := cmpi .ne v124 v125
  have v127 : IVec T128 1 := andi v122 v126
  have v128 : IVec T128 32 := broadcast T128 1#32
  have v129 : IVec T128 32 := subi v108 v128
  have v130 : IVec T128 32 := select v127 v129 v108
  have v131 : IVec T128 32 := broadcast T128 c
  have v132 : IVec T128 32 := addi v130 v131
  have v133 : IVec T128 32 := broadcast T128 0#32
  have v134 : IVec T128 1 := cmpi .slt v132 v133
  have v135 : IVec T128 32 := broadcast T128 128#32
  have v136 : IVec T128 32 := addi v132 v135
  have v137 : IVec T128 32 := select v134 v136 v132
  have v138 : IVec T128x1 32 := shapeCast T128x1 v137 (by decide)
  have v139 : IVec T128 32 := shapeCast T128 v138 (by decide)
  dynamicGather 1 v59 v139

/-- The lane numbers. -/
def lanes : IVec T128 32 := iota .tc T128 32 [1] (by decide)

/-- One word of the gather's index vector, before the tile's column is added. -/
def laneQuot (v : BitVec 32) : BitVec 32 :=
  Scalar.select (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 32#32 0#32)) (Scalar.extui (Scalar.cmpi .slt 32#32 0#32))))
      (IntOp.cmpi .ne (IntOp.remsi .vector v 32#32) 0#32))
    (IntOp.subi (IntOp.divsi .vector v 32#32) 1#32) (IntOp.divsi .vector v 32#32)

/-- One word of the gather's index vector. -/
def laneWord (c v : BitVec 32) : BitVec 32 :=
  Scalar.select (IntOp.cmpi .slt (IntOp.addi (laneQuot v) c) 0#32) (IntOp.addi (IntOp.addi (laneQuot v) c) 128#32)
    (IntOp.addi (laneQuot v) c)

/-- The quotient of a lane number by 32, for every lane. -/
theorem laneQuot_eq : ∀ l : Fin 128, laneQuot (BitVec.ofNat 32 l.val) = BitVec.ofNat 32 (l.val / 32) := by
  decide +kernel

/-- For every tile and quarter of the lanes the index does not wrap. -/
theorem laneWrap : ∀ (c : Fin 32) (q : Fin 4),
    (Scalar.select (IntOp.cmpi .slt (IntOp.addi (BitVec.ofNat 32 q.val) (BitVec.ofNat 32 (4 * c.val))) 0#32)
      (IntOp.addi (IntOp.addi (BitVec.ofNat 32 q.val) (BitVec.ofNat 32 (4 * c.val))) 128#32)
      (IntOp.addi (BitVec.ofNat 32 q.val) (BitVec.ofNat 32 (4 * c.val)))).toNat = 4 * c.val + q.val := by
  decide +kernel

/-- The gather's index at lane `l` is `4 c + l / 32`. -/
theorem laneWord_eq (c : Fin 32) (l : Fin 128) :
    (laneWord (BitVec.ofNat 32 (4 * c.val)) (BitVec.ofNat 32 l.val)).toNat = 4 * c.val + l.val / 32 := by
  unfold laneWord
  rw [laneQuot_eq]
  exact laneWrap c ⟨l.val / 32, by omega⟩

/-- The gather reads entry `4 c + l / 32` of row `r` at lane `l`. -/
theorem gatherAt_apply (c : Fin 32) (v59 : IVec T128 32) (r l : Fin 128) :
    gatherAt (BitVec.ofNat 32 (4 * c.val)) v59 lanes (ix2 r l)
      = v59 (ix2 r ⟨4 * c.val + l.val / 32, by omega⟩) := by
  have hw := laneWord_eq c l
  have hl : lanes (ix2 r l) = BitVec.ofNat 32 l.val := by
    unfold lanes; pointwise
  unfold gatherAt
  rw [shapeCast_shapeCast, dynamicGather_apply]
  refine congrArg v59 (funext fun b => ?_)
  match b with
  | ⟨0, _⟩ => rfl
  | ⟨1, _⟩ =>
    apply Fin.ext
    show (laneWord (BitVec.ofNat 32 (4 * c.val)) (lanes (ix2 r l))).toNat % 128 = 4 * c.val + l.val / 32
    rw [hl, hw]; omega

/-! ## One tile of dequantised weights -/

/-- The kernel's text of a tile: the codes times the powers of two of the gathered scale words. -/
def tile (g : IVec T128 32) (codes : FVec Ideal T128 .fp8e4m3) : FVec Ideal T128 .bf16 :=
  shapeCast T128 (truncf .bf16 (mulf (extf .f32 codes (by decide)) (bitcastToFloat .f32 (shli g (broadcast T128 23#32)))) (by decide))
    (by decide)

/-- A shift by 23 places is the shift of the word. -/
theorem shli23 (w : BitVec 32) : IntOp.shli .vector w 23#32 = w <<< (23 : ℕ) := by
  unfold IntOp.shli
  rw [if_pos (by decide)]
  rfl

/-- A tile at an element, where the gathered word there is a scale byte. -/
theorem tile_apply (g : IVec T128 32) (codes : FVec Ideal T128 .fp8e4m3) (x : T128.Idx) (s : BitVec 8)
    (hg : g x = BitVec.zeroExtend 32 s) : tile g codes x = (show EReal from codes x) * factor s := by
  have hs : shli g (broadcast T128 23#32) x = BitVec.zeroExtend 32 s <<< (23 : ℕ) := by
    show IntOp.shli .vector (g x) 23#32 = _
    rw [hg]; exact shli23 _
  have hb : bitcastToFloat (F := Ideal) .f32 (shli g (broadcast T128 23#32)) x = factor s := by
    unfold factor; rw [← hs]; rfl
  unfold tile
  rw [shapeCast_self, truncf_apply, Ideal.truncf_def, mulf_apply, Ideal.mulf_def, hb, extf_apply, Ideal.extf_def]

/-- 80 and 48 columns side by side make 128. -/
theorem concat80 : Shape.Concatenates [⟨2, ![128, 80]⟩, ⟨2, ![128, 48]⟩] T128 1 := by decide
/-- 96 and 32 columns side by side make 128. -/
theorem concat96 : Shape.Concatenates [⟨2, ![128, 96]⟩, ⟨2, ![128, 32]⟩] T128 1 := by decide

/-- A block of scale bytes as words, padded with zeros to 128 lanes: 80 columns. -/
def pad80 (v : IVec ⟨2, ![128, 80]⟩ 8) : IVec T128 32 :=
  concatenate T128 1 [⟨⟨2, ![128, 80]⟩, extui 32 v (by decide)⟩, ⟨⟨2, ![128, 48]⟩, broadcast ⟨2, ![128, 48]⟩ 0#32⟩] concat80

/-- The same with 96 columns. -/
def pad96 (v : IVec ⟨2, ![128, 96]⟩ 8) : IVec T128 32 :=
  concatenate T128 1 [⟨⟨2, ![128, 96]⟩, extui 32 v (by decide)⟩, ⟨⟨2, ![128, 32]⟩, broadcast ⟨2, ![128, 32]⟩ 0#32⟩] concat96

/-- One of the first 80 columns of the padded scales. -/
theorem pad80_apply (v : IVec ⟨2, ![128, 80]⟩ 8) (r : Fin 128) (k : Fin 128) (h : k.val < 80) :
    pad80 v (ix2 r k) = BitVec.zeroExtend 32 (v (ix2 r ⟨k.val, h⟩)) := by
  unfold pad80
  refine (concatenate_pair_apply _ _ _ _ _).trans ((dif_pos h).trans ?_)
  refine congrArg (fun i => BitVec.zeroExtend 32 (v i)) (funext fun b => ?_)
  match b with
  | ⟨0, _⟩ => rfl
  | ⟨1, _⟩ => rfl

/-- One of the first 96 columns of the padded scales. -/
theorem pad96_apply (v : IVec ⟨2, ![128, 96]⟩ 8) (r : Fin 128) (k : Fin 128) (h : k.val < 96) :
    pad96 v (ix2 r k) = BitVec.zeroExtend 32 (v (ix2 r ⟨k.val, h⟩)) := by
  unfold pad96
  refine (concatenate_pair_apply _ _ _ _ _).trans ((dif_pos h).trans ?_)
  refine congrArg (fun i => BitVec.zeroExtend 32 (v i)) (funext fun b => ?_)
  match b with
  | ⟨0, _⟩ => rfl
  | ⟨1, _⟩ => rfl

/-! ## A whole block of dequantised weights -/

/-- A block of dequantised weights with 2560 columns, as the kernel computes it: code times the scale byte's power of
    two, one scale byte to 32 columns. -/
def weights80 {R : ℕ} (X : Vec Ideal ⟨2, ![R, 2560]⟩ .fp8e4m3) (S : Vec Ideal ⟨2, ![R, 80]⟩ .i8) (j : (⟨2, ![R, 2560]⟩ : Shape).Idx) : EReal :=
  (show EReal from X j) * factor (S (ix2 (j 0) ⟨(j 1).val / 32, by have : (j 1).val < 2560 := (j 1).isLt; omega⟩))

/-- What one tile's store writes is the dequantised weights at its own place. -/
theorem piece80 {R : ℕ} (X : Vec Ideal ⟨2, ![R, 2560]⟩ .fp8e4m3) (S : Vec Ideal ⟨2, ![R, 80]⟩ .i8) (c : ℕ) (hc : c < 20)
    (cw : BitVec 32) (hcw : cw = BitVec.ofNat 32 (4 * c)) (k : ℕ) (offS off : Fin 2 → ℕ)
    (inbS : ∀ a, offS a + (![128, 80] : Fin 2 → ℕ) a ≤ (⟨2, ![R, 80]⟩ : Shape).size a)
    (inb : ∀ a, off a + (![128, 128] : Fin 2 → ℕ) a ≤ (⟨2, ![R, 2560]⟩ : Shape).size a)
    (hS : offS = ![128 * k, 0]) (ho : off = ![128 * k, 128 * c]) (x : T128.Idx) :
    tile (gatherAt cw (pad80 (View.ld S (Rect.unit (s := ⟨2, ![R, 80]⟩) offS ![128, 80] inbS))) lanes)
        (View.ld X (Rect.unit (s := ⟨2, ![R, 2560]⟩) off ![128, 128] inb)) x
      = weights80 X S ((Rect.unit (s := ⟨2, ![R, 2560]⟩) off ![128, 128] inb).emb x) := by
  subst hcw hS ho
  obtain ⟨r, l, rfl⟩ : ∃ (r l : Fin 128), x = ix2 r l := ⟨x 0, x 1, eq_ix2 x⟩
  have hr : 128 * k + r.val < R := by
    have := inb 0
    have h2 : 128 * k + 128 ≤ R := this
    omega
  have hl : 128 * c + l.val < 2560 := by omega
  have hq : 4 * c + l.val / 32 < 80 := by omega
  have he : (Rect.unit (s := ⟨2, ![R, 2560]⟩) ![128 * k, 128 * c] ![128, 128] inb).emb (ix2 r l)
      = ix2 ⟨128 * k + r.val, hr⟩ ⟨128 * c + l.val, hl⟩ := by
    funext a
    apply Fin.ext
    match a with
    | ⟨0, _⟩ => show 128 * k + 1 * r.val = 128 * k + r.val; omega
    | ⟨1, _⟩ => show 128 * c + 1 * l.val = 128 * c + l.val; omega
  have hS : View.ld S (Rect.unit (s := ⟨2, ![R, 80]⟩) ![128 * k, 0] ![128, 80] inbS) (ix2 r ⟨4 * c + l.val / 32, hq⟩)
      = S (ix2 ⟨128 * k + r.val, hr⟩ ⟨(128 * c + l.val) / 32, by omega⟩) := by
    refine congrArg S (funext fun a => Fin.ext ?_)
    match a with
    | ⟨0, _⟩ => show 128 * k + 1 * r.val = 128 * k + r.val; omega
    | ⟨1, _⟩ => show 0 + 1 * (4 * c + l.val / 32) = (128 * c + l.val) / 32; omega
  have hg : gatherAt (BitVec.ofNat 32 (4 * c)) (pad80 (View.ld S (Rect.unit (s := ⟨2, ![R, 80]⟩) ![128 * k, 0] ![128, 80] inbS))) lanes (ix2 r l)
      = BitVec.zeroExtend 32 (S (ix2 ⟨128 * k + r.val, hr⟩ ⟨(128 * c + l.val) / 32, by omega⟩)) := by
    rw [← hS]
    exact (gatherAt_apply ⟨c, by omega⟩ _ r l).trans (pad80_apply _ r ⟨4 * c + l.val / 32, by omega⟩ hq)
  have hX : View.ld X (Rect.unit (s := ⟨2, ![R, 2560]⟩) ![128 * k, 128 * c] ![128, 128] inb) (ix2 r l)
      = X (ix2 ⟨128 * k + r.val, hr⟩ ⟨128 * c + l.val, hl⟩) := by
    rw [← he]; rfl
  rw [he]
  refine (tile_apply _ _ _ _ hg).trans ?_
  rw [hX]
  unfold weights80
  rfl

/-- A block of dequantised weights with 3072 columns, as the kernel computes it: code times the scale byte's power of
    two, one scale byte to 32 columns. -/
def weights96 {R : ℕ} (X : Vec Ideal ⟨2, ![R, 3072]⟩ .fp8e4m3) (S : Vec Ideal ⟨2, ![R, 96]⟩ .i8) (j : (⟨2, ![R, 3072]⟩ : Shape).Idx) : EReal :=
  (show EReal from X j) * factor (S (ix2 (j 0) ⟨(j 1).val / 32, by have : (j 1).val < 3072 := (j 1).isLt; omega⟩))

/-- What one tile's store writes is the dequantised weights at its own place. -/
theorem piece96 {R : ℕ} (X : Vec Ideal ⟨2, ![R, 3072]⟩ .fp8e4m3) (S : Vec Ideal ⟨2, ![R, 96]⟩ .i8) (c : ℕ) (hc : c < 24)
    (cw : BitVec 32) (hcw : cw = BitVec.ofNat 32 (4 * c)) (k : ℕ) (offS off : Fin 2 → ℕ)
    (inbS : ∀ a, offS a + (![128, 96] : Fin 2 → ℕ) a ≤ (⟨2, ![R, 96]⟩ : Shape).size a)
    (inb : ∀ a, off a + (![128, 128] : Fin 2 → ℕ) a ≤ (⟨2, ![R, 3072]⟩ : Shape).size a)
    (hS : offS = ![128 * k, 0]) (ho : off = ![128 * k, 128 * c]) (x : T128.Idx) :
    tile (gatherAt cw (pad96 (View.ld S (Rect.unit (s := ⟨2, ![R, 96]⟩) offS ![128, 96] inbS))) lanes)
        (View.ld X (Rect.unit (s := ⟨2, ![R, 3072]⟩) off ![128, 128] inb)) x
      = weights96 X S ((Rect.unit (s := ⟨2, ![R, 3072]⟩) off ![128, 128] inb).emb x) := by
  subst hcw hS ho
  obtain ⟨r, l, rfl⟩ : ∃ (r l : Fin 128), x = ix2 r l := ⟨x 0, x 1, eq_ix2 x⟩
  have hr : 128 * k + r.val < R := by
    have := inb 0
    have h2 : 128 * k + 128 ≤ R := this
    omega
  have hl : 128 * c + l.val < 3072 := by omega
  have hq : 4 * c + l.val / 32 < 96 := by omega
  have he : (Rect.unit (s := ⟨2, ![R, 3072]⟩) ![128 * k, 128 * c] ![128, 128] inb).emb (ix2 r l)
      = ix2 ⟨128 * k + r.val, hr⟩ ⟨128 * c + l.val, hl⟩ := by
    funext a
    apply Fin.ext
    match a with
    | ⟨0, _⟩ => show 128 * k + 1 * r.val = 128 * k + r.val; omega
    | ⟨1, _⟩ => show 128 * c + 1 * l.val = 128 * c + l.val; omega
  have hS : View.ld S (Rect.unit (s := ⟨2, ![R, 96]⟩) ![128 * k, 0] ![128, 96] inbS) (ix2 r ⟨4 * c + l.val / 32, hq⟩)
      = S (ix2 ⟨128 * k + r.val, hr⟩ ⟨(128 * c + l.val) / 32, by omega⟩) := by
    refine congrArg S (funext fun a => Fin.ext ?_)
    match a with
    | ⟨0, _⟩ => show 128 * k + 1 * r.val = 128 * k + r.val; omega
    | ⟨1, _⟩ => show 0 + 1 * (4 * c + l.val / 32) = (128 * c + l.val) / 32; omega
  have hg : gatherAt (BitVec.ofNat 32 (4 * c)) (pad96 (View.ld S (Rect.unit (s := ⟨2, ![R, 96]⟩) ![128 * k, 0] ![128, 96] inbS))) lanes (ix2 r l)
      = BitVec.zeroExtend 32 (S (ix2 ⟨128 * k + r.val, hr⟩ ⟨(128 * c + l.val) / 32, by omega⟩)) := by
    rw [← hS]
    exact (gatherAt_apply ⟨c, by omega⟩ _ r l).trans (pad96_apply _ r ⟨4 * c + l.val / 32, by omega⟩ hq)
  have hX : View.ld X (Rect.unit (s := ⟨2, ![R, 3072]⟩) ![128 * k, 128 * c] ![128, 128] inb) (ix2 r l)
      = X (ix2 ⟨128 * k + r.val, hr⟩ ⟨128 * c + l.val, hl⟩) := by
    rw [← he]; rfl
  rw [he]
  refine (tile_apply _ _ _ _ hg).trans ?_
  rw [hX]
  unfold weights96
  rfl

/-- The literal offsets of rank 2 are zero. -/
theorem zeros2 : (![0, 0] : Fin 2 → Nat) = fun _ => 0 := funext fun a => by fin_cases a <;> rfl

/-- The literal offsets of rank 3 are zero. -/
theorem zeros3 : (![0, 0, 0] : Fin 3 → Nat) = fun _ => 0 := funext fun a => by fin_cases a <;> rfl

/-- The literal offsets of rank 4 are zero. -/
theorem zeros4 : (![0, 0, 0, 0] : Fin 4 → Nat) = fun _ => 0 := funext fun a => by fin_cases a <;> rfl

/-- A block of 256 rows from row `a` on lies within the 1536 rows. -/
theorem inb_rows (K a : ℕ) (ha : a ≤ 1280) : ∀ d, (![0, a, 0] : Fin 3 → ℕ) d + (⟨3, ![1, 256, K]⟩ : Shape).size d ≤ (⟨3, ![1, 1536, K]⟩ : Shape).size d := fun d => by
  match d with
  | ⟨0, _⟩ => exact Nat.le_refl 1
  | ⟨1, _⟩ => show a + 256 ≤ 1536; omega
  | ⟨2, _⟩ => show 0 + K ≤ K; omega

/-- The rows of one head from row `a` on lie within the 1536 rows of the four heads. -/
theorem inb_heads (h a : ℕ) (hh : h < 4) (ha : a ≤ 1280) : ∀ d, (![0, h, a, 0] : Fin 4 → ℕ) d + (⟨4, ![1, 1, 256, 320]⟩ : Shape).size d ≤ (⟨4, ![1, 4, 1536, 320]⟩ : Shape).size d := fun d => by
  match d with
  | ⟨0, _⟩ => exact Nat.le_refl 1
  | ⟨1, _⟩ => show h + 1 ≤ 4; omega
  | ⟨2, _⟩ => show a + 256 ≤ 1536; omega
  | ⟨3, _⟩ => exact Nat.le_refl 320

end Cert.Common

end
-- ==== Proof.OutTrip.lean ====
/- The `Out` projection: what one trip of the dequantising loop stores. Each of its tiles is its place of ONE function, the codes
   times the powers of two of their scale bytes. -/
module

public import proofs.«01_k».proof.Proof.Common
public import proofs.«01_k».proof.Proof.Gen.OutIdeal.Value

@[expose] public section
noncomputable section
namespace Cert.OutIdeal.Gen
open Idealize.ShloMosaic Idealize.ShloMosaic.TcCoe Idealize.ShloMosaic.Tactic
open Idealize.SL Idealize.SL.RA Idealize.SL.BI

set_option maxRecDepth 65536 in
/-- Every store of a trip writes the dequantised weights at its own place. -/
theorem trip_pieces (𝒱 : Variants) (c : Dev nD) (bd : Option 𝒱.V) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (k0_h1 : k0_cond1 i = 1#1) (X3 : BufTy.Contents (Elt Ideal) arg3.view.ty) (X4 : BufTy.Contents (Elt Ideal) arg4.view.ty) (k : Fin k0_t1_loop.trips) :
    ∀ p ∈ tripL_k0_t1 (F := Ideal) 𝒱 c bd i arg2 harg2 arg3 harg3 arg4 harg4 arg5 harg5 arg6 harg6 k0_h1 X3 X4 k, ∀ x, p.2 x = Common.weights80 (arg3.view.read (Elt Ideal) X3) (arg4.view.read (Elt Ideal) X4) (p.1.emb x) := by
  unfold tripL_k0_t1 trip_k0_t1
  dsimp only
  refine List.forall_mem_cons.mpr ⟨fun x => Common.piece80 (arg3.view.read (Elt Ideal) X3) (arg4.view.read (Elt Ideal) X4) 19 (by decide) 76#32 rfl k.val (k0_off1 k) (k0_off21 k) (k0_off1_inb i k k0_h1) (k0_off21_inb i k k0_h1) (k0_off1_eq k) (k0_off21_eq k) x, ?_⟩
  refine List.forall_mem_cons.mpr ⟨fun x => Common.piece80 (arg3.view.read (Elt Ideal) X3) (arg4.view.read (Elt Ideal) X4) 18 (by decide) 72#32 rfl k.val (k0_off1 k) (k0_off20 k) (k0_off1_inb i k k0_h1) (k0_off20_inb i k k0_h1) (k0_off1_eq k) (k0_off20_eq k) x, ?_⟩
  refine List.forall_mem_cons.mpr ⟨fun x => Common.piece80 (arg3.view.read (Elt Ideal) X3) (arg4.view.read (Elt Ideal) X4) 17 (by decide) 68#32 rfl k.val (k0_off1 k) (k0_off19 k) (k0_off1_inb i k k0_h1) (k0_off19_inb i k k0_h1) (k0_off1_eq k) (k0_off19_eq k) x, ?_⟩
  refine List.forall_mem_cons.mpr ⟨fun x => Common.piece80 (arg3.view.read (Elt Ideal) X3) (arg4.view.read (Elt Ideal) X4) 16 (by decide) 64#32 rfl k.val (k0_off1 k) (k0_off18 k) (k0_off1_inb i k k0_h1) (k0_off18_inb i k k0_h1) (k0_off1_eq k) (k0_off18_eq k) x, ?_⟩
  refine List.forall_mem_cons.mpr ⟨fun x => Common.piece80 (arg3.view.read (Elt Ideal) X3) (arg4.view.read (Elt Ideal) X4) 15 (by decide) 60#32 rfl k.val (k0_off1 k) (k0_off17 k) (k0_off1_inb i k k0_h1) (k0_off17_inb i k k0_h1) (k0_off1_eq k) (k0_off17_eq k) x, ?_⟩
  refine List.forall_mem_cons.mpr ⟨fun x => Common.piece80 (arg3.view.read (Elt Ideal) X3) (arg4.view.read (Elt Ideal) X4) 14 (by decide) 56#32 rfl k.val (k0_off1 k) (k0_off16 k) (k0_off1_inb i k k0_h1) (k0_off16_inb i k k0_h1) (k0_off1_eq k) (k0_off16_eq k) x, ?_⟩
  refine List.forall_mem_cons.mpr ⟨fun x => Common.piece80 (arg3.view.read (Elt Ideal) X3) (arg4.view.read (Elt Ideal) X4) 13 (by decide) 52#32 rfl k.val (k0_off1 k) (k0_off15 k) (k0_off1_inb i k k0_h1) (k0_off15_inb i k k0_h1) (k0_off1_eq k) (k0_off15_eq k) x, ?_⟩
  refine List.forall_mem_cons.mpr ⟨fun x => Common.piece80 (arg3.view.read (Elt Ideal) X3) (arg4.view.read (Elt Ideal) X4) 12 (by decide) 48#32 rfl k.val (k0_off1 k) (k0_off14 k) (k0_off1_inb i k k0_h1) (k0_off14_inb i k k0_h1) (k0_off1_eq k) (k0_off14_eq k) x, ?_⟩
  refine List.forall_mem_cons.mpr ⟨fun x => Common.piece80 (arg3.view.read (Elt Ideal) X3) (arg4.view.read (Elt Ideal) X4) 11 (by decide) 44#32 rfl k.val (k0_off1 k) (k0_off13 k) (k0_off1_inb i k k0_h1) (k0_off13_inb i k k0_h1) (k0_off1_eq k) (k0_off13_eq k) x, ?_⟩
  refine List.forall_mem_cons.mpr ⟨fun x => Common.piece80 (arg3.view.read (Elt Ideal) X3) (arg4.view.read (Elt Ideal) X4) 10 (by decide) 40#32 rfl k.val (k0_off1 k) (k0_off12 k) (k0_off1_inb i k k0_h1) (k0_off12_inb i k k0_h1) (k0_off1_eq k) (k0_off12_eq k) x, ?_⟩
  refine List.forall_mem_cons.mpr ⟨fun x => Common.piece80 (arg3.view.read (Elt Ideal) X3) (arg4.view.read (Elt Ideal) X4) 9 (by decide) 36#32 rfl k.val (k0_off1 k) (k0_off11 k) (k0_off1_inb i k k0_h1) (k0_off11_inb i k k0_h1) (k0_off1_eq k) (k0_off11_eq k) x, ?_⟩
  refine List.forall_mem_cons.mpr ⟨fun x => Common.piece80 (arg3.view.read (Elt Ideal) X3) (arg4.view.read (Elt Ideal) X4) 8 (by decide) 32#32 rfl k.val (k0_off1 k) (k0_off10 k) (k0_off1_inb i k k0_h1) (k0_off10_inb i k k0_h1) (k0_off1_eq k) (k0_off10_eq k) x, ?_⟩
  refine List.forall_mem_cons.mpr ⟨fun x => Common.piece80 (arg3.view.read (Elt Ideal) X3) (arg4.view.read (Elt Ideal) X4) 7 (by decide) 28#32 rfl k.val (k0_off1 k) (k0_off9 k) (k0_off1_inb i k k0_h1) (k0_off9_inb i k k0_h1) (k0_off1_eq k) (k0_off9_eq k) x, ?_⟩
  refine List.forall_mem_cons.mpr ⟨fun x => Common.piece80 (arg3.view.read (Elt Ideal) X3) (arg4.view.read (Elt Ideal) X4) 6 (by decide) 24#32 rfl k.val (k0_off1 k) (k0_off8 k) (k0_off1_inb i k k0_h1) (k0_off8_inb i k k0_h1) (k0_off1_eq k) (k0_off8_eq k) x, ?_⟩
  refine List.forall_mem_cons.mpr ⟨fun x => Common.piece80 (arg3.view.read (Elt Ideal) X3) (arg4.view.read (Elt Ideal) X4) 5 (by decide) 20#32 rfl k.val (k0_off1 k) (k0_off7 k) (k0_off1_inb i k k0_h1) (k0_off7_inb i k k0_h1) (k0_off1_eq k) (k0_off7_eq k) x, ?_⟩
  refine List.forall_mem_cons.mpr ⟨fun x => Common.piece80 (arg3.view.read (Elt Ideal) X3) (arg4.view.read (Elt Ideal) X4) 4 (by decide) 16#32 rfl k.val (k0_off1 k) (k0_off6 k) (k0_off1_inb i k k0_h1) (k0_off6_inb i k k0_h1) (k0_off1_eq k) (k0_off6_eq k) x, ?_⟩
  refine List.forall_mem_cons.mpr ⟨fun x => Common.piece80 (arg3.view.read (Elt Ideal) X3) (arg4.view.read (Elt Ideal) X4) 3 (by decide) 12#32 rfl k.val (k0_off1 k) (k0_off5 k) (k0_off1_inb i k k0_h1) (k0_off5_inb i k k0_h1) (k0_off1_eq k) (k0_off5_eq k) x, ?_⟩
  refine List.forall_mem_cons.mpr ⟨fun x => Common.piece80 (arg3.view.read (Elt Ideal) X3) (arg4.view.read (Elt Ideal) X4) 2 (by decide) 8#32 rfl k.val (k0_off1 k) (k0_off4 k) (k0_off1_inb i k k0_h1) (k0_off4_inb i k k0_h1) (k0_off1_eq k) (k0_off4_eq k) x, ?_⟩
  refine List.forall_mem_cons.mpr ⟨fun x => Common.piece80 (arg3.view.read (Elt Ideal) X3) (arg4.view.read (Elt Ideal) X4) 1 (by decide) 4#32 rfl k.val (k0_off1 k) (k0_off3 k) (k0_off1_inb i k k0_h1) (k0_off3_inb i k k0_h1) (k0_off1_eq k) (k0_off3_eq k) x, ?_⟩
  refine List.forall_mem_cons.mpr ⟨fun x => Common.piece80 (arg3.view.read (Elt Ideal) X3) (arg4.view.read (Elt Ideal) X4) 0 (by decide) 0#32 rfl k.val (k0_off1 k) (k0_off2 k) (k0_off1_inb i k k0_h1) (k0_off2_inb i k k0_h1) (k0_off1_eq k) (k0_off2_eq k) x, ?_⟩
  exact fun p hp => absurd hp List.not_mem_nil

end Cert.OutIdeal.Gen
end
-- ==== Proof.OutBlock.lean ====
/- The `Out` projection: what the dequantising loop leaves in the scratch, and what the body leaves in the result block. -/
module

public import proofs.«01_k».proof.Proof.OutTrip

@[expose] public section
noncomputable section
namespace Cert.OutIdeal.Gen
open Idealize.ShloMosaic Idealize.ShloMosaic.TcCoe Idealize.ShloMosaic.Tactic
open Idealize.SL Idealize.SL.RA Idealize.SL.BI

/-- Every store of the first `n` trips writes the dequantised weights at its own place. -/
theorem pb_pieces (𝒱 : Variants) (c : Dev nD) (bd : Option 𝒱.V) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (k0_h1 : k0_cond1 i = 1#1) (X3 : BufTy.Contents (Elt Ideal) arg3.view.ty) (X4 : BufTy.Contents (Elt Ideal) arg4.view.ty) (n : ℕ) :
    ∀ p ∈ pb_k0_t1 (F := Ideal) 𝒱 c bd i arg2 harg2 arg3 harg3 arg4 harg4 arg5 harg5 arg6 harg6 k0_h1 X3 X4 n, ∀ x, p.2 x = Common.weights80 (arg3.view.read (Elt Ideal) X3) (arg4.view.read (Elt Ideal) X4) (p.1.emb x) := by
  induction n with
  | zero => exact fun p hp => absurd hp List.not_mem_nil
  | succ n ih =>
    rw [pb_k0_t1.eq_2]; unfold pb_k0_t1Step
    split
    · intro p hp
      rcases List.mem_append.mp hp with h | h
      · exact trip_pieces 𝒱 c bd i arg2 harg2 arg3 harg3 arg4 harg4 arg5 harg5 arg6 harg6 k0_h1 X3 X4 _ p h
      · exact ih p h
    · exact ih

/-- The scratch after the loop: the dequantised weights of the block. -/
theorem sout_A (c : Dev nD) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (hc0 : cond0_0 i) (x0 : Vec Ideal S1x1536x2560 .bf16) (x1 : Vec Ideal S1024x2560 .fp8e4m3) (x2 : Vec Ideal S1024x80 .i8) :
    sout0_A_0 c i arg2 harg2 arg3 harg3 arg4 harg4 arg5 harg5 arg6 harg6 hc0 x0 x1 x2 = Common.weights80 x1 x2 := by
  unfold sout0_A_0
  rw [View.read_writes_junk_eq_canon]
  funext y
  refine View.canon_apply_of_pieces (Common.weights80 x1 x2) _ ?_ y (scover0_A_0 c i arg2 harg2 arg3 harg3 arg4 harg4 arg5 harg5 arg6 harg6 hc0 x0 x1 x2 y)
  have h := pb_pieces Variants.none c none i arg2 harg2 arg3 harg3 arg4 harg4 arg5 harg5 arg6 harg6 hc0 (harg3.unread x1) (harg4.unread x2) k0_t1_loop.trips
  rw [harg3.read_unread, harg4.read_unread] at h
  unfold kernelRun0_A
  exact h

/-- The product of a block of rows with a block of dequantised weights, element by element. -/
def prod (X : Vec Ideal S1x1536x2560 .bf16) (W : Vec Ideal S1024x2560 .bf16) (j : S1x1536x1024.Idx) : EReal :=
  ∑ k : Fin 2560, (show EReal from X (ix3 0 (j 1) k)) * (show EReal from W (ix2 (j 2) k))

/-- One row block's payload at an element: the sum of products along the contraction. -/
theorem pay_apply (xb : Vec Ideal S1x256x2560 .bf16) (w : Vec Ideal S1024x2560 .bf16) (r : Fin 256) (n : Fin 1024) :
    k0_pay46 xb w (ix3 0 r n) = ∑ k : Fin 2560, (show EReal from xb (ix3 0 r k)) * (show EReal from w (ix2 n k)) := by
  pointwise [k0_pay46]

variable (X : Vec Ideal S1x1536x2560 .bf16) (W : Vec Ideal S1024x2560 .bf16)

/-- The result store of row block `k`, in the first row block's form: the others' are the same operations. -/
def store (k : Fin 6) : View.Piece (Elt Ideal) S1x1536x1024 .f32 :=
  ⟨Rect.unit (s := S1x1536x1024) ![0, 256 * k.val, 0] S1x256x1024.size (Common.inb_rows 1024 _ (by omega)),
    k0_pay46 (View.ld X (Rect.unit (s := S1x1536x2560) ![0, 256 * k.val, 0] S1x256x2560.size (Common.inb_rows 2560 _ (by omega)))) W⟩

/-- Each result store writes the product at its own place. -/
theorem store_piece (k : Fin 6) (x : (store X W k).1.shape.Idx) : (store X W k).2 x = prod X W ((store X W k).1.emb x) := by
  obtain ⟨z, r, n, rfl⟩ : ∃ (z : Fin 1) (r : Fin 256) (n : Fin 1024), x = ix3 z r n := ⟨x 0, x 1, x 2, eq_ix3 x⟩
  obtain rfl : z = 0 := Subsingleton.elim _ _
  refine (pay_apply _ _ r n).trans ?_
  unfold prod
  refine Finset.sum_congr rfl fun k _ => ?_
  refine congrArg₂ (fun a b : EReal => a * b) ?_ ?_
  · refine congrArg X (funext fun d => Fin.ext ?_)
    match d with
    | ⟨0, _⟩ => rfl
    | ⟨1, _⟩ => rfl
    | ⟨2, _⟩ => show 0 + 1 * k.val = k.val; omega
  · refine congrArg W (funext fun d => Fin.ext ?_)
    match d with
    | ⟨0, _⟩ => show n.val = 0 + 1 * n.val; omega
    | ⟨1, _⟩ => rfl

/-- The result stores, the last first. -/
def stores : List (View.Piece (Elt Ideal) S1x1536x1024 .f32) :=
  [store X W 5, store X W 4, store X W 3, store X W 2, store X W 1, store X W 0]

/-- All of them write the product, each at its own place. -/
theorem stores_pieces : ∀ p ∈ stores X W, ∀ x, p.2 x = prod X W (p.1.emb x) := by
  have h := store_piece X W
  simp only [stores, List.forall_mem_cons]
  exact ⟨h 5, h 4, h 3, h 2, h 1, h 0, fun p hp => absurd hp List.not_mem_nil⟩

set_option maxRecDepth 65536 in
/-- With the weights just dequantised: every store of the body writes the product at its own place. -/
theorem out_A_pieces (c : Dev nD) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (hc0 : cond0_0 i) (x0 : Vec Ideal S1x1536x2560 .bf16) (x1 : Vec Ideal S1024x2560 .fp8e4m3) (x2 : Vec Ideal S1024x80 .i8) :
    ∀ p ∈ (kernelRun0_A c i arg2 harg2 arg3 harg3 arg4 harg4 arg5 harg5 arg6 harg6 hc0 x0 x1 x2).1, ∀ x, p.2 x = prod (arg2.view.read (Elt Ideal) (harg2.unread x0)) (arg6.view.readCov (pb_k0_t1 (F := Ideal) Variants.none c none i arg2 harg2 arg3 harg3 arg4 harg4 arg5 harg5 arg6 harg6 hc0 (harg3.unread x1) (harg4.unread x2) k0_t1_loop.trips) (Rect.unit (s := S1024x2560) ![0, 0] ![1024, 2560] inb_S1024x2560_S1024x2560_0_0).toLoadRect) (p.1.emb x) := by
  unfold kernelRun0_A
  dsimp only
  exact stores_pieces (arg2.view.read (Elt Ideal) (harg2.unread x0)) (arg6.view.readCov (pb_k0_t1 (F := Ideal) Variants.none c none i arg2 harg2 arg3 harg3 arg4 harg4 arg5 harg5 arg6 harg6 hc0 (harg3.unread x1) (harg4.unread x2) k0_t1_loop.trips) (Rect.unit (s := S1024x2560) ![0, 0] ![1024, 2560] inb_S1024x2560_S1024x2560_0_0).toLoadRect)

set_option maxRecDepth 65536 in
/-- With the weights carried in the scratch: every store of the body writes the product at its own place. -/
theorem out_B_pieces (c : Dev nD) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (hc0 : ¬ cond0_0 i) (x0 : Vec Ideal S1x1536x2560 .bf16) (x1 : Vec Ideal S1024x2560 .fp8e4m3) (x2 : Vec Ideal S1024x80 .i8) (xs0 : Vec Ideal S1024x2560 .bf16) :
    ∀ p ∈ (kernelRun0_B c i arg2 harg2 arg3 harg3 arg4 harg4 arg5 harg5 arg6 harg6 hc0 x0 x1 x2 xs0).1, ∀ x, p.2 x = prod (arg2.view.read (Elt Ideal) (harg2.unread x0)) (View.readAt (Elt Ideal) arg6.view (Rect.unit (s := S1024x2560) ![0, 0] ![1024, 2560] inb_S1024x2560_S1024x2560_0_0).toLoadRect (harg6.unread xs0)) (p.1.emb x) := by
  unfold kernelRun0_B
  dsimp only
  exact stores_pieces (arg2.view.read (Elt Ideal) (harg2.unread x0)) (View.readAt (Elt Ideal) arg6.view (Rect.unit (s := S1024x2560) ![0, 0] ![1024, 2560] inb_S1024x2560_S1024x2560_0_0).toLoadRect (harg6.unread xs0))

/-- With the weights just dequantised: the result block is the product. -/
theorem out_A (c : Dev nD) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (hc0 : cond0_0 i) (x0 : Vec Ideal S1x1536x2560 .bf16) (x1 : Vec Ideal S1024x2560 .fp8e4m3) (x2 : Vec Ideal S1024x80 .i8) :
    out0_A_3 c i arg2 harg2 arg3 harg3 arg4 harg4 arg5 harg5 arg6 harg6 hc0 x0 x1 x2 = prod x0 (Common.weights80 x1 x2) := by
  have hW : arg6.view.readCov (pb_k0_t1 (F := Ideal) Variants.none c none i arg2 harg2 arg3 harg3 arg4 harg4 arg5 harg5 arg6 harg6 hc0 (harg3.unread x1) (harg4.unread x2) k0_t1_loop.trips) (Rect.unit (s := S1024x2560) ![0, 0] ![1024, 2560] inb_S1024x2560_S1024x2560_0_0).toLoadRect = Common.weights80 x1 x2 := by
    rw [View.readCov_eq_canon']
    have h : View.canon (pb_k0_t1 (F := Ideal) Variants.none c none i arg2 harg2 arg3 harg3 arg4 harg4 arg5 harg5 arg6 harg6 hc0 (harg3.unread x1) (harg4.unread x2) k0_t1_loop.trips) = Common.weights80 x1 x2 := by
      rw [← sout_A c i arg2 harg2 arg3 harg3 arg4 harg4 arg5 harg5 arg6 harg6 hc0 x0 x1 x2]
      unfold sout0_A_0
      rw [View.read_writes_junk_eq_canon]
      rfl
    rw [h]
    funext j
    refine congrArg (Common.weights80 x1 x2) (funext fun d => Fin.ext ?_)
    match d with
    | ⟨0, _⟩ => show 0 + 1 * (j 0).val = (j 0).val; omega
    | ⟨1, _⟩ => show 0 + 1 * (j 1).val = (j 1).val; omega
  have hp := out_A_pieces c i arg2 harg2 arg3 harg3 arg4 harg4 arg5 harg5 arg6 harg6 hc0 x0 x1 x2
  rw [hW, harg2.read_unread] at hp
  unfold out0_A_3
  rw [View.read_writes_junk_eq_canon]
  funext y
  exact View.canon_apply_of_pieces (prod x0 (Common.weights80 x1 x2)) _ hp y (cover0_A_3 c i arg2 harg2 arg3 harg3 arg4 harg4 arg5 harg5 arg6 harg6 hc0 x0 x1 x2 y)

/-- With the weights carried in the scratch: the result block is the product. -/
theorem out_B (c : Dev nD) (i : grid0.Coords) (arg2 : Memref sig .tc .vmem S1x1536x2560 .bf16) (harg2 : arg2.IsWhole) (arg3 : Memref sig .tc .vmem S1024x2560 .fp8e4m3) (harg3 : arg3.IsWhole) (arg4 : Memref sig .tc .vmem S1024x80 .i8) (harg4 : arg4.IsWhole) (arg5 : Memref sig .tc .vmem S1x1536x1024 .bf16) (harg5 : arg5.IsWhole) (arg6 : Memref sig .tc .vmem S1024x2560 .bf16) (harg6 : arg6.IsWhole) (hc0 : ¬ cond0_0 i) (x0 : Vec Ideal S1x1536x2560 .bf16) (x1 : Vec Ideal S1024x2560 .fp8e4m3) (x2 : Vec Ideal S1024x80 .i8) (xs0 : Vec Ideal S1024x2560 .bf16) :
    out0_B_3 c i arg2 harg2 arg3 harg3 arg4 harg4 arg5 harg5 arg6 harg6 hc0 x0 x1 x2 xs0 = prod x0 xs0 := by
  have hW : View.readAt (Elt Ideal) arg6.view (Rect.unit (s := S1024x2560) ![0, 0] ![1024, 2560] inb_S1024x2560_S1024x2560_0_0).toLoadRect (harg6.unread xs0) = xs0 := by
    rw [View.readAt_eq_ld, harg6.read_unread]
    funext j
    refine congrArg xs0 (funext fun d => Fin.ext ?_)
    match d with
    | ⟨0, _⟩ => show 0 + 1 * (j 0).val = (j 0).val; omega
    | ⟨1, _⟩ => show 0 + 1 * (j 1).val = (j 1).val; omega
  have hp := out_B_pieces c i arg2 harg2 arg3 harg3 arg4 harg4 arg5 harg5 arg6 harg6 hc0 x0 x1 x2 xs0
  rw [hW, harg2.read_unread] at hp
  unfold out0_B_3
  rw [View.read_writes_junk_eq_canon]
  funext y
  exact View.canon_apply_of_pieces (prod x0 xs0) _ hp y (cover0_B_3 c i arg2 harg2 arg3 harg3 arg4 harg4 arg5 harg5 arg6 harg6 hc0 x0 x1 x2 xs0 y)

end Cert.OutIdeal.Gen
end
-- ==== Proof.OutArray.lean ====
/- The `Out` projection over the whole grid: every block the kernel writes back is the block of ONE array, the product of
   the rows with the dequantised weights. The weights are dequantised at the first of every six grid points and carried in
   the scratch over the other five. -/
module

public import proofs.«01_k».proof.Proof.OutBlock

@[expose] public section
noncomputable section
namespace Cert.OutIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ) (ρ : Dev nD → PrngReg)

/-- The product of the rows with the dequantised weights: the whole result array. -/
def target (X : Vec Ideal S6x1536x2560 .bf16) (C : Vec Ideal S3072x2560 .fp8e4m3) (S : Vec Ideal S3072x80 .i8) (j : S6x1536x3072.Idx) : EReal :=
  ∑ k : Fin 2560, (show EReal from X (ix3 (j 0) (j 1) k)) * Common.weights80 (R := 3072) C S (ix2 (j 2) k)

/-- The weight rows that grid point `n` works with. -/
def wblk (c : Dev nD) (n : ℕ) (hn : n < 18) (j : S1024x2560.Idx) : EReal :=
  Common.weights80 (R := 3072) (m ((c : Thread nD τ).loc main_arg1)) (m ((c : Thread nD τ).loc main_arg2))
    (ix2 ⟨1024 * (n / 6) + (j 0).val, by have h : (j 0).val < 1024 := (j 0).isLt; omega⟩ (j 1))

/-- Window 0's block index: the rows go by the point's remainder by 6. -/
theorem idx0 : ∀ t : Fin cfg0.N, win0_0.index t 0 = t.val % 6 ∧ win0_0.index t 1 = 0 ∧ win0_0.index t 2 = 0 :=
  (by decide +kernel : ∀ t : Fin grid0.N, win0_0.index t 0 = t.val % 6 ∧ win0_0.index t 1 = 0 ∧ win0_0.index t 2 = 0)
/-- Window 1's block index: the codes go by the point's quotient by 6. -/
theorem idx1 : ∀ t : Fin cfg0.N, win0_1.index t 0 = t.val / 6 ∧ win0_1.index t 1 = 0 :=
  (by decide +kernel : ∀ t : Fin grid0.N, win0_1.index t 0 = t.val / 6 ∧ win0_1.index t 1 = 0)
/-- Window 2's block index: the scales go by the point's quotient by 6. -/
theorem idx2 : ∀ t : Fin cfg0.N, win0_2.index t 0 = t.val / 6 ∧ win0_2.index t 1 = 0 :=
  (by decide +kernel : ∀ t : Fin grid0.N, win0_2.index t 0 = t.val / 6 ∧ win0_2.index t 1 = 0)
/-- Window 3's block index: the result goes by both. -/
theorem idx3 : ∀ t : Fin cfg0.N, win0_3.index t 0 = t.val % 6 ∧ win0_3.index t 1 = 0 ∧ win0_3.index t 2 = t.val / 6 :=
  (by decide +kernel : ∀ t : Fin grid0.N, win0_3.index t 0 = t.val % 6 ∧ win0_3.index t 1 = 0 ∧ win0_3.index t 2 = t.val / 6)

/-- The grid has 18 points. -/
theorem lt18 (t : Fin cfg0.N) : t.val < 18 := lt_of_lt_of_eq t.isLt N_0

/-- The row block at a grid point, read at an index. -/
theorem iblk0_apply (c : Dev nD) (t : Fin cfg0.N) (r : Fin 1536) (k : Fin 2560) :
    (iblk m c 0 t : Vec Ideal S1x1536x2560 .bf16) (ix3 0 r k)
      = (m ((c : Thread nD τ).loc main_arg0) : Vec Ideal S6x1536x2560 .bf16) (ix3 ⟨t.val % 6, by omega⟩ r k) := by
  obtain ⟨h0, h1, h2⟩ := idx0 t
  unfold iblk
  rw [View.read_apply]
  show V m c main_arg0 _ = m (c.tc.loc main_arg0) _
  unfold V
  refine congrArg (m (c.tc.loc main_arg0)) (funext fun a => Fin.ext ?_)
  match a with
  | ⟨0, _⟩ => show win0_0.index t 0 * 1 + 1 * 0 = t.val % 6; rw [h0]; omega
  | ⟨1, _⟩ => show win0_0.index t 1 * 1536 + 1 * r.val = r.val; rw [h1]; omega
  | ⟨2, _⟩ => show win0_0.index t 2 * 2560 + 1 * k.val = k.val; rw [h2]; omega

/-- The block of weight codes at a grid point, read at an index. -/
theorem iblk1_apply (c : Dev nD) (t : Fin cfg0.N) (j : S1024x2560.Idx) :
    (iblk m c 1 t : Vec Ideal S1024x2560 .fp8e4m3) j
      = (m ((c : Thread nD τ).loc main_arg1) : Vec Ideal S3072x2560 .fp8e4m3)
          (ix2 ⟨1024 * (t.val / 6) + (j 0).val, by have h : (j 0).val < 1024 := (j 0).isLt; have := lt18 t; omega⟩ (j 1)) := by
  obtain ⟨h0, h1⟩ := idx1 t
  unfold iblk
  rw [View.read_apply]
  show V m c main_arg1 _ = m (c.tc.loc main_arg1) _
  unfold V
  refine congrArg (m (c.tc.loc main_arg1)) (funext fun a => Fin.ext ?_)
  match a with
  | ⟨0, _⟩ => show win0_1.index t 0 * 1024 + 1 * (j 0).val = 1024 * (t.val / 6) + (j 0).val; rw [h0]; omega
  | ⟨1, _⟩ => show win0_1.index t 1 * 2560 + 1 * (j 1).val = (j 1).val; rw [h1]; omega

/-- The block of scale bytes at a grid point, read at an index. -/
theorem iblk2_apply (c : Dev nD) (t : Fin cfg0.N) (r : Fin 1024) (k : Fin 80) :
    (iblk m c 2 t : Vec Ideal S1024x80 .i8) (ix2 r k)
      = (m ((c : Thread nD τ).loc main_arg2) : Vec Ideal S3072x80 .i8)
          (ix2 ⟨1024 * (t.val / 6) + r.val, by have := lt18 t; omega⟩ k) := by
  obtain ⟨h0, h1⟩ := idx2 t
  unfold iblk
  rw [View.read_apply]
  show V m c main_arg2 _ = m (c.tc.loc main_arg2) _
  unfold V
  refine congrArg (m (c.tc.loc main_arg2)) (funext fun a => Fin.ext ?_)
  match a with
  | ⟨0, _⟩ => show win0_2.index t 0 * 1024 + 1 * r.val = 1024 * (t.val / 6) + r.val; rw [h0]; omega
  | ⟨1, _⟩ => show win0_2.index t 1 * 80 + 1 * k.val = k.val; rw [h1]; omega

/-- The weights dequantised from a point's own blocks are the rows of the dequantised array that the point works with. -/
theorem weights_blk (c : Dev nD) (t : Fin cfg0.N) :
    Common.weights80 (R := 1024) (iblk m c 1 t) (iblk m c 2 t) = wblk m c t.val (lt18 t) := by
  funext j
  have h1 : (j 1).val < 2560 := (j 1).isLt
  exact congrArg₂ (fun (a : EReal) s => a * Common.factor s) (iblk1_apply m c t j) (iblk2_apply m c t (j 0) ⟨(j 1).val / 32, by omega⟩)

/-- Two points with the same quotient by 6 have the same block of weights. -/
theorem wblk_congr (c : Dev nD) (n n' : ℕ) (h : n < 18) (h' : n' < 18) (e : n / 6 = n' / 6) :
    wblk m c n h = wblk m c n' h' := by
  unfold wblk
  funext j
  simp only [e]

/-- What a point leaves that dequantises its weights. -/
theorem outsA (c : Dev nD) (t : Fin cfg0.N) (h0 : t.val % 6 = 0) :
    outsAt0 m c t.val t.isLt = (prod (iblk m c 0 t) (wblk m c t.val (lt18 t)), wblk m c t.val (lt18 t)) := by
  rw [outsAt0_A m c t h0, out_A, sout_A, weights_blk]

/-- What a point leaves that finds its weights in the scratch. -/
theorem outsB (c : Dev nD) (t : Fin cfg0.N) (h0 : ¬t.val % 6 = 0)
    (hp : (outsAt0 m c (t.val - 1) (Nat.lt_of_le_of_lt (Nat.sub_le _ _) t.isLt)).2 = wblk m c t.val (lt18 t)) :
    outsAt0 m c t.val t.isLt = (prod (iblk m c 0 t) (wblk m c t.val (lt18 t)), wblk m c t.val (lt18 t)) := by
  rw [outsAt0_B m c t h0, out_B]
  unfold sout0_B_0
  rw [hp]

/-- At every point the staged result is the product with the point's weights, and the scratch holds those weights. -/
theorem outsAt_eq (c : Dev nD) : ∀ (n : ℕ) (h : n < cfg0.N),
    outsAt0 m c n h = (prod (iblk m c 0 ⟨n, h⟩) (wblk m c n (lt18 ⟨n, h⟩)), wblk m c n (lt18 ⟨n, h⟩)) := by
  intro n
  induction n with
  | zero => exact fun h => outsA m c ⟨0, h⟩ rfl
  | succ n ih =>
    intro h
    by_cases h0 : (n + 1) % 6 = 0
    · exact outsA m c ⟨n + 1, h⟩ h0
    · refine outsB m c ⟨n + 1, h⟩ h0 ?_
      show (outsAt0 m c n (Nat.lt_of_succ_lt h)).2 = wblk m c (n + 1) (lt18 ⟨n + 1, h⟩)
      rw [ih (Nat.lt_of_succ_lt h)]
      exact wblk_congr m c n (n + 1) (lt18 ⟨n, Nat.lt_of_succ_lt h⟩) (lt18 ⟨n + 1, h⟩) (by omega)

/-- What a grid point writes back is its block of the target array. -/
theorem flushed_eq (c : Dev nD) (t : Fin cfg0.N) :
    (dats m 0 c).flushed 3 t = ((cfg0.win 3).blk t).view.read (Elt Ideal)
      (target (m ((c : Thread nD τ).loc main_arg0)) (m ((c : Thread nD τ).loc main_arg1)) (m ((c : Thread nD τ).loc main_arg2))) := by
  show (cfg0.win 3).cut (grid0.coords t) ((dats m 0 c).after 3 t) = _
  rw [after0_3, outsAt_eq m c]
  obtain ⟨e0, e1, e2⟩ := idx3 t
  funext y
  show prod (iblk m c 0 t) (wblk m c t.val (lt18 t)) y = target _ _ _ (((cfg0.win 3).blk t).view.emb y)
  have hy0 : (y 0).val < 1 := (y 0).isLt
  unfold prod target
  refine Finset.sum_congr rfl fun k _ => ?_
  have hx : (((cfg0.win 3).blk t).view.emb y 0) = (⟨t.val % 6, by omega⟩ : Fin 6) := by
    apply Fin.ext
    show win0_3.index t 0 * 1 + 1 * (y 0).val = t.val % 6
    rw [e0]; omega
  have hy : (((cfg0.win 3).blk t).view.emb y 1) = (y 1 : Fin 1536) := by
    apply Fin.ext
    show win0_3.index t 1 * 1536 + 1 * (y 1).val = (y 1).val
    rw [e1]; omega
  have hz : (((cfg0.win 3).blk t).view.emb y 2) = (⟨1024 * (t.val / 6) + (y 2).val, by have h : (y 2).val < 1024 := (y 2).isLt; have := lt18 t; omega⟩ : Fin 3072) := by
    apply Fin.ext
    show win0_3.index t 2 * 1024 + 1 * (y 2).val = 1024 * (t.val / 6) + (y 2).val
    rw [e2]; omega
  rw [hx, hy, hz]
  exact congrArg₂ (fun a b : EReal => a * b) (iblk0_apply m c t (y 1) k) rfl

/-- The result array after the run. -/
theorem final (c : Dev nD) : (dats m 0 c).arrAt 3 cfg0.N
    = target (m ((c : Thread nD τ).loc main_arg0)) (m ((c : Thread nD τ).loc main_arg1)) (m ((c : Thread nD τ).loc main_arg2)) :=
  (dats m 0 c).arrAt_eq_of_cover 3 _ (fun t _ => flushed_eq m c t) (fun i => (Value.covered_iff3 i).2 (by
    have h0 : (i 0).val < 6 := (i 0).isLt; have h1 : (i 1).val < 1536 := (i 1).isLt; have h2 : (i 2).val < 3072 := (i 2).isLt; omega))

/-- The run, read: the result array is the target, the arguments are unchanged. -/
theorem run_target : θ_run defs (onTc (τ := τ) (main (F := Ideal))) ⟨m, fun _ => 0, ρ⟩ fun r => ∀ c : Dev nD,
      r.2.mem ((c : Thread nD τ).loc main_v0)
        = target (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final m c),
      Value.kept_main_arg0 m r h c,
      Value.kept_main_arg1 m r h c,
      Value.kept_main_arg2 m r h c⟩)
    (run_main m ρ)

end Cert.OutIdeal.Gen
end
-- ==== Proof.OutRef.lean ====
/- The reference of the `Out` projection read at an index: the product of the rows with the codes scaled by `2 ^ (byte - 127)`. -/
module

public import proofs.«01_k».proof.Proof.Common
public import proofs.«01_k».proof.Proof.Gen.OutRefIdeal.Value

@[expose] public section
noncomputable section
namespace Cert.OutRefIdeal.Gen
open Idealize.ShloMosaic Idealize.ShloMosaic.TcCoe Idealize.ShloMosaic.Tactic
open Idealize.SL Idealize.SL.RA Idealize.SL.BI

/-- The reference's result at an index. -/
theorem ref_apply (X : Vec Ideal S6x1536x2560 .bf16) (C : Vec Ideal S3072x2560 .fp8e4m3) (S : Vec Ideal S3072x80 .i8)
    (b : Fin 6) (r : Fin 1536) (n : Fin 3072) :
    k0_pay1 X C S (ix3 b r n) = ∑ k : Fin 2560, (show EReal from X (ix3 b r k)) * ((show EReal from C (ix2 n k)) * Common.power (S (ix2 n ⟨k.val / 32, by omega⟩))) := by
  pointwise [k0_pay1]
  rfl

end Cert.OutRefIdeal.Gen
end
-- ==== Proof.OutEq.lean ====
/- The `Out` projection: the kernel's result is the reference's. The two differ only in how a scale byte becomes a power of
   two; they agree for bytes from 1 to 254, the precondition. -/
module

public import Idealize.ShloMosaic.Lib.ReduceAll
public import proofs.«01_k».proof.Defs
public import proofs.«01_k».proof.Proof.OutArray
public import proofs.«01_k».proof.Proof.OutRef
public import proofs.«01_k».proof.Proof.Gen.Pre_scales_out

@[expose] public section
noncomputable section
namespace Cert.OutEq
open Idealize.ShloMosaic Idealize.ShloMosaic.TcCoe Idealize.ShloMosaic.Tactic
open Idealize.SL Idealize.SL.RA Idealize.SL.BI

/-- The precondition, unfolded: every scale byte is from 1 to 254. -/
theorem scale_bounds [Cert.Pre_scales_out.Facts] (X : FVec Ideal Cert.Pre_scales_out.S6x1536x2560 .bf16) (C : FVec Ideal Cert.Pre_scales_out.S3072x2560 .fp8e4m3)
    (S : IVec Cert.Pre_scales_out.S3072x80 8) (h : ∀ i, Cert.Pre_scales_out.fn (F := Ideal) X C S i = 1#1) (i : Cert.Pre_scales_out.S3072x80.Idx) :
    1 ≤ (S i).toNat ∧ (S i).toNat ≤ 254 := by
  have : Subsingleton Cert.Pre_scales_out.S_.Idx := ⟨fun a b => funext fun d => d.elim0⟩
  have e := Host.reduce_andi_all _ _ _ _ (fun d => d.elim0) (h (fun d => d.elim0)) i
  obtain ⟨e1, e2⟩ := IntOp.andi_eq_one.1 e
  exact ⟨IntOp.cmpi_uge.1 e1, IntOp.cmpi_ule.1 e2⟩

/-- The kernel's array is the reference's. -/
theorem target_eq_ref (X : Vec Ideal Cert.OutIdeal.S6x1536x2560 .bf16) (C : Vec Ideal Cert.OutIdeal.S3072x2560 .fp8e4m3) (S : Vec Ideal Cert.OutIdeal.S3072x80 .i8)
    (hS : ∀ i, 1 ≤ (S i).toNat ∧ (S i).toNat ≤ 254) :
    Cert.OutIdeal.Gen.target X C S = Cert.OutRefIdeal.Gen.k0_pay1 (F := Ideal) X C S := by
  funext j
  obtain ⟨b, r, n, rfl⟩ : ∃ (b : Fin 6) (r : Fin 1536) (n : Fin 3072), j = ix3 b r n := ⟨j 0, j 1, j 2, eq_ix3 j⟩
  refine Eq.trans ?_ (Cert.OutRefIdeal.Gen.ref_apply X C S b r n).symm
  unfold Cert.OutIdeal.Gen.target
  refine Finset.sum_congr rfl fun k _ => ?_
  have e := Common.factor_eq_power (S (ix2 n ⟨k.val / 32, by omega⟩)) (hS _).1 (hS _).2
  rw [← e]
  rfl

/-- The value claim: run on the same arguments, kernel and reference leave the same result. -/
theorem algebraic : Cert.algebraic_OutIdeal_OutRefIdeal_pre_scales_out := fun m g m' g' hp ha => by
  refine ⟨fun c => Cert.OutIdeal.Gen.target (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)), Cert.OutIdeal.Gen.run_target m g, ?_⟩
  refine (θ_run Cert.OutRefIdeal.defs _ _).mono (fun r h c => ⟨(h c).1.trans ?_, (h c).2⟩) (Cert.OutRefIdeal.Value.run m' g')
  obtain ⟨h0, h1, h2⟩ := ha c
  rw [h0, h1, h2]
  exact (target_eq_ref _ _ _ (scale_bounds _ _ _ (congrFun (hp c)))).symm

end Cert.OutEq
end
-- ==== Proof.GateTrip.lean ====
/- The `Gate` projection: what one trip of the dequantising loop stores. Each of the 24 tiles is its place of ONE function, the
   codes times the powers of two of their scale bytes. -/
module

public import proofs.«01_k».proof.Proof.Common
public import proofs.«01_k».proof.Proof.Gen.GateIdeal.Value

@[expose] public section
noncomputable section
namespace Cert.GateIdeal.Gen
open Idealize.ShloMosaic Idealize.ShloMosaic.TcCoe Idealize.ShloMosaic.Tactic
open Idealize.SL Idealize.SL.RA Idealize.SL.BI

set_option maxRecDepth 65536 in
/-- Every store of a trip writes the dequantised weights at its own place. -/
theorem trip_pieces (𝒱 : Variants) (c : Dev nD) (bd : Option 𝒱.V) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (k0_h1 : k0_cond1 i = 1#1) (X3 : BufTy.Contents (Elt Ideal) arg3.view.ty) (X4 : BufTy.Contents (Elt Ideal) arg4.view.ty) (k : Fin k0_t1_loop.trips) :
    ∀ p ∈ tripL_k0_t1 (F := Ideal) 𝒱 c bd i arg2 harg2 arg3 harg3 arg4 harg4 arg5 harg5 arg6 harg6 k0_h1 X3 X4 k, ∀ x, p.2 x = Common.weights96 (arg3.view.read (Elt Ideal) X3) (arg4.view.read (Elt Ideal) X4) (p.1.emb x) := by
  unfold tripL_k0_t1 trip_k0_t1
  dsimp only
  refine List.forall_mem_cons.mpr ⟨fun x => Common.piece96 (arg3.view.read (Elt Ideal) X3) (arg4.view.read (Elt Ideal) X4) 23 (by decide) 92#32 rfl k.val (k0_off1 k) (k0_off25 k) (k0_off1_inb i k k0_h1) (k0_off25_inb i k k0_h1) (k0_off1_eq k) (k0_off25_eq k) x, ?_⟩
  refine List.forall_mem_cons.mpr ⟨fun x => Common.piece96 (arg3.view.read (Elt Ideal) X3) (arg4.view.read (Elt Ideal) X4) 22 (by decide) 88#32 rfl k.val (k0_off1 k) (k0_off24 k) (k0_off1_inb i k k0_h1) (k0_off24_inb i k k0_h1) (k0_off1_eq k) (k0_off24_eq k) x, ?_⟩
  refine List.forall_mem_cons.mpr ⟨fun x => Common.piece96 (arg3.view.read (Elt Ideal) X3) (arg4.view.read (Elt Ideal) X4) 21 (by decide) 84#32 rfl k.val (k0_off1 k) (k0_off23 k) (k0_off1_inb i k k0_h1) (k0_off23_inb i k k0_h1) (k0_off1_eq k) (k0_off23_eq k) x, ?_⟩
  refine List.forall_mem_cons.mpr ⟨fun x => Common.piece96 (arg3.view.read (Elt Ideal) X3) (arg4.view.read (Elt Ideal) X4) 20 (by decide) 80#32 rfl k.val (k0_off1 k) (k0_off22 k) (k0_off1_inb i k k0_h1) (k0_off22_inb i k k0_h1) (k0_off1_eq k) (k0_off22_eq k) x, ?_⟩
  refine List.forall_mem_cons.mpr ⟨fun x => Common.piece96 (arg3.view.read (Elt Ideal) X3) (arg4.view.read (Elt Ideal) X4) 19 (by decide) 76#32 rfl k.val (k0_off1 k) (k0_off21 k) (k0_off1_inb i k k0_h1) (k0_off21_inb i k k0_h1) (k0_off1_eq k) (k0_off21_eq k) x, ?_⟩
  refine List.forall_mem_cons.mpr ⟨fun x => Common.piece96 (arg3.view.read (Elt Ideal) X3) (arg4.view.read (Elt Ideal) X4) 18 (by decide) 72#32 rfl k.val (k0_off1 k) (k0_off20 k) (k0_off1_inb i k k0_h1) (k0_off20_inb i k k0_h1) (k0_off1_eq k) (k0_off20_eq k) x, ?_⟩
  refine List.forall_mem_cons.mpr ⟨fun x => Common.piece96 (arg3.view.read (Elt Ideal) X3) (arg4.view.read (Elt Ideal) X4) 17 (by decide) 68#32 rfl k.val (k0_off1 k) (k0_off19 k) (k0_off1_inb i k k0_h1) (k0_off19_inb i k k0_h1) (k0_off1_eq k) (k0_off19_eq k) x, ?_⟩
  refine List.forall_mem_cons.mpr ⟨fun x => Common.piece96 (arg3.view.read (Elt Ideal) X3) (arg4.view.read (Elt Ideal) X4) 16 (by decide) 64#32 rfl k.val (k0_off1 k) (k0_off18 k) (k0_off1_inb i k k0_h1) (k0_off18_inb i k k0_h1) (k0_off1_eq k) (k0_off18_eq k) x, ?_⟩
  refine List.forall_mem_cons.mpr ⟨fun x => Common.piece96 (arg3.view.read (Elt Ideal) X3) (arg4.view.read (Elt Ideal) X4) 15 (by decide) 60#32 rfl k.val (k0_off1 k) (k0_off17 k) (k0_off1_inb i k k0_h1) (k0_off17_inb i k k0_h1) (k0_off1_eq k) (k0_off17_eq k) x, ?_⟩
  refine List.forall_mem_cons.mpr ⟨fun x => Common.piece96 (arg3.view.read (Elt Ideal) X3) (arg4.view.read (Elt Ideal) X4) 14 (by decide) 56#32 rfl k.val (k0_off1 k) (k0_off16 k) (k0_off1_inb i k k0_h1) (k0_off16_inb i k k0_h1) (k0_off1_eq k) (k0_off16_eq k) x, ?_⟩
  refine List.forall_mem_cons.mpr ⟨fun x => Common.piece96 (arg3.view.read (Elt Ideal) X3) (arg4.view.read (Elt Ideal) X4) 13 (by decide) 52#32 rfl k.val (k0_off1 k) (k0_off15 k) (k0_off1_inb i k k0_h1) (k0_off15_inb i k k0_h1) (k0_off1_eq k) (k0_off15_eq k) x, ?_⟩
  refine List.forall_mem_cons.mpr ⟨fun x => Common.piece96 (arg3.view.read (Elt Ideal) X3) (arg4.view.read (Elt Ideal) X4) 12 (by decide) 48#32 rfl k.val (k0_off1 k) (k0_off14 k) (k0_off1_inb i k k0_h1) (k0_off14_inb i k k0_h1) (k0_off1_eq k) (k0_off14_eq k) x, ?_⟩
  refine List.forall_mem_cons.mpr ⟨fun x => Common.piece96 (arg3.view.read (Elt Ideal) X3) (arg4.view.read (Elt Ideal) X4) 11 (by decide) 44#32 rfl k.val (k0_off1 k) (k0_off13 k) (k0_off1_inb i k k0_h1) (k0_off13_inb i k k0_h1) (k0_off1_eq k) (k0_off13_eq k) x, ?_⟩
  refine List.forall_mem_cons.mpr ⟨fun x => Common.piece96 (arg3.view.read (Elt Ideal) X3) (arg4.view.read (Elt Ideal) X4) 10 (by decide) 40#32 rfl k.val (k0_off1 k) (k0_off12 k) (k0_off1_inb i k k0_h1) (k0_off12_inb i k k0_h1) (k0_off1_eq k) (k0_off12_eq k) x, ?_⟩
  refine List.forall_mem_cons.mpr ⟨fun x => Common.piece96 (arg3.view.read (Elt Ideal) X3) (arg4.view.read (Elt Ideal) X4) 9 (by decide) 36#32 rfl k.val (k0_off1 k) (k0_off11 k) (k0_off1_inb i k k0_h1) (k0_off11_inb i k k0_h1) (k0_off1_eq k) (k0_off11_eq k) x, ?_⟩
  refine List.forall_mem_cons.mpr ⟨fun x => Common.piece96 (arg3.view.read (Elt Ideal) X3) (arg4.view.read (Elt Ideal) X4) 8 (by decide) 32#32 rfl k.val (k0_off1 k) (k0_off10 k) (k0_off1_inb i k k0_h1) (k0_off10_inb i k k0_h1) (k0_off1_eq k) (k0_off10_eq k) x, ?_⟩
  refine List.forall_mem_cons.mpr ⟨fun x => Common.piece96 (arg3.view.read (Elt Ideal) X3) (arg4.view.read (Elt Ideal) X4) 7 (by decide) 28#32 rfl k.val (k0_off1 k) (k0_off9 k) (k0_off1_inb i k k0_h1) (k0_off9_inb i k k0_h1) (k0_off1_eq k) (k0_off9_eq k) x, ?_⟩
  refine List.forall_mem_cons.mpr ⟨fun x => Common.piece96 (arg3.view.read (Elt Ideal) X3) (arg4.view.read (Elt Ideal) X4) 6 (by decide) 24#32 rfl k.val (k0_off1 k) (k0_off8 k) (k0_off1_inb i k k0_h1) (k0_off8_inb i k k0_h1) (k0_off1_eq k) (k0_off8_eq k) x, ?_⟩
  refine List.forall_mem_cons.mpr ⟨fun x => Common.piece96 (arg3.view.read (Elt Ideal) X3) (arg4.view.read (Elt Ideal) X4) 5 (by decide) 20#32 rfl k.val (k0_off1 k) (k0_off7 k) (k0_off1_inb i k k0_h1) (k0_off7_inb i k k0_h1) (k0_off1_eq k) (k0_off7_eq k) x, ?_⟩
  refine List.forall_mem_cons.mpr ⟨fun x => Common.piece96 (arg3.view.read (Elt Ideal) X3) (arg4.view.read (Elt Ideal) X4) 4 (by decide) 16#32 rfl k.val (k0_off1 k) (k0_off6 k) (k0_off1_inb i k k0_h1) (k0_off6_inb i k k0_h1) (k0_off1_eq k) (k0_off6_eq k) x, ?_⟩
  refine List.forall_mem_cons.mpr ⟨fun x => Common.piece96 (arg3.view.read (Elt Ideal) X3) (arg4.view.read (Elt Ideal) X4) 3 (by decide) 12#32 rfl k.val (k0_off1 k) (k0_off5 k) (k0_off1_inb i k k0_h1) (k0_off5_inb i k k0_h1) (k0_off1_eq k) (k0_off5_eq k) x, ?_⟩
  refine List.forall_mem_cons.mpr ⟨fun x => Common.piece96 (arg3.view.read (Elt Ideal) X3) (arg4.view.read (Elt Ideal) X4) 2 (by decide) 8#32 rfl k.val (k0_off1 k) (k0_off4 k) (k0_off1_inb i k k0_h1) (k0_off4_inb i k k0_h1) (k0_off1_eq k) (k0_off4_eq k) x, ?_⟩
  refine List.forall_mem_cons.mpr ⟨fun x => Common.piece96 (arg3.view.read (Elt Ideal) X3) (arg4.view.read (Elt Ideal) X4) 1 (by decide) 4#32 rfl k.val (k0_off1 k) (k0_off3 k) (k0_off1_inb i k k0_h1) (k0_off3_inb i k k0_h1) (k0_off1_eq k) (k0_off3_eq k) x, ?_⟩
  refine List.forall_mem_cons.mpr ⟨fun x => Common.piece96 (arg3.view.read (Elt Ideal) X3) (arg4.view.read (Elt Ideal) X4) 0 (by decide) 0#32 rfl k.val (k0_off1 k) (k0_off2 k) (k0_off1_inb i k k0_h1) (k0_off2_inb i k k0_h1) (k0_off1_eq k) (k0_off2_eq k) x, ?_⟩
  exact fun p hp => absurd hp List.not_mem_nil

end Cert.GateIdeal.Gen
end
-- ==== Proof.GateBlock.lean ====
/- The `Gate` projection: what the dequantising loop leaves in the scratch, and what the body leaves in the result blocks. -/
module

public import proofs.«01_k».proof.Proof.GateTrip

@[expose] public section
noncomputable section
namespace Cert.GateIdeal.Gen
open Idealize.ShloMosaic Idealize.ShloMosaic.TcCoe Idealize.ShloMosaic.Tactic
open Idealize.SL Idealize.SL.RA Idealize.SL.BI

/-- Every store of the first `n` trips writes the dequantised weights at its own place. -/
theorem pb_pieces (𝒱 : Variants) (c : Dev nD) (bd : Option 𝒱.V) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (k0_h1 : k0_cond1 i = 1#1) (X3 : BufTy.Contents (Elt Ideal) arg3.view.ty) (X4 : BufTy.Contents (Elt Ideal) arg4.view.ty) (n : ℕ) :
    ∀ p ∈ pb_k0_t1 (F := Ideal) 𝒱 c bd i arg2 harg2 arg3 harg3 arg4 harg4 arg5 harg5 arg6 harg6 k0_h1 X3 X4 n, ∀ x, p.2 x = Common.weights96 (arg3.view.read (Elt Ideal) X3) (arg4.view.read (Elt Ideal) X4) (p.1.emb x) := by
  induction n with
  | zero => exact fun p hp => absurd hp List.not_mem_nil
  | succ n ih =>
    rw [pb_k0_t1.eq_2]; unfold pb_k0_t1Step
    split
    · intro p hp
      rcases List.mem_append.mp hp with h | h
      · exact trip_pieces 𝒱 c bd i arg2 harg2 arg3 harg3 arg4 harg4 arg5 harg5 arg6 harg6 k0_h1 X3 X4 _ p h
      · exact ih p h
    · exact ih

/-- The scratch after the loop: the dequantised weights of the block. -/
theorem sout_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : cond0_0 i) (x0 : Vec Ideal S1x1536x3072 .bf16) (x1 : Vec Ideal S1280x3072 .fp8e4m3) (x2 : Vec Ideal S1280x96 .i8) :
    sout0_A_0 c i arg2 harg2 arg3 harg3 arg4 harg4 arg5 harg5 arg6 harg6 hc0 x0 x1 x2 = Common.weights96 x1 x2 := by
  unfold sout0_A_0
  rw [View.read_writes_junk_eq_canon]
  funext y
  refine View.canon_apply_of_pieces (Common.weights96 x1 x2) _ ?_ y (scover0_A_0 c i arg2 harg2 arg3 harg3 arg4 harg4 arg5 harg5 arg6 harg6 hc0 x0 x1 x2 y)
  have h := pb_pieces Variants.none c none i arg2 harg2 arg3 harg3 arg4 harg4 arg5 harg5 arg6 harg6 hc0 (harg3.unread x1) (harg4.unread x2) k0_t1_loop.trips
  rw [harg3.read_unread, harg4.read_unread] at h
  unfold kernelRun0_A
  exact h

/-- The scratch read back whole after the loop. -/
theorem readback_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : cond0_0 i) (x0 : Vec Ideal S1x1536x3072 .bf16) (x1 : Vec Ideal S1280x3072 .fp8e4m3) (x2 : Vec Ideal S1280x96 .i8) :
    (arg6.view.readCov (pb_k0_t1 (F := Ideal) Variants.none c none i arg2 harg2 arg3 harg3 arg4 harg4 arg5 harg5 arg6 harg6 hc0 (harg3.unread x1) (harg4.unread x2) k0_t1_loop.trips) (Rect.unit (s := S1280x3072) ![0, 0] ![1280, 3072] inb_S1280x3072_S1280x3072_0_0).toLoadRect) = Common.weights96 x1 x2 := by
    rw [View.readCov_eq_canon']
    have h : View.canon (pb_k0_t1 (F := Ideal) Variants.none c none i arg2 harg2 arg3 harg3 arg4 harg4 arg5 harg5 arg6 harg6 hc0 (harg3.unread x1) (harg4.unread x2) k0_t1_loop.trips) = Common.weights96 x1 x2 := by
      rw [← sout_A c i arg2 harg2 arg3 harg3 arg4 harg4 arg5 harg5 arg6 harg6 hc0 x0 x1 x2]
      unfold sout0_A_0
      rw [View.read_writes_junk_eq_canon]
      rfl
    rw [h]
    funext j
    refine congrArg (Common.weights96 x1 x2) (funext fun d => Fin.ext ?_)
    match d with
    | ⟨0, _⟩ => show 0 + 1 * (j 0).val = (j 0).val; omega
    | ⟨1, _⟩ => show 0 + 1 * (j 1).val = (j 1).val; omega

/-- The carried scratch read whole. -/
theorem readback_B (arg6 : Memref sig .tc .vmem S1280x3072 .bf16) (harg6 : arg6.IsWhole) (xs0 : Vec Ideal S1280x3072 .bf16) :
    (View.readAt (Elt Ideal) arg6.view (Rect.unit (s := S1280x3072) ![0, 0] ![1280, 3072] inb_S1280x3072_S1280x3072_0_0).toLoadRect (harg6.unread xs0)) = xs0 := by
    rw [View.readAt_eq_ld, harg6.read_unread]
    funext j
    refine congrArg xs0 (funext fun d => Fin.ext ?_)
    match d with
    | ⟨0, _⟩ => show 0 + 1 * (j 0).val = (j 0).val; omega
    | ⟨1, _⟩ => show 0 + 1 * (j 1).val = (j 1).val; omega

/-- The product of a block of rows with a block of dequantised weights, each head's 320 columns apart. -/
def prod (X : Vec Ideal S1x1536x3072 .bf16) (W : Vec Ideal S1280x3072 .bf16) (j : S1x4x1536x320.Idx) : EReal :=
  ∑ k : Fin 3072, (show EReal from X (ix3 0 (j 2) k)) * (show EReal from W (ix2 ⟨320 * (j 1).val + (j 3).val, by have h1 : (j 1).val < 4 := (j 1).isLt; have h3 : (j 3).val < 320 := (j 3).isLt; omega⟩ k))

variable (X : Vec Ideal S1x1536x3072 .bf16) (W : Vec Ideal S1280x3072 .bf16)

/-- What the store of head `h` of a row block writes, in the first row block's form: the others' are the same operations. -/
def pay (h : Fin 4) (xb : Vec Ideal S1x256x3072 .bf16) (w : Vec Ideal S1280x3072 .bf16) : Vec Ideal S1x1x256x320 .bf16 :=
  match h with
  | 0 => k0_pay57 xb w
  | 1 => k0_pay58 xb w
  | 2 => k0_pay59 xb w
  | 3 => k0_pay60 xb w

/-- That payload at an element: the sum of products along the contraction. -/
theorem pay_apply (h : Fin 4) (xb : Vec Ideal S1x256x3072 .bf16) (w : Vec Ideal S1280x3072 .bf16) (r : Fin 256) (n : Fin 320) :
    pay h xb w (ix4 0 0 r n) = ∑ k : Fin 3072, (show EReal from xb (ix3 0 r k)) * (show EReal from w (ix2 ⟨320 * h.val + n.val, by omega⟩ k)) := by
  match h with
  | 0 =>
    show k0_pay57 xb w (ix4 0 0 r n) = _
    have e : ∀ p, (⟨320 * (0 : Fin 4).val + n.val, p⟩ : Fin 1280) = ⟨0 + n.val, by omega⟩ := fun _ => rfl
    simp only [e]
    pointwise [k0_pay57, k0_pay56]
  | 1 =>
    show k0_pay58 xb w (ix4 0 0 r n) = _
    have e : ∀ p, (⟨320 * (1 : Fin 4).val + n.val, p⟩ : Fin 1280) = ⟨320 + n.val, by omega⟩ := fun _ => rfl
    simp only [e]
    pointwise [k0_pay58, k0_pay56]
  | 2 =>
    show k0_pay59 xb w (ix4 0 0 r n) = _
    have e : ∀ p, (⟨320 * (2 : Fin 4).val + n.val, p⟩ : Fin 1280) = ⟨640 + n.val, by omega⟩ := fun _ => rfl
    simp only [e]
    pointwise [k0_pay59, k0_pay56]
  | 3 =>
    show k0_pay60 xb w (ix4 0 0 r n) = _
    have e : ∀ p, (⟨320 * (3 : Fin 4).val + n.val, p⟩ : Fin 1280) = ⟨960 + n.val, by omega⟩ := fun _ => rfl
    simp only [e]
    pointwise [k0_pay60, k0_pay56]

/-- The result store of row block `k` and head `h`. -/
def store (k : Fin 6) (h : Fin 4) : View.Piece (Elt Ideal) S1x4x1536x320 .bf16 :=
  ⟨Rect.unit (s := S1x4x1536x320) ![0, h.val, 256 * k.val, 0] S1x1x256x320.size (Common.inb_heads _ _ h.isLt (by omega)),
    pay h (View.ld X (Rect.unit (s := S1x1536x3072) ![0, 256 * k.val, 0] S1x256x3072.size (Common.inb_rows 3072 _ (by omega)))) W⟩

/-- Each result store writes the product at its own place. -/
theorem store_piece (k : Fin 6) (h : Fin 4) (x : (store X W k h).1.shape.Idx) : (store X W k h).2 x = prod X W ((store X W k h).1.emb x) := by
  obtain ⟨z, z', r, n, rfl⟩ : ∃ (z : Fin 1) (z' : Fin 1) (r : Fin 256) (n : Fin 320), x = ix4 z z' r n := ⟨x 0, x 1, x 2, x 3, eq_ix4 x⟩
  obtain rfl : z = 0 := Subsingleton.elim _ _
  obtain rfl : z' = 0 := Subsingleton.elim _ _
  refine (pay_apply h _ _ r n).trans ?_
  unfold prod
  refine Finset.sum_congr rfl fun k _ => ?_
  refine congrArg₂ (fun a b : EReal => a * b) ?_ ?_
  · refine congrArg X (funext fun d => Fin.ext ?_)
    match d with
    | ⟨0, _⟩ => rfl
    | ⟨1, _⟩ => rfl
    | ⟨2, _⟩ => show 0 + 1 * k.val = k.val; omega
  · refine congrArg W (funext fun d => Fin.ext ?_)
    match d with
    | ⟨0, _⟩ => show 320 * h.val + n.val = 320 * (h.val + 1 * 0) + (0 + 1 * n.val); omega
    | ⟨1, _⟩ => rfl

/-- The result stores of row block `k`, the last first, before those in `L`. -/
def blockStores (k : Fin 6) (L : List (View.Piece (Elt Ideal) S1x4x1536x320 .bf16)) : List (View.Piece (Elt Ideal) S1x4x1536x320 .bf16) :=
  store X W k 3 :: store X W k 2 :: store X W k 1 :: store X W k 0 :: L

/-- All the result stores, the last first. -/
def stores : List (View.Piece (Elt Ideal) S1x4x1536x320 .bf16) :=
  blockStores X W 5 (blockStores X W 4 (blockStores X W 3 (blockStores X W 2 (blockStores X W 1 (blockStores X W 0 [])))))

/-- The stores of one more row block write the product if those in `L` do. -/
theorem blockStores_pieces (k : Fin 6) (L : List (View.Piece (Elt Ideal) S1x4x1536x320 .bf16))
    (hL : ∀ p ∈ L, ∀ x, p.2 x = prod X W (p.1.emb x)) : ∀ p ∈ blockStores X W k L, ∀ x, p.2 x = prod X W (p.1.emb x) := by
  have h := store_piece X W k
  simp only [blockStores, List.forall_mem_cons]
  exact ⟨h 3, h 2, h 1, h 0, hL⟩

/-- All of them write the product, each at its own place. -/
theorem stores_pieces : ∀ p ∈ stores X W, ∀ x, p.2 x = prod X W (p.1.emb x) := by
  have h := blockStores_pieces X W
  exact h 5 _ (h 4 _ (h 3 _ (h 2 _ (h 1 _ (h 0 _ fun p hp => absurd hp List.not_mem_nil)))))

set_option maxRecDepth 65536 in
set_option maxHeartbeats 400000 in
/-- Every store of the body writes the product at its own place. -/
theorem out_A_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : cond0_0 i) (x0 : Vec Ideal S1x1536x3072 .bf16) (x1 : Vec Ideal S1280x3072 .fp8e4m3) (x2 : Vec Ideal S1280x96 .i8) :
    ∀ p ∈ (kernelRun0_A c i arg2 harg2 arg3 harg3 arg4 harg4 arg5 harg5 arg6 harg6 hc0 x0 x1 x2).1, ∀ x, p.2 x = prod (arg2.view.read (Elt Ideal) (harg2.unread x0)) (arg6.view.readCov (pb_k0_t1 (F := Ideal) Variants.none c none i arg2 harg2 arg3 harg3 arg4 harg4 arg5 harg5 arg6 harg6 hc0 (harg3.unread x1) (harg4.unread x2) k0_t1_loop.trips) (Rect.unit (s := S1280x3072) ![0, 0] ![1280, 3072] inb_S1280x3072_S1280x3072_0_0).toLoadRect) (p.1.emb x) := by
  unfold kernelRun0_A
  dsimp only
  exact stores_pieces (arg2.view.read (Elt Ideal) (harg2.unread x0)) (arg6.view.readCov (pb_k0_t1 (F := Ideal) Variants.none c none i arg2 harg2 arg3 harg3 arg4 harg4 arg5 harg5 arg6 harg6 hc0 (harg3.unread x1) (harg4.unread x2) k0_t1_loop.trips) (Rect.unit (s := S1280x3072) ![0, 0] ![1280, 3072] inb_S1280x3072_S1280x3072_0_0).toLoadRect)

/-- With the weights just dequantised: the result block is the product. -/
theorem out_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : cond0_0 i) (x0 : Vec Ideal S1x1536x3072 .bf16) (x1 : Vec Ideal S1280x3072 .fp8e4m3) (x2 : Vec Ideal S1280x96 .i8) :
    out0_A_3 c i arg2 harg2 arg3 harg3 arg4 harg4 arg5 harg5 arg6 harg6 hc0 x0 x1 x2 = prod x0 (Common.weights96 x1 x2) := by
  have hp := out_A_pieces c i arg2 harg2 arg3 harg3 arg4 harg4 arg5 harg5 arg6 harg6 hc0 x0 x1 x2
  rw [readback_A c i arg2 harg2 arg3 harg3 arg4 harg4 arg5 harg5 arg6 harg6 hc0 x0 x1 x2, harg2.read_unread] at hp
  unfold out0_A_3
  rw [View.read_writes_junk_eq_canon]
  funext y
  exact View.canon_apply_of_pieces (prod x0 (Common.weights96 x1 x2)) _ hp y (cover0_A_3 c i arg2 harg2 arg3 harg3 arg4 harg4 arg5 harg5 arg6 harg6 hc0 x0 x1 x2 y)

set_option maxRecDepth 65536 in
set_option maxHeartbeats 400000 in
/-- Every store of the body writes the product at its own place. -/
theorem out_B_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : ¬ cond0_0 i) (x0 : Vec Ideal S1x1536x3072 .bf16) (x1 : Vec Ideal S1280x3072 .fp8e4m3) (x2 : Vec Ideal S1280x96 .i8) (xs0 : Vec Ideal S1280x3072 .bf16) :
    ∀ p ∈ (kernelRun0_B c i arg2 harg2 arg3 harg3 arg4 harg4 arg5 harg5 arg6 harg6 hc0 x0 x1 x2 xs0).1, ∀ x, p.2 x = prod (arg2.view.read (Elt Ideal) (harg2.unread x0)) (View.readAt (Elt Ideal) arg6.view (Rect.unit (s := S1280x3072) ![0, 0] ![1280, 3072] inb_S1280x3072_S1280x3072_0_0).toLoadRect (harg6.unread xs0)) (p.1.emb x) := by
  unfold kernelRun0_B
  dsimp only
  exact stores_pieces (arg2.view.read (Elt Ideal) (harg2.unread x0)) (View.readAt (Elt Ideal) arg6.view (Rect.unit (s := S1280x3072) ![0, 0] ![1280, 3072] inb_S1280x3072_S1280x3072_0_0).toLoadRect (harg6.unread xs0))

/-- With the weights carried in the scratch: the result block is the product. -/
theorem out_B (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S1x4x1536x320 .bf16) (harg5 : arg5.IsWhole) (arg6 : Memref sig .tc .vmem S1280x3072 .bf16) (harg6 : arg6.IsWhole) (hc0 : ¬ cond0_0 i) (x0 : Vec Ideal S1x1536x3072 .bf16) (x1 : Vec Ideal S1280x3072 .fp8e4m3) (x2 : Vec Ideal S1280x96 .i8) (xs0 : Vec Ideal S1280x3072 .bf16) :
    out0_B_3 c i arg2 harg2 arg3 harg3 arg4 harg4 arg5 harg5 arg6 harg6 hc0 x0 x1 x2 xs0 = prod x0 xs0 := by
  have hp := out_B_pieces c i arg2 harg2 arg3 harg3 arg4 harg4 arg5 harg5 arg6 harg6 hc0 x0 x1 x2 xs0
  rw [readback_B arg6 harg6 xs0, harg2.read_unread] at hp
  unfold out0_B_3
  rw [View.read_writes_junk_eq_canon]
  funext y
  exact View.canon_apply_of_pieces (prod x0 xs0) _ hp y (cover0_B_3 c i arg2 harg2 arg3 harg3 arg4 harg4 arg5 harg5 arg6 harg6 hc0 x0 x1 x2 xs0 y)

end Cert.GateIdeal.Gen
end
-- ==== Proof.GateArray.lean ====
/- The `Gate` projection over the whole grid: every block the kernel writes back is the block of ONE array, the product of
   the rows with the dequantised weights. The weights are dequantised at the first of every six grid points and carried in
   the scratch over the other five. -/
module

public import proofs.«01_k».proof.Proof.GateBlock

@[expose] public section
noncomputable section
namespace Cert.GateIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ) (ρ : Dev nD → PrngReg)

/-- The product of the rows with the dequantised weights: the whole result array. -/
def target (X : Vec Ideal S6x1536x3072 .bf16) (C : Vec Ideal S2560x3072 .fp8e4m3) (S : Vec Ideal S2560x96 .i8) (j : S6x8x1536x320.Idx) : EReal :=
  ∑ k : Fin 3072, (show EReal from X (ix3 (j 0) (j 2) k)) * Common.weights96 (R := 2560) C S (ix2 ⟨320 * (j 1).val + (j 3).val, by have h1 : (j 1).val < 8 := (j 1).isLt; have h3 : (j 3).val < 320 := (j 3).isLt; omega⟩ k)

/-- The weight rows that grid point `n` works with. -/
def wblk (c : Dev nD) (n : ℕ) (hn : n < 12) (j : S1280x3072.Idx) : EReal :=
  Common.weights96 (R := 2560) (m ((c : Thread nD τ).loc main_arg1)) (m ((c : Thread nD τ).loc main_arg2))
    (ix2 ⟨1280 * (n / 6) + (j 0).val, by have h : (j 0).val < 1280 := (j 0).isLt; omega⟩ (j 1))

/-- Window 0's block index: the rows go by the point's remainder by 6. -/
theorem idx0 : ∀ t : Fin cfg0.N, win0_0.index t 0 = t.val % 6 ∧ win0_0.index t 1 = 0 ∧ win0_0.index t 2 = 0 :=
  (by decide +kernel : ∀ t : Fin grid0.N, win0_0.index t 0 = t.val % 6 ∧ win0_0.index t 1 = 0 ∧ win0_0.index t 2 = 0)
/-- Window 1's block index: the codes go by the point's quotient by 6. -/
theorem idx1 : ∀ t : Fin cfg0.N, win0_1.index t 0 = t.val / 6 ∧ win0_1.index t 1 = 0 :=
  (by decide +kernel : ∀ t : Fin grid0.N, win0_1.index t 0 = t.val / 6 ∧ win0_1.index t 1 = 0)
/-- Window 2's block index: the scales go by the point's quotient by 6. -/
theorem idx2 : ∀ t : Fin cfg0.N, win0_2.index t 0 = t.val / 6 ∧ win0_2.index t 1 = 0 :=
  (by decide +kernel : ∀ t : Fin grid0.N, win0_2.index t 0 = t.val / 6 ∧ win0_2.index t 1 = 0)
/-- Window 3's block index: the result goes by both. -/
theorem idx3 : ∀ t : Fin cfg0.N, win0_3.index t 0 = t.val % 6 ∧ win0_3.index t 1 = t.val / 6 ∧ win0_3.index t 2 = 0 ∧ win0_3.index t 3 = 0 :=
  (by decide +kernel : ∀ t : Fin grid0.N, win0_3.index t 0 = t.val % 6 ∧ win0_3.index t 1 = t.val / 6 ∧ win0_3.index t 2 = 0 ∧ win0_3.index t 3 = 0)

/-- The grid has 12 points. -/
theorem ltN (t : Fin cfg0.N) : t.val < 12 := lt_of_lt_of_eq t.isLt N_0

/-- The row block at a grid point, read at an index. -/
theorem iblk0_apply (c : Dev nD) (t : Fin cfg0.N) (r : Fin 1536) (k : Fin 3072) :
    (iblk m c 0 t : Vec Ideal S1x1536x3072 .bf16) (ix3 0 r k)
      = (m ((c : Thread nD τ).loc main_arg0) : Vec Ideal S6x1536x3072 .bf16) (ix3 ⟨t.val % 6, by omega⟩ r k) := by
  obtain ⟨h0, h1, h2⟩ := idx0 t
  unfold iblk
  rw [View.read_apply]
  show V m c main_arg0 _ = m (c.tc.loc main_arg0) _
  unfold V
  refine congrArg (m (c.tc.loc main_arg0)) (funext fun a => Fin.ext ?_)
  match a with
  | ⟨0, _⟩ => show win0_0.index t 0 * 1 + 1 * 0 = t.val % 6; rw [h0]; omega
  | ⟨1, _⟩ => show win0_0.index t 1 * 1536 + 1 * r.val = r.val; rw [h1]; omega
  | ⟨2, _⟩ => show win0_0.index t 2 * 3072 + 1 * k.val = k.val; rw [h2]; omega

/-- The block of weight codes at a grid point, read at an index. -/
theorem iblk1_apply (c : Dev nD) (t : Fin cfg0.N) (j : S1280x3072.Idx) :
    (iblk m c 1 t : Vec Ideal S1280x3072 .fp8e4m3) j
      = (m ((c : Thread nD τ).loc main_arg1) : Vec Ideal S2560x3072 .fp8e4m3)
          (ix2 ⟨1280 * (t.val / 6) + (j 0).val, by have h : (j 0).val < 1280 := (j 0).isLt; have := ltN t; omega⟩ (j 1)) := by
  obtain ⟨h0, h1⟩ := idx1 t
  unfold iblk
  rw [View.read_apply]
  show V m c main_arg1 _ = m (c.tc.loc main_arg1) _
  unfold V
  refine congrArg (m (c.tc.loc main_arg1)) (funext fun a => Fin.ext ?_)
  match a with
  | ⟨0, _⟩ => show win0_1.index t 0 * 1280 + 1 * (j 0).val = 1280 * (t.val / 6) + (j 0).val; rw [h0]; omega
  | ⟨1, _⟩ => show win0_1.index t 1 * 3072 + 1 * (j 1).val = (j 1).val; rw [h1]; omega

/-- The block of scale bytes at a grid point, read at an index. -/
theorem iblk2_apply (c : Dev nD) (t : Fin cfg0.N) (r : Fin 1280) (k : Fin 96) :
    (iblk m c 2 t : Vec Ideal S1280x96 .i8) (ix2 r k)
      = (m ((c : Thread nD τ).loc main_arg2) : Vec Ideal S2560x96 .i8)
          (ix2 ⟨1280 * (t.val / 6) + r.val, by have := ltN t; omega⟩ k) := by
  obtain ⟨h0, h1⟩ := idx2 t
  unfold iblk
  rw [View.read_apply]
  show V m c main_arg2 _ = m (c.tc.loc main_arg2) _
  unfold V
  refine congrArg (m (c.tc.loc main_arg2)) (funext fun a => Fin.ext ?_)
  match a with
  | ⟨0, _⟩ => show win0_2.index t 0 * 1280 + 1 * r.val = 1280 * (t.val / 6) + r.val; rw [h0]; omega
  | ⟨1, _⟩ => show win0_2.index t 1 * 96 + 1 * k.val = k.val; rw [h1]; omega

/-- The weights dequantised from a point's own blocks are the rows of the dequantised array that the point works with. -/
theorem weights_blk (c : Dev nD) (t : Fin cfg0.N) :
    Common.weights96 (R := 1280) (iblk m c 1 t) (iblk m c 2 t) = wblk m c t.val (ltN t) := by
  funext j
  have h1 : (j 1).val < 3072 := (j 1).isLt
  exact congrArg₂ (fun (a : EReal) s => a * Common.factor s) (iblk1_apply m c t j) (iblk2_apply m c t (j 0) ⟨(j 1).val / 32, by omega⟩)

/-- Two points with the same quotient by 6 have the same block of weights. -/
theorem wblk_congr (c : Dev nD) (n n' : ℕ) (h : n < 12) (h' : n' < 12) (e : n / 6 = n' / 6) :
    wblk m c n h = wblk m c n' h' := by
  unfold wblk
  funext j
  simp only [e]

/-- What a point leaves that dequantises its weights. -/
theorem outsA (c : Dev nD) (t : Fin cfg0.N) (h0 : t.val % 6 = 0) :
    outsAt0 m c t.val t.isLt = (prod (iblk m c 0 t) (wblk m c t.val (ltN t)), wblk m c t.val (ltN t)) := by
  rw [outsAt0_A m c t h0, out_A, sout_A, weights_blk]

/-- What a point leaves that finds its weights in the scratch. -/
theorem outsB (c : Dev nD) (t : Fin cfg0.N) (h0 : ¬t.val % 6 = 0)
    (hp : (outsAt0 m c (t.val - 1) (Nat.lt_of_le_of_lt (Nat.sub_le _ _) t.isLt)).2 = wblk m c t.val (ltN t)) :
    outsAt0 m c t.val t.isLt = (prod (iblk m c 0 t) (wblk m c t.val (ltN t)), wblk m c t.val (ltN t)) := by
  rw [outsAt0_B m c t h0, out_B]
  unfold sout0_B_0
  rw [hp]

/-- At every point the staged result is the product with the point's weights, and the scratch holds those weights. -/
theorem outsAt_eq (c : Dev nD) : ∀ (n : ℕ) (h : n < cfg0.N),
    outsAt0 m c n h = (prod (iblk m c 0 ⟨n, h⟩) (wblk m c n (ltN ⟨n, h⟩)), wblk m c n (ltN ⟨n, h⟩)) := by
  intro n
  induction n with
  | zero => exact fun h => outsA m c ⟨0, h⟩ rfl
  | succ n ih =>
    intro h
    by_cases h0 : (n + 1) % 6 = 0
    · exact outsA m c ⟨n + 1, h⟩ h0
    · refine outsB m c ⟨n + 1, h⟩ h0 ?_
      show (outsAt0 m c n (Nat.lt_of_succ_lt h)).2 = wblk m c (n + 1) (ltN ⟨n + 1, h⟩)
      rw [ih (Nat.lt_of_succ_lt h)]
      exact wblk_congr m c n (n + 1) (ltN ⟨n, Nat.lt_of_succ_lt h⟩) (ltN ⟨n + 1, h⟩) (by omega)

/-- What a grid point writes back is its block of the target array. -/
theorem flushed_eq (c : Dev nD) (t : Fin cfg0.N) :
    (dats m 0 c).flushed 3 t = ((cfg0.win 3).blk t).view.read (Elt Ideal)
      (target (m ((c : Thread nD τ).loc main_arg0)) (m ((c : Thread nD τ).loc main_arg1)) (m ((c : Thread nD τ).loc main_arg2))) := by
  show (cfg0.win 3).cut (grid0.coords t) ((dats m 0 c).after 3 t) = _
  rw [after0_3, outsAt_eq m c]
  obtain ⟨e0, e1, e2, e3⟩ := idx3 t
  funext y
  show prod (iblk m c 0 t) (wblk m c t.val (ltN t)) y = target _ _ _ (((cfg0.win 3).blk t).view.emb y)
  have hy0 : (y 0).val < 1 := (y 0).isLt
  have hy1 : (y 1).val < 4 := (y 1).isLt
  have hy3 : (y 3).val < 320 := (y 3).isLt
  have ht := ltN t
  unfold prod target
  refine Finset.sum_congr rfl fun k _ => ?_
  have hx : (((cfg0.win 3).blk t).view.emb y 0) = (⟨t.val % 6, by omega⟩ : Fin 6) := by
    apply Fin.ext
    show win0_3.index t 0 * 1 + 1 * (y 0).val = t.val % 6
    rw [e0]; omega
  have hy : (((cfg0.win 3).blk t).view.emb y 2) = (y 2 : Fin 1536) := by
    apply Fin.ext
    show win0_3.index t 2 * 1536 + 1 * (y 2).val = (y 2).val
    rw [e2]; omega
  have hz : 320 * (((cfg0.win 3).blk t).view.emb y 1).val + (((cfg0.win 3).blk t).view.emb y 3).val = 1280 * (t.val / 6) + (320 * (y 1).val + (y 3).val) := by
    show 320 * (win0_3.index t 1 * 4 + 1 * (y 1).val) + (win0_3.index t 3 * 320 + 1 * (y 3).val) = _
    rw [e1, e3]; omega
  refine congrArg₂ (fun a b : EReal => a * b) ?_ ?_
  · rw [hx, hy]
    exact iblk0_apply m c t (y 2) k
  · unfold wblk
    refine congrArg (Common.weights96 _ _) (funext fun d => Fin.ext ?_)
    match d with
    | ⟨0, _⟩ => exact hz.symm
    | ⟨1, _⟩ => rfl

/-- The result array after the run. -/
theorem final (c : Dev nD) : (dats m 0 c).arrAt 3 cfg0.N
    = target (m ((c : Thread nD τ).loc main_arg0)) (m ((c : Thread nD τ).loc main_arg1)) (m ((c : Thread nD τ).loc main_arg2)) :=
  (dats m 0 c).arrAt_eq_of_cover 3 _ (fun t _ => flushed_eq m c t) (fun i => (Value.covered_iff3 i).2 (by
    have h0 : (i 0).val < 6 := (i 0).isLt; have h1 : (i 1).val < 8 := (i 1).isLt; have h2 : (i 2).val < 1536 := (i 2).isLt; have h3 : (i 3).val < 320 := (i 3).isLt; omega))

/-- The run, read: the result array is the target, the arguments are unchanged. -/
theorem run_target : θ_run defs (onTc (τ := τ) (main (F := Ideal))) ⟨m, fun _ => 0, ρ⟩ fun r => ∀ c : Dev nD,
      r.2.mem ((c : Thread nD τ).loc main_v0)
        = target (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post3 m r h c).trans (final m c),
      Value.kept_main_arg0 m r h c,
      Value.kept_main_arg1 m r h c,
      Value.kept_main_arg2 m r h c⟩)
    (run_main m ρ)

end Cert.GateIdeal.Gen
end
-- ==== Proof.GateRef.lean ====
/- The reference of the `Gate` projection read at an index: the product of the rows with the codes scaled by `2 ^ (byte - 127)`. -/
module

public import proofs.«01_k».proof.Proof.Common
public import proofs.«01_k».proof.Proof.Gen.GateRefIdeal.Value

@[expose] public section
noncomputable section
namespace Cert.GateRefIdeal.Gen
open Idealize.ShloMosaic Idealize.ShloMosaic.TcCoe Idealize.ShloMosaic.Tactic
open Idealize.SL Idealize.SL.RA Idealize.SL.BI

/-- The reference's result at an index. -/
theorem ref_apply (X : Vec Ideal S6x1536x3072 .bf16) (C : Vec Ideal S2560x3072 .fp8e4m3) (S : Vec Ideal S2560x96 .i8)
    (b : Fin 6) (h : Fin 8) (r : Fin 1536) (n : Fin 320) :
    k0_pay1 X C S (ix4 b h r n) = ∑ k : Fin 3072, (show EReal from X (ix3 b r k)) * ((show EReal from C (ix2 ⟨320 * h.val + n.val, by omega⟩ k)) * Common.power (S (ix2 ⟨320 * h.val + n.val, by omega⟩ ⟨k.val / 32, by omega⟩))) := by
  pointwise [k0_pay1]
  have e : h.val * 320 + n.val = 320 * h.val + n.val := by omega
  simp only [e]
  rfl

end Cert.GateRefIdeal.Gen
end
-- ==== Proof.GateEq.lean ====
/- The `Gate` projection: the kernel's result is the reference's. The two differ only in how a scale byte becomes a power of
   two; they agree for bytes from 1 to 254, the precondition. -/
module

public import Idealize.ShloMosaic.Lib.ReduceAll
public import proofs.«01_k».proof.Defs
public import proofs.«01_k».proof.Proof.GateArray
public import proofs.«01_k».proof.Proof.GateRef
public import proofs.«01_k».proof.Proof.Gen.Pre_scales_gate

@[expose] public section
noncomputable section
namespace Cert.GateEq
open Idealize.ShloMosaic Idealize.ShloMosaic.TcCoe Idealize.ShloMosaic.Tactic
open Idealize.SL Idealize.SL.RA Idealize.SL.BI

/-- The precondition, unfolded: every scale byte is from 1 to 254. -/
theorem scale_bounds [Cert.Pre_scales_gate.Facts] (X : FVec Ideal Cert.Pre_scales_gate.S6x1536x3072 .bf16) (C : FVec Ideal Cert.Pre_scales_gate.S2560x3072 .fp8e4m3)
    (S : IVec Cert.Pre_scales_gate.S2560x96 8) (h : ∀ i, Cert.Pre_scales_gate.fn (F := Ideal) X C S i = 1#1) (i : Cert.Pre_scales_gate.S2560x96.Idx) :
    1 ≤ (S i).toNat ∧ (S i).toNat ≤ 254 := by
  have : Subsingleton Cert.Pre_scales_gate.S_.Idx := ⟨fun a b => funext fun d => d.elim0⟩
  have e := Host.reduce_andi_all _ _ _ _ (fun d => d.elim0) (h (fun d => d.elim0)) i
  obtain ⟨e1, e2⟩ := IntOp.andi_eq_one.1 e
  exact ⟨IntOp.cmpi_uge.1 e1, IntOp.cmpi_ule.1 e2⟩

/-- The kernel's array is the reference's. -/
theorem target_eq_ref (X : Vec Ideal Cert.GateIdeal.S6x1536x3072 .bf16) (C : Vec Ideal Cert.GateIdeal.S2560x3072 .fp8e4m3) (S : Vec Ideal Cert.GateIdeal.S2560x96 .i8)
    (hS : ∀ i, 1 ≤ (S i).toNat ∧ (S i).toNat ≤ 254) :
    Cert.GateIdeal.Gen.target X C S = Cert.GateRefIdeal.Gen.k0_pay1 (F := Ideal) X C S := by
  funext j
  obtain ⟨b, h, r, n, rfl⟩ : ∃ (b : Fin 6) (h : Fin 8) (r : Fin 1536) (n : Fin 320), j = ix4 b h r n := ⟨j 0, j 1, j 2, j 3, eq_ix4 j⟩
  refine Eq.trans ?_ (Cert.GateRefIdeal.Gen.ref_apply X C S b h r n).symm
  unfold Cert.GateIdeal.Gen.target
  refine Finset.sum_congr rfl fun k _ => ?_
  have e := Common.factor_eq_power (S (ix2 ⟨320 * h.val + n.val, by omega⟩ ⟨k.val / 32, by omega⟩)) (hS _).1 (hS _).2
  rw [← e]
  rfl

/-- The value claim: run on the same arguments, kernel and reference leave the same result. -/
theorem algebraic : Cert.algebraic_GateIdeal_GateRefIdeal_pre_scales_gate := fun m g m' g' hp ha => by
  refine ⟨fun c => Cert.GateIdeal.Gen.target (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)), Cert.GateIdeal.Gen.run_target m g, ?_⟩
  refine (θ_run Cert.GateRefIdeal.defs _ _).mono (fun r h c => ⟨(h c).1.trans ?_, (h c).2⟩) (Cert.GateRefIdeal.Value.run m' g')
  obtain ⟨h0, h1, h2⟩ := ha c
  rw [h0, h1, h2]
  exact (target_eq_ref _ _ _ (scale_bounds _ _ _ (congrFun (hp c)))).symm

end Cert.GateEq
end
-- ==== Proof.QkTrip.lean ====
/- The `Qk` projection: what one trip of the dequantising loop stores. Each of the 24 tiles is its place of ONE function, the
   codes times the powers of two of their scale bytes. -/
module

public import proofs.«01_k».proof.Proof.Common
public import proofs.«01_k».proof.Proof.Gen.QkIdeal.Value

@[expose] public section
noncomputable section
namespace Cert.QkIdeal.Gen
open Idealize.ShloMosaic Idealize.ShloMosaic.TcCoe Idealize.ShloMosaic.Tactic
open Idealize.SL Idealize.SL.RA Idealize.SL.BI

set_option maxRecDepth 65536 in
/-- Every store of a trip writes the dequantised weights at its own place. -/
theorem trip_pieces (𝒱 : Variants) (c : Dev nD) (bd : Option 𝒱.V) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (k0_h1 : k0_cond1 i = 1#1) (X3 : BufTy.Contents (Elt Ideal) arg3.view.ty) (X4 : BufTy.Contents (Elt Ideal) arg4.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 k0_h1 X3 X4 k, ∀ x, p.2 x = Common.weights96 (arg3.view.read (Elt Ideal) X3) (arg4.view.read (Elt Ideal) X4) (p.1.emb x) := by
  unfold tripL_k0_t1 trip_k0_t1
  dsimp only
  refine List.forall_mem_cons.mpr ⟨fun x => Common.piece96 (arg3.view.read (Elt Ideal) X3) (arg4.view.read (Elt Ideal) X4) 23 (by decide) 92#32 rfl k.val (k0_off1 k) (k0_off25 k) (k0_off1_inb i k k0_h1) (k0_off25_inb i k k0_h1) (k0_off1_eq k) (k0_off25_eq k) x, ?_⟩
  refine List.forall_mem_cons.mpr ⟨fun x => Common.piece96 (arg3.view.read (Elt Ideal) X3) (arg4.view.read (Elt Ideal) X4) 22 (by decide) 88#32 rfl k.val (k0_off1 k) (k0_off24 k) (k0_off1_inb i k k0_h1) (k0_off24_inb i k k0_h1) (k0_off1_eq k) (k0_off24_eq k) x, ?_⟩
  refine List.forall_mem_cons.mpr ⟨fun x => Common.piece96 (arg3.view.read (Elt Ideal) X3) (arg4.view.read (Elt Ideal) X4) 21 (by decide) 84#32 rfl k.val (k0_off1 k) (k0_off23 k) (k0_off1_inb i k k0_h1) (k0_off23_inb i k k0_h1) (k0_off1_eq k) (k0_off23_eq k) x, ?_⟩
  refine List.forall_mem_cons.mpr ⟨fun x => Common.piece96 (arg3.view.read (Elt Ideal) X3) (arg4.view.read (Elt Ideal) X4) 20 (by decide) 80#32 rfl k.val (k0_off1 k) (k0_off22 k) (k0_off1_inb i k k0_h1) (k0_off22_inb i k k0_h1) (k0_off1_eq k) (k0_off22_eq k) x, ?_⟩
  refine List.forall_mem_cons.mpr ⟨fun x => Common.piece96 (arg3.view.read (Elt Ideal) X3) (arg4.view.read (Elt Ideal) X4) 19 (by decide) 76#32 rfl k.val (k0_off1 k) (k0_off21 k) (k0_off1_inb i k k0_h1) (k0_off21_inb i k k0_h1) (k0_off1_eq k) (k0_off21_eq k) x, ?_⟩
  refine List.forall_mem_cons.mpr ⟨fun x => Common.piece96 (arg3.view.read (Elt Ideal) X3) (arg4.view.read (Elt Ideal) X4) 18 (by decide) 72#32 rfl k.val (k0_off1 k) (k0_off20 k) (k0_off1_inb i k k0_h1) (k0_off20_inb i k k0_h1) (k0_off1_eq k) (k0_off20_eq k) x, ?_⟩
  refine List.forall_mem_cons.mpr ⟨fun x => Common.piece96 (arg3.view.read (Elt Ideal) X3) (arg4.view.read (Elt Ideal) X4) 17 (by decide) 68#32 rfl k.val (k0_off1 k) (k0_off19 k) (k0_off1_inb i k k0_h1) (k0_off19_inb i k k0_h1) (k0_off1_eq k) (k0_off19_eq k) x, ?_⟩
  refine List.forall_mem_cons.mpr ⟨fun x => Common.piece96 (arg3.view.read (Elt Ideal) X3) (arg4.view.read (Elt Ideal) X4) 16 (by decide) 64#32 rfl k.val (k0_off1 k) (k0_off18 k) (k0_off1_inb i k k0_h1) (k0_off18_inb i k k0_h1) (k0_off1_eq k) (k0_off18_eq k) x, ?_⟩
  refine List.forall_mem_cons.mpr ⟨fun x => Common.piece96 (arg3.view.read (Elt Ideal) X3) (arg4.view.read (Elt Ideal) X4) 15 (by decide) 60#32 rfl k.val (k0_off1 k) (k0_off17 k) (k0_off1_inb i k k0_h1) (k0_off17_inb i k k0_h1) (k0_off1_eq k) (k0_off17_eq k) x, ?_⟩
  refine List.forall_mem_cons.mpr ⟨fun x => Common.piece96 (arg3.view.read (Elt Ideal) X3) (arg4.view.read (Elt Ideal) X4) 14 (by decide) 56#32 rfl k.val (k0_off1 k) (k0_off16 k) (k0_off1_inb i k k0_h1) (k0_off16_inb i k k0_h1) (k0_off1_eq k) (k0_off16_eq k) x, ?_⟩
  refine List.forall_mem_cons.mpr ⟨fun x => Common.piece96 (arg3.view.read (Elt Ideal) X3) (arg4.view.read (Elt Ideal) X4) 13 (by decide) 52#32 rfl k.val (k0_off1 k) (k0_off15 k) (k0_off1_inb i k k0_h1) (k0_off15_inb i k k0_h1) (k0_off1_eq k) (k0_off15_eq k) x, ?_⟩
  refine List.forall_mem_cons.mpr ⟨fun x => Common.piece96 (arg3.view.read (Elt Ideal) X3) (arg4.view.read (Elt Ideal) X4) 12 (by decide) 48#32 rfl k.val (k0_off1 k) (k0_off14 k) (k0_off1_inb i k k0_h1) (k0_off14_inb i k k0_h1) (k0_off1_eq k) (k0_off14_eq k) x, ?_⟩
  refine List.forall_mem_cons.mpr ⟨fun x => Common.piece96 (arg3.view.read (Elt Ideal) X3) (arg4.view.read (Elt Ideal) X4) 11 (by decide) 44#32 rfl k.val (k0_off1 k) (k0_off13 k) (k0_off1_inb i k k0_h1) (k0_off13_inb i k k0_h1) (k0_off1_eq k) (k0_off13_eq k) x, ?_⟩
  refine List.forall_mem_cons.mpr ⟨fun x => Common.piece96 (arg3.view.read (Elt Ideal) X3) (arg4.view.read (Elt Ideal) X4) 10 (by decide) 40#32 rfl k.val (k0_off1 k) (k0_off12 k) (k0_off1_inb i k k0_h1) (k0_off12_inb i k k0_h1) (k0_off1_eq k) (k0_off12_eq k) x, ?_⟩
  refine List.forall_mem_cons.mpr ⟨fun x => Common.piece96 (arg3.view.read (Elt Ideal) X3) (arg4.view.read (Elt Ideal) X4) 9 (by decide) 36#32 rfl k.val (k0_off1 k) (k0_off11 k) (k0_off1_inb i k k0_h1) (k0_off11_inb i k k0_h1) (k0_off1_eq k) (k0_off11_eq k) x, ?_⟩
  refine List.forall_mem_cons.mpr ⟨fun x => Common.piece96 (arg3.view.read (Elt Ideal) X3) (arg4.view.read (Elt Ideal) X4) 8 (by decide) 32#32 rfl k.val (k0_off1 k) (k0_off10 k) (k0_off1_inb i k k0_h1) (k0_off10_inb i k k0_h1) (k0_off1_eq k) (k0_off10_eq k) x, ?_⟩
  refine List.forall_mem_cons.mpr ⟨fun x => Common.piece96 (arg3.view.read (Elt Ideal) X3) (arg4.view.read (Elt Ideal) X4) 7 (by decide) 28#32 rfl k.val (k0_off1 k) (k0_off9 k) (k0_off1_inb i k k0_h1) (k0_off9_inb i k k0_h1) (k0_off1_eq k) (k0_off9_eq k) x, ?_⟩
  refine List.forall_mem_cons.mpr ⟨fun x => Common.piece96 (arg3.view.read (Elt Ideal) X3) (arg4.view.read (Elt Ideal) X4) 6 (by decide) 24#32 rfl k.val (k0_off1 k) (k0_off8 k) (k0_off1_inb i k k0_h1) (k0_off8_inb i k k0_h1) (k0_off1_eq k) (k0_off8_eq k) x, ?_⟩
  refine List.forall_mem_cons.mpr ⟨fun x => Common.piece96 (arg3.view.read (Elt Ideal) X3) (arg4.view.read (Elt Ideal) X4) 5 (by decide) 20#32 rfl k.val (k0_off1 k) (k0_off7 k) (k0_off1_inb i k k0_h1) (k0_off7_inb i k k0_h1) (k0_off1_eq k) (k0_off7_eq k) x, ?_⟩
  refine List.forall_mem_cons.mpr ⟨fun x => Common.piece96 (arg3.view.read (Elt Ideal) X3) (arg4.view.read (Elt Ideal) X4) 4 (by decide) 16#32 rfl k.val (k0_off1 k) (k0_off6 k) (k0_off1_inb i k k0_h1) (k0_off6_inb i k k0_h1) (k0_off1_eq k) (k0_off6_eq k) x, ?_⟩
  refine List.forall_mem_cons.mpr ⟨fun x => Common.piece96 (arg3.view.read (Elt Ideal) X3) (arg4.view.read (Elt Ideal) X4) 3 (by decide) 12#32 rfl k.val (k0_off1 k) (k0_off5 k) (k0_off1_inb i k k0_h1) (k0_off5_inb i k k0_h1) (k0_off1_eq k) (k0_off5_eq k) x, ?_⟩
  refine List.forall_mem_cons.mpr ⟨fun x => Common.piece96 (arg3.view.read (Elt Ideal) X3) (arg4.view.read (Elt Ideal) X4) 2 (by decide) 8#32 rfl k.val (k0_off1 k) (k0_off4 k) (k0_off1_inb i k k0_h1) (k0_off4_inb i k k0_h1) (k0_off1_eq k) (k0_off4_eq k) x, ?_⟩
  refine List.forall_mem_cons.mpr ⟨fun x => Common.piece96 (arg3.view.read (Elt Ideal) X3) (arg4.view.read (Elt Ideal) X4) 1 (by decide) 4#32 rfl k.val (k0_off1 k) (k0_off3 k) (k0_off1_inb i k k0_h1) (k0_off3_inb i k k0_h1) (k0_off1_eq k) (k0_off3_eq k) x, ?_⟩
  refine List.forall_mem_cons.mpr ⟨fun x => Common.piece96 (arg3.view.read (Elt Ideal) X3) (arg4.view.read (Elt Ideal) X4) 0 (by decide) 0#32 rfl k.val (k0_off1 k) (k0_off2 k) (k0_off1_inb i k k0_h1) (k0_off2_inb i k k0_h1) (k0_off1_eq k) (k0_off2_eq k) x, ?_⟩
  exact fun p hp => absurd hp List.not_mem_nil

end Cert.QkIdeal.Gen
end
-- ==== Proof.QkBlock.lean ====
/- The `Qk` projection: what the dequantising loop leaves in the scratch, and how the body reads it back. -/
module

public import proofs.«01_k».proof.Proof.QkTrip

@[expose] public section
noncomputable section
namespace Cert.QkIdeal.Gen
open Idealize.ShloMosaic Idealize.ShloMosaic.TcCoe Idealize.ShloMosaic.Tactic
open Idealize.SL Idealize.SL.RA Idealize.SL.BI

/-- Every store of the first `n` trips writes the dequantised weights at its own place. -/
theorem pb_pieces (𝒱 : Variants) (c : Dev nD) (bd : Option 𝒱.V) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (k0_h1 : k0_cond1 i = 1#1) (X3 : BufTy.Contents (Elt Ideal) arg3.view.ty) (X4 : BufTy.Contents (Elt Ideal) arg4.view.ty) (n : ℕ) :
    ∀ p ∈ pb_k0_t1 (F := Ideal) 𝒱 c bd i arg2 harg2 arg3 harg3 arg4 harg4 arg5 harg5 arg6 harg6 arg7 harg7 arg8 harg8 arg9 harg9 k0_h1 X3 X4 n, ∀ x, p.2 x = Common.weights96 (arg3.view.read (Elt Ideal) X3) (arg4.view.read (Elt Ideal) X4) (p.1.emb x) := by
  induction n with
  | zero => exact fun p hp => absurd hp List.not_mem_nil
  | succ n ih =>
    rw [pb_k0_t1.eq_2]; unfold pb_k0_t1Step
    split
    · intro p hp
      rcases List.mem_append.mp hp with h | h
      · exact trip_pieces 𝒱 c bd i arg2 harg2 arg3 harg3 arg4 harg4 arg5 harg5 arg6 harg6 arg7 harg7 arg8 harg8 arg9 harg9 k0_h1 X3 X4 _ p h
      · exact ih p h
    · exact ih

/-- The scratch after the loop: the dequantised weights of the block. -/
theorem sout_A (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    sout0_A_0 c i arg2 harg2 arg3 harg3 arg4 harg4 arg5 harg5 arg6 harg6 arg7 harg7 arg8 harg8 arg9 harg9 hc0 x0 x1 x2 x3 = Common.weights96 x1 x2 := by
  unfold sout0_A_0
  rw [View.read_writes_junk_eq_canon]
  funext y
  refine View.canon_apply_of_pieces (Common.weights96 x1 x2) _ ?_ y (scover0_A_0 c i arg2 harg2 arg3 harg3 arg4 harg4 arg5 harg5 arg6 harg6 arg7 harg7 arg8 harg8 arg9 harg9 hc0 x0 x1 x2 x3 y)
  have h := pb_pieces Variants.none c none i arg2 harg2 arg3 harg3 arg4 harg4 arg5 harg5 arg6 harg6 arg7 harg7 arg8 harg8 arg9 harg9 hc0 (harg3.unread x1) (harg4.unread x2) k0_t1_loop.trips
  rw [harg3.read_unread, harg4.read_unread] at h
  unfold kernelRun0_A
  exact h

/-- The scratch read back whole after the loop. -/
theorem readback_A (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1024x3072) ![0, 0] ![1024, 3072] inb_S1024x3072_S1024x3072_0_0).toLoadRect) = Common.weights96 x1 x2 := by
    rw [View.readCov_eq_canon']
    have h : View.canon (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) = Common.weights96 x1 x2 := by
      rw [← sout_A c i arg2 harg2 arg3 harg3 arg4 harg4 arg5 harg5 arg6 harg6 arg7 harg7 arg8 harg8 arg9 harg9 hc0 x0 x1 x2 x3]
      unfold sout0_A_0
      rw [View.read_writes_junk_eq_canon]
      rfl
    rw [h]
    funext j
    refine congrArg (Common.weights96 x1 x2) (funext fun d => Fin.ext ?_)
    match d with
    | ⟨0, _⟩ => show 0 + 1 * (j 0).val = (j 0).val; omega
    | ⟨1, _⟩ => show 0 + 1 * (j 1).val = (j 1).val; omega

/-- The carried scratch read whole. -/
theorem readback_B (arg8 : Memref sig .tc .vmem S1024x3072 .bf16) (harg8 : arg8.IsWhole) (xs0 : Vec Ideal S1024x3072 .bf16) :
    (View.readAt (Elt Ideal) arg8.view (Rect.unit (s := S1024x3072) ![0, 0] ![1024, 3072] inb_S1024x3072_S1024x3072_0_0).toLoadRect (harg8.unread xs0)) = xs0 := by
    rw [View.readAt_eq_ld, harg8.read_unread]
    funext j
    refine congrArg xs0 (funext fun d => Fin.ext ?_)
    match d with
    | ⟨0, _⟩ => show 0 + 1 * (j 0).val = (j 0).val; omega
    | ⟨1, _⟩ => show 0 + 1 * (j 1).val = (j 1).val; omega

end Cert.QkIdeal.Gen
end
-- ==== Proof.Conv.lean ====
/- Facts shared by the projections with a short convolution: the rows of the linear product as the body keeps them, eight rows
   of zeros and below them 1536 rows stored 256 at a time, and the four taps read back out of them. Nothing here names a
   printed program; `R` is the number of weight rows of a block. -/
module

public import proofs.«01_k».proof.Proof.Common

@[expose] public section
noncomputable section
namespace Cert.Conv
open Idealize.ShloMosaic Idealize.ShloMosaic.TcCoe

variable {R : ℕ} (X : Vec Ideal ⟨3, ![1, 1536, 3072]⟩ .bf16) (W : Vec Ideal ⟨2, ![R, 3072]⟩ .bf16) (C : Vec Ideal ⟨2, ![4, R]⟩ .f32)

/-- One element of the linear product: row `r` of the block against row `n` of the weights. -/
def lin (r : Fin 1536) (n : Fin R) : EReal :=
  ∑ k : Fin 3072, (show EReal from X (ix3 0 r k)) * (show EReal from W (ix2 n k))

/-- The linear product under eight rows of zeros. -/
def padded (j : (⟨2, ![1544, R]⟩ : Shape).Idx) : EReal :=
  if h : 8 ≤ (j 0).val then lin X W ⟨(j 0).val - 8, by have h0 : (j 0).val < 1544 := (j 0).isLt; omega⟩ (j 1) else 0

/-- The four taps over row `r`: the rows before it in order, the row itself last. -/
def tap (r : Fin 1536) (n : Fin R) : EReal :=
  padded X W (ix2 ⟨5 + r.val, by omega⟩ n) * (show EReal from C (ix2 0 n))
    + padded X W (ix2 ⟨6 + r.val, by omega⟩ n) * (show EReal from C (ix2 1 n))
    + padded X W (ix2 ⟨7 + r.val, by omega⟩ n) * (show EReal from C (ix2 2 n))
    + padded X W (ix2 ⟨8 + r.val, by omega⟩ n) * (show EReal from C (ix2 3 n))

/-- `z · logistic z`. -/
def silu (z : EReal) : EReal := z * Ideal.logistic z

/-- 256 rows from row `a` on lie within the padded rows. -/
theorem inb_padded (R a : ℕ) (ha : a ≤ 1288) : ∀ d, (![a, 0] : Fin 2 → ℕ) d + (⟨2, ![256, R]⟩ : Shape).size d ≤ (⟨2, ![1544, R]⟩ : Shape).size d := fun d => by
  match d with
  | ⟨0, _⟩ => show a + 256 ≤ 1544; omega
  | ⟨1, _⟩ => show 0 + R ≤ R; omega

/-- Row `q` lies within the taps. -/
theorem inb_taps (R q : ℕ) (hq : q < 4) : ∀ d, (![q, 0] : Fin 2 → ℕ) d + (⟨2, ![1, R]⟩ : Shape).size d ≤ (⟨2, ![4, R]⟩ : Shape).size d := fun d => by
  match d with
  | ⟨0, _⟩ => show q + 1 ≤ 4; omega
  | ⟨1, _⟩ => show 0 + R ≤ R; omega

/-- What a list of stores into the padded rows has reached: each store writes the padded product at its own place, and
    together they cover the rows before row `e`. -/
structure Holds (L : List (View.Piece (Elt Ideal) ⟨2, ![1544, R]⟩ .f32)) (e : ℕ) : Prop where
  pieces : ∀ p ∈ L, ∀ x, p.2 x = padded X W (p.1.emb x)
  cover : ∀ y : (⟨2, ![1544, R]⟩ : Shape).Idx, (y 0).val < e → ∃ p ∈ L, y ∈ p.1.set

variable {X W}

/-- The first store: eight rows of zeros. -/
theorem Holds.zeros (Z : Vec Ideal ⟨2, ![8, R]⟩ .f32) (hZ : ∀ r n, Z (ix2 r n) = (0 : EReal))
    (inb : ∀ d, (![0, 0] : Fin 2 → ℕ) d + (⟨2, ![8, R]⟩ : Shape).size d ≤ (⟨2, ![1544, R]⟩ : Shape).size d) :
    Holds X W [⟨Rect.unit (s := ⟨2, ![1544, R]⟩) ![0, 0] (⟨2, ![8, R]⟩ : Shape).size inb, Z⟩] 8 where
  pieces := List.forall_mem_cons.mpr ⟨fun x => by
    obtain ⟨r, n, rfl⟩ : ∃ (r : Fin 8) (n : Fin R), x = ix2 r n := ⟨x 0, x 1, eq_ix2 x⟩
    unfold padded
    rw [dif_neg (by show ¬ 8 ≤ 0 + 1 * r.val; omega)]
    exact hZ r n, fun p hp => absurd hp List.not_mem_nil⟩
  cover := fun y hy => by
    refine ⟨_, List.mem_cons_self, ?_⟩
    show y ∈ (Rect.unit (s := ⟨2, ![1544, R]⟩) ![0, 0] (⟨2, ![8, R]⟩ : Shape).size inb).set
    rw [Rect.mem_set_unit]
    intro d
    have h1 : (y 1).val < R := (y 1).isLt
    match d with
    | ⟨0, _⟩ => exact ⟨Nat.zero_le _, by show (y 0).val < 0 + 8; omega⟩
    | ⟨1, _⟩ => exact ⟨Nat.zero_le _, by show (y 1).val < 0 + R; omega⟩

/-- One more store: the product of the 256 rows from row `a` on, placed eight rows further down. -/
theorem Holds.step {L : List (View.Piece (Elt Ideal) ⟨2, ![1544, R]⟩ .f32)} {b : ℕ} (h : Holds X W L b) (a : ℕ) (hb : b = 8 + a)
    (inbX : ∀ d, (![0, a, 0] : Fin 3 → ℕ) d + (⟨3, ![1, 256, 3072]⟩ : Shape).size d ≤ (⟨3, ![1, 1536, 3072]⟩ : Shape).size d)
    (inb : ∀ d, (![b, 0] : Fin 2 → ℕ) d + (⟨2, ![256, R]⟩ : Shape).size d ≤ (⟨2, ![1544, R]⟩ : Shape).size d)
    (P : Vec Ideal ⟨2, ![256, R]⟩ .f32)
    (hP : ∀ r n, P (ix2 r n) = ∑ k : Fin 3072, (show EReal from View.ld X (Rect.unit (s := ⟨3, ![1, 1536, 3072]⟩) ![0, a, 0] (⟨3, ![1, 256, 3072]⟩ : Shape).size inbX) (ix3 0 r k)) * (show EReal from W (ix2 n k))) :
    Holds X W (⟨Rect.unit (s := ⟨2, ![1544, R]⟩) ![b, 0] (⟨2, ![256, R]⟩ : Shape).size inb, P⟩ :: L) (b + 256) where
  pieces := List.forall_mem_cons.mpr ⟨fun x => by
    subst hb
    obtain ⟨r, n, rfl⟩ : ∃ (r : Fin 256) (n : Fin R), x = ix2 r n := ⟨x 0, x 1, eq_ix2 x⟩
    refine (hP r n).trans ?_
    unfold padded
    rw [dif_pos (by show 8 ≤ 8 + a + 1 * r.val; omega)]
    unfold lin
    refine Finset.sum_congr rfl fun k _ => ?_
    refine congrArg₂ (fun a b : EReal => a * b) ?_ ?_
    · refine congrArg X (funext fun d => Fin.ext ?_)
      match d with
      | ⟨0, _⟩ => rfl
      | ⟨1, _⟩ => show a + 1 * r.val = 8 + a + 1 * r.val - 8; omega
      | ⟨2, _⟩ => show 0 + 1 * k.val = k.val; omega
    · refine congrArg W (funext fun d => Fin.ext ?_)
      match d with
      | ⟨0, _⟩ => show n.val = 0 + 1 * n.val; omega
      | ⟨1, _⟩ => rfl, h.pieces⟩
  cover := fun y hy => by
    by_cases h0 : (y 0).val < b
    · obtain ⟨p, hp, hy⟩ := h.cover y h0
      exact ⟨p, List.mem_cons_of_mem _ hp, hy⟩
    · refine ⟨_, List.mem_cons_self, ?_⟩
      show y ∈ (Rect.unit (s := ⟨2, ![1544, R]⟩) ![b, 0] (⟨2, ![256, R]⟩ : Shape).size inb).set
      rw [Rect.mem_set_unit]
      intro d
      have h1 : (y 1).val < R := (y 1).isLt
      match d with
      | ⟨0, _⟩ => exact ⟨by show b ≤ (y 0).val; omega, by show (y 0).val < b + 256; omega⟩
      | ⟨1, _⟩ => exact ⟨Nat.zero_le _, by show (y 1).val < 0 + R; omega⟩

/-- Any 256 rows among those that the stores cover, read back. -/
theorem Holds.read {L : List (View.Piece (Elt Ideal) ⟨2, ![1544, R]⟩ .f32)} {e : ℕ} (h : Holds X W L e) {sig : RefSig} (v : View sig .tc .vmem ⟨2, ![1544, R]⟩ .f32)
    (o : ℕ) (ho : o + 256 ≤ e) (he : e ≤ 1544)
    (inb : ∀ d, (![o, 0] : Fin 2 → ℕ) d + (⟨2, ![256, R]⟩ : Shape).size d ≤ (⟨2, ![1544, R]⟩ : Shape).size d) (r : Fin 256) (n : Fin R) :
    v.readCov L (Rect.unit (s := ⟨2, ![1544, R]⟩) ![o, 0] (⟨2, ![256, R]⟩ : Shape).size inb).toLoadRect (ix2 r n) = padded X W (ix2 ⟨o + r.val, by omega⟩ n) := by
  rw [View.readCov_eq_canon']
  refine (View.canon_apply_of_pieces (padded X W) _ h.pieces _ (h.cover _ (by show o + 1 * r.val < e; omega))).trans ?_
  refine congrArg (padded X W) (funext fun d => Fin.ext ?_)
  match d with
  | ⟨0, _⟩ => show o + 1 * r.val = o + r.val; omega
  | ⟨1, _⟩ => show 0 + 1 * n.val = n.val; omega

/-- A row of the taps, read through its block, at an element. -/
theorem taps_apply (q : Fin 4) (inb : ∀ d, (![q.val, 0] : Fin 2 → ℕ) d + (⟨2, ![1, R]⟩ : Shape).size d ≤ (⟨2, ![4, R]⟩ : Shape).size d) (n : Fin R) :
    View.ld C (Rect.unit (s := ⟨2, ![4, R]⟩) ![q.val, 0] (⟨2, ![1, R]⟩ : Shape).size inb) (ix2 0 n) = C (ix2 q n) := by
  refine congrArg C (funext fun d => Fin.ext ?_)
  match d with
  | ⟨0, _⟩ => show q.val + 1 * 0 = q.val; omega
  | ⟨1, _⟩ => show 0 + 1 * n.val = n.val; omega

/-- The 256 rows from row `o` on, read back from the stores. -/
abbrev rowsAt {sig : RefSig} (v : View sig .tc .vmem ⟨2, ![1544, R]⟩ .f32) (L : List (View.Piece (Elt Ideal) ⟨2, ![1544, R]⟩ .f32)) (o : ℕ)
    (inb : ∀ d, (![o, 0] : Fin 2 → ℕ) d + (⟨2, ![256, R]⟩ : Shape).size d ≤ (⟨2, ![1544, R]⟩ : Shape).size d) : Vec Ideal ⟨2, ![256, R]⟩ .f32 :=
  v.readCov L (Rect.unit (s := ⟨2, ![1544, R]⟩) ![o, 0] (⟨2, ![256, R]⟩ : Shape).size inb).toLoadRect

/-- One row of the taps. -/
abbrev tapRow (q : ℕ) (inb : ∀ d, (![q, 0] : Fin 2 → ℕ) d + (⟨2, ![1, R]⟩ : Shape).size d ≤ (⟨2, ![4, R]⟩ : Shape).size d) : Vec Ideal ⟨2, ![1, R]⟩ .f32 :=
  View.ld C (Rect.unit (s := ⟨2, ![4, R]⟩) ![q, 0] (⟨2, ![1, R]⟩ : Shape).size inb)

/-- Rows `5 + a` to `8 + a` of the stores, each with its row of the taps, add up to the taps over row `a + r`. -/
theorem Holds.taps {L : List (View.Piece (Elt Ideal) ⟨2, ![1544, R]⟩ .f32)} {e : ℕ} (h : Holds X W L e) {sig : RefSig} (v : View sig .tc .vmem ⟨2, ![1544, R]⟩ .f32)
    (a o0 o1 o2 o3 : ℕ) (h0 : o0 = 5 + a) (h1 : o1 = 6 + a) (h2 : o2 = 7 + a) (h3 : o3 = 8 + a) (ha : a + 264 ≤ e) (he : e ≤ 1544)
    (i0 i1 i2 i3 j0 j1 j2 j3) (r : Fin 256) (n : Fin R) :
    (show EReal from rowsAt v L o0 i0 (ix2 r n)) * (show EReal from tapRow C 0 j0 (ix2 0 n))
      + (show EReal from rowsAt v L o1 i1 (ix2 r n)) * (show EReal from tapRow C 1 j1 (ix2 0 n))
      + (show EReal from rowsAt v L o2 i2 (ix2 r n)) * (show EReal from tapRow C 2 j2 (ix2 0 n))
      + (show EReal from rowsAt v L o3 i3 (ix2 r n)) * (show EReal from tapRow C 3 j3 (ix2 0 n))
      = tap X W C ⟨a + r.val, by omega⟩ n := by
  have one : ∀ (o q : ℕ) (hq : q < 4) (ho : o = 5 + q + a) (i j), (show EReal from rowsAt v L o i (ix2 r n)) * (show EReal from tapRow C q j (ix2 0 n))
      = padded X W (ix2 ⟨5 + q + (a + r.val), by omega⟩ n) * (show EReal from C (ix2 ⟨q, hq⟩ n)) := fun o q hq ho i j =>
    congrArg₂ (fun a b : EReal => a * b)
      ((h.read v o (by omega) he i r n).trans (congrArg (fun q => padded X W (ix2 q n)) (Fin.ext (by show o + r.val = 5 + q + (a + r.val); omega))))
      (taps_apply C ⟨q, hq⟩ j n)
  unfold tap
  exact congrArg₂ (fun a b : EReal => a + b) (congrArg₂ (fun a b : EReal => a + b) (congrArg₂ (fun a b : EReal => a + b)
    (one o0 0 (by omega) (by omega) i0 j0) (one o1 1 (by omega) (by omega) i1 j1)) (one o2 2 (by omega) (by omega) i2 j2)) (one o3 3 (by omega) (by omega) i3 j3)

end Cert.Conv
end
-- ==== Proof.QkConv.lean ====
/- The `Qk` projection: the stores into the padded rows, the convolution of each row block and the tail rows, as functions of the
   block of rows, the dequantised weights and the convolution's taps. The row blocks are written with the payloads of the first
   one: those of the others are the same operations. -/
module

public import proofs.«01_k».proof.Proof.QkBlock
public import proofs.«01_k».proof.Proof.Conv

@[expose] public section
noncomputable section
namespace Cert.QkIdeal.Gen
open Idealize.ShloMosaic Idealize.ShloMosaic.TcCoe Idealize.ShloMosaic.Tactic
open Idealize.SL Idealize.SL.RA Idealize.SL.BI
open Cert.Conv

/-- A row block's product at an element. -/
theorem lin_apply (xb : Vec Ideal S1x256x3072 .bf16) (W : Vec Ideal S1024x3072 .bf16) (r : Fin 256) (n : Fin 1024) :
    k0_pay52 xb W (ix2 r n) = ∑ k : Fin 3072, (show EReal from xb (ix3 0 r k)) * (show EReal from W (ix2 n k)) := by
  pointwise [k0_pay52]

variable (X : Vec Ideal S1x1536x3072 .bf16) (W : Vec Ideal S1024x3072 .bf16) (C : Vec Ideal S4x1024 .f32)

/-- The stores into the padded rows once `k` row blocks are stored. -/
def rows : (k : ℕ) → k ≤ 6 → List (View.Piece (Elt Ideal) S1544x1024 .f32)
  | 0, _ => [⟨Rect.unit (s := S1544x1024) ![0, 0] S8x1024.size inb_S1544x1024_S8x1024_0_0, k0_pay51 (F := Ideal)⟩]
  | k + 1, hk => ⟨Rect.unit (s := S1544x1024) ![8 + 256 * k, 0] S256x1024.size (inb_padded 1024 _ (by omega)),
      k0_pay52 (View.ld X (Rect.unit (s := S1x1536x3072) ![0, 256 * k, 0] S1x256x3072.size (Common.inb_rows 3072 _ (by omega)))) W⟩ :: rows k (by omega)

/-- After `k` row blocks the padded rows hold the zeros and the first `256 * k` rows of the product. -/
theorem rows_holds : ∀ (k : ℕ) (hk : k ≤ 6), Holds X W (rows X W k hk) (8 + 256 * k)
  | 0, _ => Holds.zeros _ (fun r n => by pointwise [k0_pay51]) _
  | k + 1, hk => (rows_holds k (by omega)).step (256 * k) rfl (Common.inb_rows 3072 _ (by omega)) _ _ (lin_apply _ W)

/-- The result block: the convolution under the activation. -/
def conv (j : S1x1536x1024.Idx) : EReal := silu (tap X W C (j 1) (j 2))

/-- The activation of four rows, each times its row of the taps: the payload of a result store. -/
abbrev pay (a0 : Vec Ideal S256x1024 .f32) (c0 : Vec Ideal S1x1024 .f32) (a1 : Vec Ideal S256x1024 .f32) (c1 : Vec Ideal S1x1024 .f32) (a2 : Vec Ideal S256x1024 .f32) (c2 : Vec Ideal S1x1024 .f32) (a3 : Vec Ideal S256x1024 .f32) (c3 : Vec Ideal S1x1024 .f32) : Vec Ideal S1x256x1024 .f32 :=
  k0_pay55 (k0_pay53 a0 c0 a1 c1) a2 (k0_pay54 c2) a3 c3

/-- That payload at an element. -/
theorem pay_apply (a0 : Vec Ideal S256x1024 .f32) (c0 : Vec Ideal S1x1024 .f32) (a1 : Vec Ideal S256x1024 .f32) (c1 : Vec Ideal S1x1024 .f32) (a2 : Vec Ideal S256x1024 .f32) (c2 : Vec Ideal S1x1024 .f32) (a3 : Vec Ideal S256x1024 .f32) (c3 : Vec Ideal S1x1024 .f32) (r : Fin 256) (n : Fin 1024) :
    pay a0 c0 a1 c1 a2 c2 a3 c3 (ix3 0 r n) = silu ((show EReal from a0 (ix2 r n)) * (show EReal from c0 (ix2 0 n)) + (show EReal from a1 (ix2 r n)) * (show EReal from c1 (ix2 0 n)) + (show EReal from a2 (ix2 r n)) * (show EReal from c2 (ix2 0 n)) + (show EReal from a3 (ix2 r n)) * (show EReal from c3 (ix2 0 n))) := by
  unfold silu
  pointwise [k0_pay55, k0_pay53, k0_pay54]

/-- The result store of row block `k`. -/
def store (v : View sig .tc .vmem S1544x1024 .f32) (k : Fin 6) : View.Piece (Elt Ideal) S1x1536x1024 .f32 :=
  ⟨Rect.unit (s := S1x1536x1024) ![0, 256 * k.val, 0] S1x256x1024.size (Common.inb_rows 1024 _ (by omega)),
    pay (rowsAt v (rows X W (k.val + 1) (by omega)) (5 + 256 * k.val) (inb_padded 1024 _ (by omega))) (tapRow C 0 (inb_taps 1024 0 (by decide))) (rowsAt v (rows X W (k.val + 1) (by omega)) (6 + 256 * k.val) (inb_padded 1024 _ (by omega))) (tapRow C 1 (inb_taps 1024 1 (by decide))) (rowsAt v (rows X W (k.val + 1) (by omega)) (7 + 256 * k.val) (inb_padded 1024 _ (by omega))) (tapRow C 2 (inb_taps 1024 2 (by decide))) (rowsAt v (rows X W (k.val + 1) (by omega)) (8 + 256 * k.val) (inb_padded 1024 _ (by omega))) (tapRow C 3 (inb_taps 1024 3 (by decide)))⟩

/-- Each result store writes the convolution at its own place. -/
theorem store_piece (v : View sig .tc .vmem S1544x1024 .f32) (k : Fin 6) (x : (store X W C v k).1.shape.Idx) :
    (store X W C v k).2 x = conv X W C ((store X W C v k).1.emb x) := by
  obtain ⟨z, r, n, rfl⟩ : ∃ (z : Fin 1) (r : Fin 256) (n : Fin 1024), x = ix3 z r n := ⟨x 0, x 1, x 2, eq_ix3 x⟩
  obtain rfl : z = 0 := Subsingleton.elim _ _
  refine (pay_apply _ _ _ _ _ _ _ _ r n).trans (congrArg silu (((rows_holds X W (k.val + 1) (by omega)).taps C v (256 * k.val) _ _ _ _ rfl rfl rfl rfl (by omega) (by omega) _ _ _ _ _ _ _ _ r n).trans ?_))
  refine congrArg₂ (tap X W C) (Fin.ext ?_) (Fin.ext ?_)
  · show 256 * k.val + r.val = 256 * k.val + 1 * r.val; omega
  · show n.val = 0 + 1 * n.val; omega

/-- The result stores, the last first. -/
def stores (v : View sig .tc .vmem S1544x1024 .f32) : List (View.Piece (Elt Ideal) S1x1536x1024 .f32) :=
  [store X W C v 5, store X W C v 4, store X W C v 3, store X W C v 2, store X W C v 1, store X W C v 0]

/-- All of them write the convolution, each at its own place. -/
theorem stores_pieces (v : View sig .tc .vmem S1544x1024 .f32) : ∀ p ∈ stores X W C v, ∀ x, p.2 x = conv X W C (p.1.emb x) := by
  have h := store_piece X W C v
  simp only [stores, List.forall_mem_cons]
  exact ⟨h 5, h 4, h 3, h 2, h 1, h 0, fun p hp => absurd hp List.not_mem_nil⟩

/-- The tail block: the last three rows of the linear product. -/
def tail (j : S1x3x1024.Idx) : EReal :=
  lin X W ⟨1533 + (j 1).val, by have h : (j 1).val < 3 := (j 1).isLt; omega⟩ (j 2)

/-- The tail's payload at an element. -/
theorem tail_apply (xb : Vec Ideal S1x256x3072 .bf16) (W : Vec Ideal S1024x3072 .bf16) (r : Fin 3) (n : Fin 1024) :
    k0_pay69 (k0_pay67 xb) W (constant S256x1024 .f32 0x00000000#32) (ix3 0 r n) = ∑ k : Fin 3072, (show EReal from xb (ix3 0 ⟨253 + r.val, by omega⟩ k)) * (show EReal from W (ix2 n k)) := by
  pointwise [k0_pay69, k0_pay68, k0_pay67]

/-- The tail's store writes the last three rows of the linear product. -/
theorem tail_piece (x : S1x3x1024.Idx) :
    k0_pay69 (k0_pay67 (View.ld X (Rect.unit (s := S1x1536x3072) ![0, 1280, 0] S1x256x3072.size inb_S1x1536x3072_S1x256x3072_0_1280_0))) W (constant S256x1024 .f32 0x00000000#32) x = tail X W ((Rect.unit (s := S1x3x1024) ![0, 0, 0] S1x3x1024.size inb_S1x3x1024_S1x3x1024_0_0_0).emb x) := by
  obtain ⟨z, r, n, rfl⟩ : ∃ (z : Fin 1) (r : Fin 3) (n : Fin 1024), x = ix3 z r n := ⟨x 0, x 1, x 2, eq_ix3 x⟩
  obtain rfl : z = 0 := Subsingleton.elim _ _
  rw [tail_apply]
  unfold tail lin
  refine Finset.sum_congr rfl fun k _ => ?_
  refine congrArg₂ (fun a b : EReal => a * b) ?_ ?_
  · refine congrArg X (funext fun d => Fin.ext ?_)
    match d with
    | ⟨0, _⟩ => rfl
    | ⟨1, _⟩ => show 1280 + 1 * (253 + r.val) = 1533 + (0 + 1 * r.val); omega
    | ⟨2, _⟩ => show 0 + 1 * k.val = k.val; omega
  · refine congrArg W (funext fun d => Fin.ext ?_)
    match d with
    | ⟨0, _⟩ => show n.val = 0 + 1 * n.val; omega
    | ⟨1, _⟩ => rfl

end Cert.QkIdeal.Gen
end
-- ==== Proof.QkOut.lean ====
/- The `Qk` projection: what the body leaves in its two result blocks, the convolved rows and the tail rows, in both of its
   cases: with the weights just dequantised, and with the weights carried in the scratch. -/
module

public import proofs.«01_k».proof.Proof.QkConv

@[expose] public section
noncomputable section
namespace Cert.QkIdeal.Gen
open Idealize.ShloMosaic Idealize.ShloMosaic.TcCoe Idealize.ShloMosaic.Tactic
open Idealize.SL Idealize.SL.RA Idealize.SL.BI

set_option maxRecDepth 65536 in
set_option maxHeartbeats 1000000 in
/-- With the weights dequantised: every store into the first result block writes the convolution at its own place. -/
theorem out_A_pieces (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    ∀ p ∈ (kernelRun0_A c i arg2 harg2 arg3 harg3 arg4 harg4 arg5 harg5 arg6 harg6 arg7 harg7 arg8 harg8 arg9 harg9 hc0 x0 x1 x2 x3).1, ∀ x, p.2 x = conv (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1024x3072) ![0, 0] ![1024, 3072] inb_S1024x3072_S1024x3072_0_0).toLoadRect) (arg5.view.read (Elt Ideal) (harg5.unread x3)) (p.1.emb x) := by
  unfold kernelRun0_A
  dsimp only
  exact stores_pieces (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1024x3072) ![0, 0] ![1024, 3072] inb_S1024x3072_S1024x3072_0_0).toLoadRect) (arg5.view.read (Elt Ideal) (harg5.unread x3)) arg9.view

/-- With the weights dequantised: the first result block is the convolution. -/
theorem out_A (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    out0_A_4 c i arg2 harg2 arg3 harg3 arg4 harg4 arg5 harg5 arg6 harg6 arg7 harg7 arg8 harg8 arg9 harg9 hc0 x0 x1 x2 x3 = conv x0 (Common.weights96 x1 x2) x3 := by
  have hp := out_A_pieces c i arg2 harg2 arg3 harg3 arg4 harg4 arg5 harg5 arg6 harg6 arg7 harg7 arg8 harg8 arg9 harg9 hc0 x0 x1 x2 x3
  rw [readback_A c i arg2 harg2 arg3 harg3 arg4 harg4 arg5 harg5 arg6 harg6 arg7 harg7 arg8 harg8 arg9 harg9 hc0 x0 x1 x2 x3, harg2.read_unread, harg5.read_unread] at hp
  unfold out0_A_4
  rw [View.read_writes_junk_eq_canon]
  funext y
  exact View.canon_apply_of_pieces (conv x0 (Common.weights96 x1 x2) x3) _ hp y (cover0_A_4 c i arg2 harg2 arg3 harg3 arg4 harg4 arg5 harg5 arg6 harg6 arg7 harg7 arg8 harg8 arg9 harg9 hc0 x0 x1 x2 x3 y)

/-- With the weights dequantised: the store into the second result block writes the tail at its own place. -/
theorem tail_A_pieces (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    ∀ p ∈ (kernelRun0_A c i arg2 harg2 arg3 harg3 arg4 harg4 arg5 harg5 arg6 harg6 arg7 harg7 arg8 harg8 arg9 harg9 hc0 x0 x1 x2 x3).2.1, ∀ x, p.2 x = tail (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1024x3072) ![0, 0] ![1024, 3072] inb_S1024x3072_S1024x3072_0_0).toLoadRect) (p.1.emb x) := by
  unfold kernelRun0_A
  dsimp only
  exact List.forall_mem_cons.mpr ⟨tail_piece (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1024x3072) ![0, 0] ![1024, 3072] inb_S1024x3072_S1024x3072_0_0).toLoadRect), fun p hp => absurd hp List.not_mem_nil⟩

/-- With the weights dequantised: the second result block is the tail. -/
theorem tail_A (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : cond0_0 i) (x0 : Vec Ideal S1x1536x3072 .bf16) (x1 : Vec Ideal S1024x3072 .fp8e4m3) (x2 : Vec Ideal S1024x96 .i8) (x3 : Vec Ideal S4x1024 .f32) :
    out0_A_5 c i arg2 harg2 arg3 harg3 arg4 harg4 arg5 harg5 arg6 harg6 arg7 harg7 arg8 harg8 arg9 harg9 hc0 x0 x1 x2 x3 = tail x0 (Common.weights96 x1 x2) := by
  have hp := tail_A_pieces c i arg2 harg2 arg3 harg3 arg4 harg4 arg5 harg5 arg6 harg6 arg7 harg7 arg8 harg8 arg9 harg9 hc0 x0 x1 x2 x3
  rw [readback_A c i arg2 harg2 arg3 harg3 arg4 harg4 arg5 harg5 arg6 harg6 arg7 harg7 arg8 harg8 arg9 harg9 hc0 x0 x1 x2 x3, harg2.read_unread] at hp
  unfold out0_A_5
  rw [View.read_writes_junk_eq_canon]
  funext y
  exact View.canon_apply_of_pieces (tail x0 (Common.weights96 x1 x2)) _ hp y (cover0_A_5 c i arg2 harg2 arg3 harg3 arg4 harg4 arg5 harg5 arg6 harg6 arg7 harg7 arg8 harg8 arg9 harg9 hc0 x0 x1 x2 x3 y)

set_option maxRecDepth 65536 in
set_option maxHeartbeats 1000000 in
/-- With the weights carried: every store into the first result block writes the convolution at its own place. -/
theorem out_B_pieces (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : ¬ cond0_0 i) (x0 : Vec Ideal S1x1536x3072 .bf16) (x1 : Vec Ideal S1024x3072 .fp8e4m3) (x2 : Vec Ideal S1024x96 .i8) (x3 : Vec Ideal S4x1024 .f32) (xs0 : Vec Ideal S1024x3072 .bf16) :
    ∀ p ∈ (kernelRun0_B c i arg2 harg2 arg3 harg3 arg4 harg4 arg5 harg5 arg6 harg6 arg7 harg7 arg8 harg8 arg9 harg9 hc0 x0 x1 x2 x3 xs0).1, ∀ x, p.2 x = conv (arg2.view.read (Elt Ideal) (harg2.unread x0)) (View.readAt (Elt Ideal) arg8.view (Rect.unit (s := S1024x3072) ![0, 0] ![1024, 3072] inb_S1024x3072_S1024x3072_0_0).toLoadRect (harg8.unread xs0)) (arg5.view.read (Elt Ideal) (harg5.unread x3)) (p.1.emb x) := by
  unfold kernelRun0_B
  dsimp only
  exact stores_pieces (arg2.view.read (Elt Ideal) (harg2.unread x0)) (View.readAt (Elt Ideal) arg8.view (Rect.unit (s := S1024x3072) ![0, 0] ![1024, 3072] inb_S1024x3072_S1024x3072_0_0).toLoadRect (harg8.unread xs0)) (arg5.view.read (Elt Ideal) (harg5.unread x3)) arg9.view

/-- With the weights carried: the first result block is the convolution. -/
theorem out_B (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : ¬ cond0_0 i) (x0 : Vec Ideal S1x1536x3072 .bf16) (x1 : Vec Ideal S1024x3072 .fp8e4m3) (x2 : Vec Ideal S1024x96 .i8) (x3 : Vec Ideal S4x1024 .f32) (xs0 : Vec Ideal S1024x3072 .bf16) :
    out0_B_4 c i arg2 harg2 arg3 harg3 arg4 harg4 arg5 harg5 arg6 harg6 arg7 harg7 arg8 harg8 arg9 harg9 hc0 x0 x1 x2 x3 xs0 = conv x0 xs0 x3 := by
  have hp := out_B_pieces c i arg2 harg2 arg3 harg3 arg4 harg4 arg5 harg5 arg6 harg6 arg7 harg7 arg8 harg8 arg9 harg9 hc0 x0 x1 x2 x3 xs0
  rw [readback_B arg8 harg8 xs0, harg2.read_unread, harg5.read_unread] at hp
  unfold out0_B_4
  rw [View.read_writes_junk_eq_canon]
  funext y
  exact View.canon_apply_of_pieces (conv x0 xs0 x3) _ hp y (cover0_B_4 c i arg2 harg2 arg3 harg3 arg4 harg4 arg5 harg5 arg6 harg6 arg7 harg7 arg8 harg8 arg9 harg9 hc0 x0 x1 x2 x3 xs0 y)

/-- With the weights carried: the store into the second result block writes the tail at its own place. -/
theorem tail_B_pieces (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : ¬ cond0_0 i) (x0 : Vec Ideal S1x1536x3072 .bf16) (x1 : Vec Ideal S1024x3072 .fp8e4m3) (x2 : Vec Ideal S1024x96 .i8) (x3 : Vec Ideal S4x1024 .f32) (xs0 : Vec Ideal S1024x3072 .bf16) :
    ∀ p ∈ (kernelRun0_B c i arg2 harg2 arg3 harg3 arg4 harg4 arg5 harg5 arg6 harg6 arg7 harg7 arg8 harg8 arg9 harg9 hc0 x0 x1 x2 x3 xs0).2.1, ∀ x, p.2 x = tail (arg2.view.read (Elt Ideal) (harg2.unread x0)) (View.readAt (Elt Ideal) arg8.view (Rect.unit (s := S1024x3072) ![0, 0] ![1024, 3072] inb_S1024x3072_S1024x3072_0_0).toLoadRect (harg8.unread xs0)) (p.1.emb x) := by
  unfold kernelRun0_B
  dsimp only
  exact List.forall_mem_cons.mpr ⟨tail_piece (arg2.view.read (Elt Ideal) (harg2.unread x0)) (View.readAt (Elt Ideal) arg8.view (Rect.unit (s := S1024x3072) ![0, 0] ![1024, 3072] inb_S1024x3072_S1024x3072_0_0).toLoadRect (harg8.unread xs0)), fun p hp => absurd hp List.not_mem_nil⟩

/-- With the weights carried: the second result block is the tail. -/
theorem tail_B (c : Dev nD) (i : grid0.Coords) (arg2 : Memref sig .tc .vmem S1x1536x3072 .bf16) (harg2 : arg2.IsWhole) (arg3 : Memref sig .tc .vmem S1024x3072 .fp8e4m3) (harg3 : arg3.IsWhole) (arg4 : Memref sig .tc .vmem S1024x96 .i8) (harg4 : arg4.IsWhole) (arg5 : Memref sig .tc .vmem S4x1024 .f32) (harg5 : arg5.IsWhole) (arg6 : Memref sig .tc .vmem S1x1536x1024 .bf16) (harg6 : arg6.IsWhole) (arg7 : Memref sig .tc .vmem S1x3x1024 .bf16) (harg7 : arg7.IsWhole) (arg8 : Memref sig .tc .vmem S1024x3072 .bf16) (harg8 : arg8.IsWhole) (arg9 : Memref sig .tc .vmem S1544x1024 .f32) (harg9 : arg9.IsWhole) (hc0 : ¬ cond0_0 i) (x0 : Vec Ideal S1x1536x3072 .bf16) (x1 : Vec Ideal S1024x3072 .fp8e4m3) (x2 : Vec Ideal S1024x96 .i8) (x3 : Vec Ideal S4x1024 .f32) (xs0 : Vec Ideal S1024x3072 .bf16) :
    out0_B_5 c i arg2 harg2 arg3 harg3 arg4 harg4 arg5 harg5 arg6 harg6 arg7 harg7 arg8 harg8 arg9 harg9 hc0 x0 x1 x2 x3 xs0 = tail x0 xs0 := by
  have hp := tail_B_pieces c i arg2 harg2 arg3 harg3 arg4 harg4 arg5 harg5 arg6 harg6 arg7 harg7 arg8 harg8 arg9 harg9 hc0 x0 x1 x2 x3 xs0
  rw [readback_B arg8 harg8 xs0, harg2.read_unread] at hp
  unfold out0_B_5
  rw [View.read_writes_junk_eq_canon]
  funext y
  exact View.canon_apply_of_pieces (tail x0 xs0) _ hp y (cover0_B_5 c i arg2 harg2 arg3 harg3 arg4 harg4 arg5 harg5 arg6 harg6 arg7 harg7 arg8 harg8 arg9 harg9 hc0 x0 x1 x2 x3 xs0 y)

end Cert.QkIdeal.Gen
end
-- ==== Proof.QkArray.lean ====
/- The `Qk` projection over the whole grid: every block the kernel writes back is the block of ONE array, the convolution of
   the product of the rows with the dequantised weights, and every tail block the block of the last three rows of that
   product. The weights are dequantised at the first of every six grid points and carried in the scratch over the other five. -/
module

public import proofs.«01_k».proof.Proof.QkOut

@[expose] public section
noncomputable section
namespace Cert.QkIdeal.Gen
open Idealize.ShloMosaic Idealize.ShloMosaic.TcCoe Idealize.ShloMosaic.Tactic
open Idealize.SL Idealize.SL.RA Idealize.SL.BI
open Cert.Conv

variable (m : (ℓ : Loc nD τ sig) → Buf (Elt Ideal) ℓ) (ρ : Dev nD → PrngReg)

/-- One element of the product of the rows with the dequantised weights. -/
def linF (X : Vec Ideal S6x1536x3072 .bf16) (C : Vec Ideal S2048x3072 .fp8e4m3) (S : Vec Ideal S2048x96 .i8) (b : Fin 6) (r : Fin 1536) (n : Fin 2048) : EReal :=
  ∑ k : Fin 3072, (show EReal from X (ix3 b r k)) * Common.weights96 (R := 2048) C S (ix2 n k)

/-- The product under three rows of zeros: row `p` of it is row `p - 3` of the product. -/
def padF (X : Vec Ideal S6x1536x3072 .bf16) (C : Vec Ideal S2048x3072 .fp8e4m3) (S : Vec Ideal S2048x96 .i8) (b : Fin 6) (p : Fin 1539) (n : Fin 2048) : EReal :=
  if h : 3 ≤ p.val then linF X C S b ⟨p.val - 3, by omega⟩ n else 0

/-- The four taps over row `r` of sequence `b`. -/
def tapF (X : Vec Ideal S6x1536x3072 .bf16) (C : Vec Ideal S2048x3072 .fp8e4m3) (S : Vec Ideal S2048x96 .i8) (T : Vec Ideal S4x2048 .f32) (b : Fin 6) (r : Fin 1536) (n : Fin 2048) : EReal :=
  padF X C S b ⟨0 + r.val, by omega⟩ n * (show EReal from T (ix2 0 n))
    + padF X C S b ⟨1 + r.val, by omega⟩ n * (show EReal from T (ix2 1 n))
    + padF X C S b ⟨2 + r.val, by omega⟩ n * (show EReal from T (ix2 2 n))
    + padF X C S b ⟨3 + r.val, by omega⟩ n * (show EReal from T (ix2 3 n))

/-- The first result: the convolution under the activation. -/
def target (X : Vec Ideal S6x1536x3072 .bf16) (C : Vec Ideal S2048x3072 .fp8e4m3) (S : Vec Ideal S2048x96 .i8) (T : Vec Ideal S4x2048 .f32) (j : S6x1536x2048.Idx) : EReal :=
  silu (tapF X C S T (j 0) (j 1) (j 2))

/-- The second result: the last three rows of the product. -/
def targetTail (X : Vec Ideal S6x1536x3072 .bf16) (C : Vec Ideal S2048x3072 .fp8e4m3) (S : Vec Ideal S2048x96 .i8) (j : S6x3x2048.Idx) : EReal :=
  linF X C S (j 0) ⟨1533 + (j 1).val, by have h : (j 1).val < 3 := (j 1).isLt; omega⟩ (j 2)

/-- The convolution's taps as the region finds them: the host has transposed them. -/
def taps (c : Dev nD) : Vec Ideal S4x2048 .f32 :=
  transpose S4x2048 [1, 0] (m ((c : Thread nD τ).loc main_arg3) : Vec Ideal S2048x4 .f32) transposes_S2048x4_S4x2048_1_0

/-- The host operation before the region wrote the transposed taps. -/
theorem V_main_v0 (c : Dev nD) : V m c main_v0 = taps m c := by
  show StableHlo.after hostOps0 (fun b => m (c, b)) main_v0 = _
  unfold hostOps0
  rw [StableHlo.after_cons, StableHlo.after_nil]
  exact StableHlo.unary_result _ _ _ _ _ _

/-- The weight rows that grid point `n` works with. -/
def wblk (c : Dev nD) (n : ℕ) (hn : n < 12) (j : S1024x3072.Idx) : EReal :=
  Common.weights96 (R := 2048) (m ((c : Thread nD τ).loc main_arg1)) (m ((c : Thread nD τ).loc main_arg2))
    (ix2 ⟨1024 * (n / 6) + (j 0).val, by have h : (j 0).val < 1024 := (j 0).isLt; omega⟩ (j 1))

/-- Window 0's block index over the grid. -/
theorem idx0 : ∀ t : Fin cfg0.N, win0_0.index t 0 = t.val % 6 ∧ win0_0.index t 1 = 0 ∧ win0_0.index t 2 = 0 :=
  (by decide +kernel : ∀ t : Fin grid0.N, win0_0.index t 0 = t.val % 6 ∧ win0_0.index t 1 = 0 ∧ win0_0.index t 2 = 0)
/-- Window 1's block index over the grid. -/
theorem idx1 : ∀ t : Fin cfg0.N, win0_1.index t 0 = t.val / 6 ∧ win0_1.index t 1 = 0 :=
  (by decide +kernel : ∀ t : Fin grid0.N, win0_1.index t 0 = t.val / 6 ∧ win0_1.index t 1 = 0)
/-- Window 2's block index over the grid. -/
theorem idx2 : ∀ t : Fin cfg0.N, win0_2.index t 0 = t.val / 6 ∧ win0_2.index t 1 = 0 :=
  (by decide +kernel : ∀ t : Fin grid0.N, win0_2.index t 0 = t.val / 6 ∧ win0_2.index t 1 = 0)
/-- Window 3's block index over the grid. -/
theorem idx3 : ∀ t : Fin cfg0.N, win0_3.index t 0 = 0 ∧ win0_3.index t 1 = t.val / 6 :=
  (by decide +kernel : ∀ t : Fin grid0.N, win0_3.index t 0 = 0 ∧ win0_3.index t 1 = t.val / 6)
/-- Window 4's block index over the grid. -/
theorem idx4 : ∀ t : Fin cfg0.N, win0_4.index t 0 = t.val % 6 ∧ win0_4.index t 1 = 0 ∧ win0_4.index t 2 = t.val / 6 :=
  (by decide +kernel : ∀ t : Fin grid0.N, win0_4.index t 0 = t.val % 6 ∧ win0_4.index t 1 = 0 ∧ win0_4.index t 2 = t.val / 6)
/-- Window 5's block index over the grid. -/
theorem idx5 : ∀ t : Fin cfg0.N, win0_5.index t 0 = t.val % 6 ∧ win0_5.index t 1 = 0 ∧ win0_5.index t 2 = t.val / 6 :=
  (by decide +kernel : ∀ t : Fin grid0.N, win0_5.index t 0 = t.val % 6 ∧ win0_5.index t 1 = 0 ∧ win0_5.index t 2 = t.val / 6)

/-- The grid has 12 points. -/
theorem lt12 (t : Fin cfg0.N) : t.val < 12 := lt_of_lt_of_eq t.isLt N_0

/-- The row block at a grid point, read at an index. -/
theorem iblk0_apply (c : Dev nD) (t : Fin cfg0.N) (r : Fin 1536) (k : Fin 3072) :
    (iblk m c 0 t : Vec Ideal S1x1536x3072 .bf16) (ix3 0 r k)
      = ((m ((c : Thread nD τ).loc main_arg0)) : Vec Ideal S6x1536x3072 .bf16) (ix3 ⟨t.val % 6, by omega⟩ r k) := by
  obtain ⟨h0, h1, h2⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val % 6; rw [h0]; omega
  | ⟨1, _⟩ => show win0_0.index t 1 * 1536 + 1 * r.val = r.val; rw [h1]; omega
  | ⟨2, _⟩ => show win0_0.index t 2 * 3072 + 1 * k.val = k.val; rw [h2]; omega

/-- The block of weight codes at a grid point, read at an index. -/
theorem iblk1_apply (c : Dev nD) (t : Fin cfg0.N) (j : S1024x3072.Idx) :
    (iblk m c 1 t : Vec Ideal S1024x3072 .fp8e4m3) j
      = ((m ((c : Thread nD τ).loc main_arg1)) : Vec Ideal S2048x3072 .fp8e4m3)
          (ix2 ⟨1024 * (t.val / 6) + (j 0).val, by have h : (j 0).val < 1024 := (j 0).isLt; have := lt12 t; omega⟩ (j 1)) := by
  obtain ⟨h0, h1⟩ := idx1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1024 + 1 * (j 0).val = 1024 * (t.val / 6) + (j 0).val; rw [h0]; omega
  | ⟨1, _⟩ => show win0_1.index t 1 * 3072 + 1 * (j 1).val = (j 1).val; rw [h1]; omega

/-- The block of scale bytes at a grid point, read at an index. -/
theorem iblk2_apply (c : Dev nD) (t : Fin cfg0.N) (r : Fin 1024) (k : Fin 96) :
    (iblk m c 2 t : Vec Ideal S1024x96 .i8) (ix2 r k)
      = ((m ((c : Thread nD τ).loc main_arg2)) : Vec Ideal S2048x96 .i8)
          (ix2 ⟨1024 * (t.val / 6) + r.val, by have := lt12 t; omega⟩ k) := by
  obtain ⟨h0, h1⟩ := idx2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1024 + 1 * r.val = 1024 * (t.val / 6) + r.val; rw [h0]; omega
  | ⟨1, _⟩ => show win0_2.index t 1 * 96 + 1 * k.val = k.val; rw [h1]; omega

/-- The block of taps at a grid point, read at an index. -/
theorem iblk3_apply (c : Dev nD) (t : Fin cfg0.N) (q : Fin 4) (n : Fin 1024) :
    (iblk m c 3 t : Vec Ideal S4x1024 .f32) (ix2 q n)
      = taps m c (ix2 q ⟨1024 * (t.val / 6) + n.val, by have := lt12 t; omega⟩) := by
  obtain ⟨h0, h1⟩ := idx3 t
  unfold iblk
  rw [View.read_apply]
  show V m c main_v0 _ = taps m c _
  rw [V_main_v0]
  refine congrArg (taps m c) (funext fun a => Fin.ext ?_)
  match a with
  | ⟨0, _⟩ => show win0_3.index t 0 * 4 + 1 * q.val = q.val; rw [h0]; omega
  | ⟨1, _⟩ => show win0_3.index t 1 * 1024 + 1 * n.val = 1024 * (t.val / 6) + n.val; rw [h1]; omega

/-- The weights dequantised from a point's own blocks are the rows of the dequantised array that the point works with. -/
theorem weights_blk (c : Dev nD) (t : Fin cfg0.N) :
    Common.weights96 (R := 1024) (iblk m c 1 t) (iblk m c 2 t) = wblk m c t.val (lt12 t) := by
  funext j
  have h1 : (j 1).val < 3072 := (j 1).isLt
  exact congrArg₂ (fun (a : EReal) s => a * Common.factor s) (iblk1_apply m c t j) (iblk2_apply m c t (j 0) ⟨(j 1).val / 32, by omega⟩)

/-- Points of the same six work with the same weight rows. -/
theorem wblk_congr (c : Dev nD) (n n' : ℕ) (h : n < 12) (h' : n' < 12) (e : n / 6 = n' / 6) :
    wblk m c n h = wblk m c n' h' := by
  unfold wblk
  funext j
  simp only [e]

/-- What a point leaves: its two result blocks and the scratch. -/
def left (c : Dev nD) (t : Fin cfg0.N) : Vec Ideal S1x1536x1024 .bf16 × Vec Ideal S1x3x1024 .bf16 × Vec Ideal S1024x3072 .bf16 :=
  (conv (iblk m c 0 t) (wblk m c t.val (lt12 t)) (iblk m c 3 t), tail (iblk m c 0 t) (wblk m c t.val (lt12 t)), wblk m c t.val (lt12 t))

/-- At the first point of six. -/
theorem outsA (c : Dev nD) (t : Fin cfg0.N) (h0 : t.val % 6 = 0) : outsAt0 m c t.val t.isLt = left m c t := by
  rw [outsAt0_A m c t h0, out_A, tail_A, sout_A, weights_blk]
  rfl

/-- At a later point, where the scratch still holds the weights. -/
theorem outsB (c : Dev nD) (t : Fin cfg0.N) (h0 : ¬t.val % 6 = 0)
    (hp : (outsAt0 m c (t.val - 1) (Nat.lt_of_le_of_lt (Nat.sub_le _ _) t.isLt)).2.2 = wblk m c t.val (lt12 t)) :
    outsAt0 m c t.val t.isLt = left m c t := by
  rw [outsAt0_B m c t h0, out_B, tail_B]
  unfold sout0_B_0
  rw [hp]
  rfl

/-- At every point the staged results are the point's own, and the scratch holds its weights. -/
theorem outsAt_eq (c : Dev nD) : ∀ (n : ℕ) (h : n < cfg0.N), outsAt0 m c n h = left m c ⟨n, h⟩ := by
  intro n
  induction n with
  | zero => exact fun h => outsA m c ⟨0, h⟩ rfl
  | succ n ih =>
    intro h
    by_cases h0 : (n + 1) % 6 = 0
    · exact outsA m c ⟨n + 1, h⟩ h0
    · refine outsB m c ⟨n + 1, h⟩ h0 ?_
      show (outsAt0 m c n (Nat.lt_of_succ_lt h)).2.2 = wblk m c (n + 1) (lt12 ⟨n + 1, h⟩)
      rw [ih (Nat.lt_of_succ_lt h)]
      exact wblk_congr m c n (n + 1) (lt12 ⟨n, Nat.lt_of_succ_lt h⟩) (lt12 ⟨n + 1, h⟩) (by omega)

/-- A point's linear product is its part of the whole product. -/
theorem lin_blk (c : Dev nD) (t : Fin cfg0.N) (r : Fin 1536) (n : Fin 1024) :
    lin (iblk m c 0 t) (wblk m c t.val (lt12 t)) r n
      = linF (m ((c : Thread nD τ).loc main_arg0)) (m ((c : Thread nD τ).loc main_arg1)) (m ((c : Thread nD τ).loc main_arg2)) ⟨t.val % 6, by omega⟩ r ⟨1024 * (t.val / 6) + n.val, by have := lt12 t; omega⟩ := by
  unfold lin linF
  refine Finset.sum_congr rfl fun k _ => ?_
  exact congrArg₂ (fun a b : EReal => a * b) (iblk0_apply m c t r k) rfl

/-- The same under the rows of zeros: five of the kernel's eight rows of zeros lie above the three that are read. -/
theorem padded_blk (c : Dev nD) (t : Fin cfg0.N) (p : Fin 1544) (q : Fin 1539) (e : p.val = 5 + q.val) (n : Fin 1024) :
    padded (iblk m c 0 t) (wblk m c t.val (lt12 t)) (ix2 p n)
      = padF (m ((c : Thread nD τ).loc main_arg0)) (m ((c : Thread nD τ).loc main_arg1)) (m ((c : Thread nD τ).loc main_arg2)) ⟨t.val % 6, by omega⟩ q ⟨1024 * (t.val / 6) + n.val, by have := lt12 t; omega⟩ := by
  unfold padded padF
  by_cases h : 3 ≤ q.val
  · rw [dif_pos h]
    refine (dif_pos (show 8 ≤ p.val by omega)).trans ?_
    refine Eq.trans ?_ (lin_blk m c t ⟨q.val - 3, by omega⟩ n)
    exact congrArg (fun r => lin (iblk m c 0 t) (wblk m c t.val (lt12 t)) r n) (Fin.ext (by show p.val - 8 = q.val - 3; omega))
  · rw [dif_neg h]
    exact dif_neg (show ¬ 8 ≤ p.val by omega)

/-- A point's taps are the taps of the whole arrays at the same place. -/
theorem tap_blk (c : Dev nD) (t : Fin cfg0.N) (r : Fin 1536) (n : Fin 1024) :
    tap (iblk m c 0 t) (wblk m c t.val (lt12 t)) (iblk m c 3 t) r n
      = tapF (m ((c : Thread nD τ).loc main_arg0)) (m ((c : Thread nD τ).loc main_arg1)) (m ((c : Thread nD τ).loc main_arg2)) (taps m c) ⟨t.val % 6, by omega⟩ r ⟨1024 * (t.val / 6) + n.val, by have := lt12 t; omega⟩ := by
  unfold tap tapF
  refine congrArg₂ (fun a b : EReal => a + b) ?_ (congrArg₂ (fun a b : EReal => a * b)
    (padded_blk m c t ⟨8 + r.val, by omega⟩ ⟨3 + r.val, by omega⟩ (by show 8 + r.val = 5 + (3 + r.val); omega) n) (iblk3_apply m c t 3 n))
  refine congrArg₂ (fun a b : EReal => a + b) ?_ (congrArg₂ (fun a b : EReal => a * b)
    (padded_blk m c t ⟨7 + r.val, by omega⟩ ⟨2 + r.val, by omega⟩ (by show 7 + r.val = 5 + (2 + r.val); omega) n) (iblk3_apply m c t 2 n))
  refine congrArg₂ (fun a b : EReal => a + b) ?_ (congrArg₂ (fun a b : EReal => a * b)
    (padded_blk m c t ⟨6 + r.val, by omega⟩ ⟨1 + r.val, by omega⟩ (by show 6 + r.val = 5 + (1 + r.val); omega) n) (iblk3_apply m c t 1 n))
  exact (congrArg₂ (fun a b : EReal => a * b)
    (padded_blk m c t ⟨5 + r.val, by omega⟩ ⟨0 + r.val, by omega⟩ (by show 5 + r.val = 5 + (0 + r.val); omega) n) (iblk3_apply m c t 0 n))

/-- What a grid point writes back to the first result is its block of the target. -/
theorem flushed4_eq (c : Dev nD) (t : Fin cfg0.N) :
    (dats m 0 c).flushed 4 t = ((cfg0.win 4).blk t).view.read (Elt Ideal) (target (m ((c : Thread nD τ).loc main_arg0)) (m ((c : Thread nD τ).loc main_arg1)) (m ((c : Thread nD τ).loc main_arg2)) (taps m c)) := by
  show (cfg0.win 4).cut (grid0.coords t) ((dats m 0 c).after 4 t) = _
  rw [after0_4, outsAt_eq m c]
  obtain ⟨e0, e1, e2⟩ := idx4 t
  funext y
  show conv (iblk m c 0 t) (wblk m c t.val (lt12 t)) (iblk m c 3 t) y = target _ _ _ _ (((cfg0.win 4).blk t).view.emb y)
  have hy0 : (y 0).val < 1 := (y 0).isLt
  unfold conv target
  have hx : (((cfg0.win 4).blk t).view.emb y 0) = (⟨t.val % 6, by omega⟩ : Fin 6) := by
    apply Fin.ext
    show win0_4.index t 0 * 1 + 1 * (y 0).val = t.val % 6
    rw [e0]; omega
  have hy : (((cfg0.win 4).blk t).view.emb y 1) = (y 1 : Fin 1536) := by
    apply Fin.ext
    show win0_4.index t 1 * 1536 + 1 * (y 1).val = (y 1).val
    rw [e1]; omega
  have hz : (((cfg0.win 4).blk t).view.emb y 2) = (⟨1024 * (t.val / 6) + (y 2).val, by have h : (y 2).val < 1024 := (y 2).isLt; have := lt12 t; omega⟩ : Fin 2048) := by
    apply Fin.ext
    show win0_4.index t 2 * 1024 + 1 * (y 2).val = 1024 * (t.val / 6) + (y 2).val
    rw [e2]; omega
  rw [hx, hy, hz]
  exact congrArg silu (tap_blk m c t (y 1) (y 2))

/-- What a grid point writes back to the second result is its block of the tail rows. -/
theorem flushed5_eq (c : Dev nD) (t : Fin cfg0.N) :
    (dats m 0 c).flushed 5 t = ((cfg0.win 5).blk t).view.read (Elt Ideal) (targetTail (m ((c : Thread nD τ).loc main_arg0)) (m ((c : Thread nD τ).loc main_arg1)) (m ((c : Thread nD τ).loc main_arg2))) := by
  show (cfg0.win 5).cut (grid0.coords t) ((dats m 0 c).after 5 t) = _
  rw [after0_5, outsAt_eq m c]
  obtain ⟨e0, e1, e2⟩ := idx5 t
  funext y
  show tail (iblk m c 0 t) (wblk m c t.val (lt12 t)) y = targetTail _ _ _ (((cfg0.win 5).blk t).view.emb y)
  have hy0 : (y 0).val < 1 := (y 0).isLt
  have hy1 : (y 1).val < 3 := (y 1).isLt
  have hy2 : (y 2).val < 1024 := (y 2).isLt
  unfold tail targetTail
  have hx : (((cfg0.win 5).blk t).view.emb y 0) = (⟨t.val % 6, by omega⟩ : Fin 6) := by
    apply Fin.ext
    show win0_5.index t 0 * 1 + 1 * (y 0).val = t.val % 6
    rw [e0]; omega
  have hy : (((cfg0.win 5).blk t).view.emb y 1).val = (y 1).val := by
    show win0_5.index t 1 * 3 + 1 * (y 1).val = (y 1).val
    rw [e1]; omega
  have hz : (((cfg0.win 5).blk t).view.emb y 2) = (⟨1024 * (t.val / 6) + (y 2).val, by have := lt12 t; omega⟩ : Fin 2048) := by
    apply Fin.ext
    show win0_5.index t 2 * 1024 + 1 * (y 2).val = 1024 * (t.val / 6) + (y 2).val
    rw [e2]; omega
  rw [hx, hz]
  refine (lin_blk m c t ⟨1533 + (y 1).val, by omega⟩ (y 2)).trans ?_
  refine congrArg (fun r => linF (m ((c : Thread nD τ).loc main_arg0)) (m ((c : Thread nD τ).loc main_arg1)) (m ((c : Thread nD τ).loc main_arg2)) _ r _) (Fin.ext ?_)
  show 1533 + (y 1).val = 1533 + (((cfg0.win 5).blk t).view.emb y 1).val
  rw [hy]

/-- The first result after the run. -/
theorem final4 (c : Dev nD) : (dats m 0 c).arrAt 4 cfg0.N = target (m ((c : Thread nD τ).loc main_arg0)) (m ((c : Thread nD τ).loc main_arg1)) (m ((c : Thread nD τ).loc main_arg2)) (taps m c) :=
  (dats m 0 c).arrAt_eq_of_cover 4 _ (fun t _ => flushed4_eq m c t) (fun i => (Value.covered_iff4 i).2 (by
    have h0 : (i 0).val < 6 := (i 0).isLt; have h1 : (i 1).val < 1536 := (i 1).isLt; have h2 : (i 2).val < 2048 := (i 2).isLt; omega))

/-- The second result after the run. -/
theorem final5 (c : Dev nD) : (dats m 0 c).arrAt 5 cfg0.N = targetTail (m ((c : Thread nD τ).loc main_arg0)) (m ((c : Thread nD τ).loc main_arg1)) (m ((c : Thread nD τ).loc main_arg2)) :=
  (dats m 0 c).arrAt_eq_of_cover 5 _ (fun t _ => flushed5_eq m c t) (fun i => (Value.covered_iff5 i).2 (by
    have h0 : (i 0).val < 6 := (i 0).isLt; have h1 : (i 1).val < 3 := (i 1).isLt; have h2 : (i 2).val < 2048 := (i 2).isLt; omega))

/-- The run, read: the two results are the targets, the arguments are unchanged. -/
theorem run_target : θ_run defs (onTc (τ := τ) (main (F := Ideal))) ⟨m, fun _ => 0, ρ⟩ fun r => ∀ c : Dev nD,
      r.2.mem ((c : Thread nD τ).loc main_v1_0) = target (m ((c : Thread nD τ).loc main_arg0)) (m ((c : Thread nD τ).loc main_arg1)) (m ((c : Thread nD τ).loc main_arg2)) (taps m c)
      ∧ r.2.mem ((c : Thread nD τ).loc main_v1_1) = targetTail (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final4 m c),
      (Value.post5 m r h c).trans (final5 m c),
      Value.kept_main_arg0 m r h c,
      Value.kept_main_arg1 m r h c,
      Value.kept_main_arg2 m r h c,
      Value.kept_main_arg3 m r h c⟩)
    (run_main m ρ)

end Cert.QkIdeal.Gen
end
-- ==== Proof.QkRefRun.lean ====
/- The reference of the `Qk` projection: its run. It has one grid point, every window's block is its whole array, so the two
   results are the body's two values of the argument arrays. -/
module

public import proofs.«01_k».proof.Proof.Common
public import proofs.«01_k».proof.Proof.Gen.QkRefIdeal.Frame

@[expose] public section
noncomputable section
namespace Cert.QkRefIdeal.Gen
open Idealize.ShloMosaic Idealize.ShloMosaic.TcCoe Idealize.ShloMosaic.Tactic
open Idealize.SL Idealize.SL.RA Idealize.SL.BI

open Idealize.ShloMosaic.Pipeline (Dat)

variable (m : (ℓ : Loc nD τ sig) → Buf (Elt Ideal) ℓ) (ρ : Dev nD → PrngReg)

/-- The taps as the region finds them: the host has transposed them. -/
def taps (c : Dev nD) : Vec Ideal S4x2048 .f32 :=
  transpose S4x2048 [1, 0] (m ((c : Thread nD τ).loc main_arg3) : Vec Ideal S2048x4 .f32) transposes_S2048x4_S4x2048_1_0

/-- The host operation before the region wrote the transposed taps. -/
theorem V_main_v0 (c : Dev nD) : V m c main_v0 = taps m c := by
  show StableHlo.after hostOps0 (fun b => m (c, b)) main_v0 = _
  unfold hostOps0
  rw [StableHlo.after_cons, StableHlo.after_nil]
  exact StableHlo.unary_result _ _ _ _ _ _

/-- Window 0's block index is zero on every axis. -/
theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x1536x3072.Idx) : ((cfg0.win 0).blk t).view.emb j = j := by
  obtain ⟨e0, e1, e2⟩ := idx0 t
  funext a; apply Fin.ext
  match a with
  | ⟨0, _⟩ => show win0_0.index t (0 : Fin 3) * 6 + 1 * (j 0).val = (j 0).val; omega
  | ⟨1, _⟩ => show win0_0.index t (1 : Fin 3) * 1536 + 1 * (j 1).val = (j 1).val; omega
  | ⟨2, _⟩ => show win0_0.index t (2 : Fin 3) * 3072 + 1 * (j 2).val = (j 2).val; omega

/-- Window 0's block is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- Window 1's block index is zero on every axis. -/
theorem idx1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2048x3072.Idx) : ((cfg0.win 1).blk t).view.emb j = j := by
  obtain ⟨e0, e1⟩ := idx1 t
  funext a; apply Fin.ext
  match a with
  | ⟨0, _⟩ => show win0_1.index t (0 : Fin 2) * 2048 + 1 * (j 0).val = (j 0).val; omega
  | ⟨1, _⟩ => show win0_1.index t (1 : Fin 2) * 3072 + 1 * (j 1).val = (j 1).val; omega

/-- Window 1's block is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index is zero on every axis. -/
theorem idx2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2048x96.Idx) : ((cfg0.win 2).blk t).view.emb j = j := by
  obtain ⟨e0, e1⟩ := idx2 t
  funext a; apply Fin.ext
  match a with
  | ⟨0, _⟩ => show win0_2.index t (0 : Fin 2) * 2048 + 1 * (j 0).val = (j 0).val; omega
  | ⟨1, _⟩ => show win0_2.index t (1 : Fin 2) * 96 + 1 * (j 1).val = (j 1).val; omega

/-- Window 2's block is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index is zero on every axis. -/
theorem idx3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S4x2048.Idx) : ((cfg0.win 3).blk t).view.emb j = j := by
  obtain ⟨e0, e1⟩ := idx3 t
  funext a; apply Fin.ext
  match a with
  | ⟨0, _⟩ => show win0_3.index t (0 : Fin 2) * 4 + 1 * (j 0).val = (j 0).val; omega
  | ⟨1, _⟩ => show win0_3.index t (1 : Fin 2) * 2048 + 1 * (j 1).val = (j 1).val; omega

/-- Window 3's block is its array as the region finds it. -/
theorem iblk3_eq (c : Dev nD) (t : Fin cfg0.N) : iblk m c 3 t = V m c main_v0 := by
  funext j; show V m c main_v0 (((cfg0.win 3).blk t).view.emb j) = V m c main_v0 j; rw [emb3]

/-- Window 4's block index is zero on every axis. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S6x1536x2048.Idx) : ((cfg0.win 4).blk t).view.emb j = j := by
  obtain ⟨e0, e1, e2⟩ := idx4 t
  funext a; apply Fin.ext
  match a with
  | ⟨0, _⟩ => show win0_4.index t (0 : Fin 3) * 6 + 1 * (j 0).val = (j 0).val; omega
  | ⟨1, _⟩ => show win0_4.index t (1 : Fin 3) * 1536 + 1 * (j 1).val = (j 1).val; omega
  | ⟨2, _⟩ => show win0_4.index t (2 : Fin 3) * 2048 + 1 * (j 2).val = (j 2).val; omega

/-- Window 5's block index is zero on every axis. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S6x3x2048.Idx) : ((cfg0.win 5).blk t).view.emb j = j := by
  obtain ⟨e0, e1, e2⟩ := idx5 t
  funext a; apply Fin.ext
  match a with
  | ⟨0, _⟩ => show win0_5.index t (0 : Fin 3) * 6 + 1 * (j 0).val = (j 0).val; omega
  | ⟨1, _⟩ => show win0_5.index t (1 : Fin 3) * 3 + 1 * (j 1).val = (j 1).val; omega
  | ⟨2, _⟩ => show win0_5.index t (2 : Fin 3) * 2048 + 1 * (j 2).val = (j 2).val; omega

/-- The body's first value. -/
abbrev G4 (X : Vec Ideal S6x1536x3072 .bf16) (C : Vec Ideal S2048x3072 .fp8e4m3) (S : Vec Ideal S2048x96 .i8) (T : Vec Ideal S4x2048 .f32) : Vec Ideal S6x1536x2048 .bf16 :=
  k0_pay1 (k0_pay6 X C S T) (k0_pay7 X C S) (k0_pay8 T)

/-- The body's second value. -/
abbrev G5 (X : Vec Ideal S6x1536x3072 .bf16) (C : Vec Ideal S2048x3072 .fp8e4m3) (S : Vec Ideal S2048x96 .i8) : Vec Ideal S6x3x2048 .bf16 := k0_pay2 (k0_pay3 X C S)

/-- The body leaves its value in window 4's block. -/
theorem out4_eq (X : Vec Ideal S6x1536x3072 .bf16) (C : Vec Ideal S2048x3072 .fp8e4m3) (S : Vec Ideal S2048x96 .i8) (T : Vec Ideal S4x2048 .f32) : out0_4 (F := Ideal) X C S T = G4 X C S T := by
  unfold out0_4
  rw [View.canon_unit_zero Common.zeros3, View.ld_unit_zero (S := S6x1536x3072) Common.zeros3 _ X, View.ld_unit_zero (S := S2048x3072) Common.zeros2 _ C, View.ld_unit_zero (S := S2048x96) Common.zeros2 _ S, View.ld_unit_zero (S := S4x2048) Common.zeros2 _ T]

/-- Cutting the point's block out of an array and reading the array through the block give the same. -/
theorem cut4_eq (t : Fin cfg0.N) (Y : Vec Ideal S6x1536x2048 .bf16) :
    (cfg0.win 4).cut (grid0.coords t) Y = ((cfg0.win 4).blk t).view.read (Elt Ideal) Y := by
  funext j
  show Y j = Y (((cfg0.win 4).blk t).view.emb j)
  rw [emb4]

/-- What the point writes back. -/
theorem flushed4_eq (c : Dev nD) (t : Fin cfg0.N) :
    (dats m 0 c).flushed 4 t = ((cfg0.win 4).blk t).view.read (Elt Ideal) (G4 (V m c main_arg0) (V m c main_arg1) (V m c main_arg2) (V m c main_v0)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S6x1536x2048.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run. -/
theorem final4 (c : Dev nD) : (dats m 0 c).arrAt 4 cfg0.N = G4 (m ((c : Thread nD τ).loc main_arg0)) (m ((c : Thread nD τ).loc main_arg1)) (m ((c : Thread nD τ).loc main_arg2)) (taps m c) :=
  ((dats m 0 c).arrAt_eq_of_cover 4 (G4 (V m c main_arg0) (V m c main_arg1) (V m c main_arg2) (V m c main_v0)) (fun t _ => flushed4_eq m c t) covered4).trans (by rw [V_main_arg0, V_main_arg1, V_main_arg2, V_main_v0])

/-- The body leaves its value in window 5's block. -/
theorem out5_eq (X : Vec Ideal S6x1536x3072 .bf16) (C : Vec Ideal S2048x3072 .fp8e4m3) (S : Vec Ideal S2048x96 .i8) (T : Vec Ideal S4x2048 .f32) : out0_5 (F := Ideal) X C S T = G5 X C S := by
  unfold out0_5
  rw [View.canon_unit_zero Common.zeros3, View.ld_unit_zero (S := S6x1536x3072) Common.zeros3 _ X, View.ld_unit_zero (S := S2048x3072) Common.zeros2 _ C, View.ld_unit_zero (S := S2048x96) Common.zeros2 _ S]

/-- Cutting the point's block out of an array and reading the array through the block give the same. -/
theorem cut5_eq (t : Fin cfg0.N) (Y : Vec Ideal S6x3x2048 .bf16) :
    (cfg0.win 5).cut (grid0.coords t) Y = ((cfg0.win 5).blk t).view.read (Elt Ideal) Y := by
  funext j
  show Y j = Y (((cfg0.win 5).blk t).view.emb j)
  rw [emb5]

/-- What the point writes back. -/
theorem flushed5_eq (c : Dev nD) (t : Fin cfg0.N) :
    (dats m 0 c).flushed 5 t = ((cfg0.win 5).blk t).view.read (Elt Ideal) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S6x3x2048.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-- The run, read: each result at its function of the arguments, the arguments unchanged. -/
theorem run : θ_run defs (onTc (τ := τ) (main (F := Ideal))) ⟨m, fun _ => 0, ρ⟩ fun r => ∀ c : Dev nD,
      r.2.mem ((c : Thread nD τ).loc main_v1_0) = G4 (m ((c : Thread nD τ).loc main_arg0)) (m ((c : Thread nD τ).loc main_arg1)) (m ((c : Thread nD τ).loc main_arg2)) (taps m c)
      ∧ r.2.mem ((c : Thread nD τ).loc main_v1_1) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.QkRefIdeal.Gen
end
-- ==== Proof.QkRef.lean ====
/- The reference of the `Qk` projection read at an index: the product of the rows with the codes scaled by `2 ^ (byte - 127)`,
   three rows of zeros above it, the four taps, the activation, and the last three rows. -/
module

public import proofs.«01_k».proof.Proof.QkRefRun

@[expose] public section
noncomputable section
namespace Cert.QkRefIdeal.Gen
open Idealize.ShloMosaic Idealize.ShloMosaic.TcCoe Idealize.ShloMosaic.Tactic
open Idealize.SL Idealize.SL.RA Idealize.SL.BI

/-- The linear product at an index. -/
theorem lin_apply (X : Vec Ideal S6x1536x3072 .bf16) (C : Vec Ideal S2048x3072 .fp8e4m3) (S : Vec Ideal S2048x96 .i8) (b : Fin 6) (r : Fin 1536) (n : Fin 2048) :
    k0_pay3 X C S (ix3 b r n) = ∑ k : Fin 3072, (show EReal from X (ix3 b r k)) * ((show EReal from C (ix2 n k)) * Common.power (S (ix2 n ⟨k.val / 32, by omega⟩))) := by
  pointwise [k0_pay3]
  rfl

/-- The product under three rows of zeros, at an index. -/
theorem pad_apply (X : Vec Ideal S6x1536x3072 .bf16) (C : Vec Ideal S2048x3072 .fp8e4m3) (S : Vec Ideal S2048x96 .i8) (b : Fin 6) (p : Fin 1539) (n : Fin 2048) :
    (show EReal from k0_pay5 X C S (ix3 b p n)) = if h : 3 ≤ p.val then (show EReal from k0_pay3 X C S (ix3 b ⟨p.val - 3, by omega⟩ n)) else 0 := by
  unfold k0_pay5
  refine (concatenate_pair_apply _ _ _ _ _).trans ?_
  by_cases h : p.val < 3
  · rw [dif_neg (by omega : ¬ 3 ≤ p.val)]
    refine (dif_pos h).trans ?_
    pointwise
  · rw [dif_pos (by omega : 3 ≤ p.val)]
    refine (dif_neg h).trans ?_
    pointwise

/-- The first three taps at an index. -/
theorem taps3_apply (X : Vec Ideal S6x1536x3072 .bf16) (C : Vec Ideal S2048x3072 .fp8e4m3) (S : Vec Ideal S2048x96 .i8) (T : Vec Ideal S4x2048 .f32) (b : Fin 6) (r : Fin 1536) (n : Fin 2048) :
    k0_pay6 X C S T (ix3 b r n) = 0 + (show EReal from k0_pay5 (F := Ideal) X C S (ix3 b ⟨0 + r.val, by omega⟩ n)) * (show EReal from T (ix2 0 n)) + (show EReal from k0_pay5 (F := Ideal) X C S (ix3 b ⟨1 + r.val, by omega⟩ n)) * (show EReal from T (ix2 1 n)) + (show EReal from k0_pay5 (F := Ideal) X C S (ix3 b ⟨2 + r.val, by omega⟩ n)) * (show EReal from T (ix2 2 n)) := by
  pointwise [k0_pay6, k0_pay4]

/-- The first result at an index. -/
theorem out_apply (X : Vec Ideal S6x1536x3072 .bf16) (C : Vec Ideal S2048x3072 .fp8e4m3) (S : Vec Ideal S2048x96 .i8) (T : Vec Ideal S4x2048 .f32) (b : Fin 6) (r : Fin 1536) (n : Fin 2048) :
    G4 X C S T (ix3 b r n) = (fun z : EReal => z * Ideal.logistic z) (0 + (show EReal from k0_pay5 (F := Ideal) X C S (ix3 b ⟨0 + r.val, by omega⟩ n)) * (show EReal from T (ix2 0 n)) + (show EReal from k0_pay5 (F := Ideal) X C S (ix3 b ⟨1 + r.val, by omega⟩ n)) * (show EReal from T (ix2 1 n)) + (show EReal from k0_pay5 (F := Ideal) X C S (ix3 b ⟨2 + r.val, by omega⟩ n)) * (show EReal from T (ix2 2 n)) + (show EReal from k0_pay5 (F := Ideal) X C S (ix3 b ⟨3 + r.val, by omega⟩ n)) * (show EReal from T (ix2 3 n))) := by
  unfold G4
  pointwise [k0_pay1, k0_pay6, k0_pay4, k0_pay7, k0_pay8]

/-- The second result at an index. -/
theorem tail_apply (X : Vec Ideal S6x1536x3072 .bf16) (C : Vec Ideal S2048x3072 .fp8e4m3) (S : Vec Ideal S2048x96 .i8) (b : Fin 6) (r : Fin 3) (n : Fin 2048) :
    G5 X C S (ix3 b r n) = k0_pay3 X C S (ix3 b ⟨1533 + r.val, by omega⟩ n) := by
  unfold G5
  pointwise [k0_pay2]

end Cert.QkRefIdeal.Gen
end
-- ==== Proof.QkEq.lean ====
/- The `Qk` projection: the kernel's two results are the reference's. The two differ in how a scale byte becomes a power of
   two and in where the taps are applied; they agree for bytes from 1 to 254, the precondition. -/
module

public import Idealize.ShloMosaic.Lib.ReduceAll
public import proofs.«01_k».proof.Defs
public import proofs.«01_k».proof.Proof.QkArray
public import proofs.«01_k».proof.Proof.QkRef
public import proofs.«01_k».proof.Proof.Gen.Pre_scales_qk

@[expose] public section
noncomputable section
namespace Cert.QkEq
open Idealize.ShloMosaic Idealize.ShloMosaic.TcCoe Idealize.ShloMosaic.Tactic
open Idealize.SL Idealize.SL.RA Idealize.SL.BI

/-- The precondition, unfolded: every scale byte is from 1 to 254. -/
theorem scale_bounds [Cert.Pre_scales_qk.Facts] (X : FVec Ideal Cert.Pre_scales_qk.S6x1536x3072 .bf16) (C : FVec Ideal Cert.Pre_scales_qk.S2048x3072 .fp8e4m3)
    (S : IVec Cert.Pre_scales_qk.S2048x96 8) (T : FVec Ideal Cert.Pre_scales_qk.S2048x4 .f32) (h : ∀ i, Cert.Pre_scales_qk.fn (F := Ideal) X C S T i = 1#1) (i : Cert.Pre_scales_qk.S2048x96.Idx) :
    1 ≤ (S i).toNat ∧ (S i).toNat ≤ 254 := by
  have : Subsingleton Cert.Pre_scales_qk.S_.Idx := ⟨fun a b => funext fun d => d.elim0⟩
  have e := Host.reduce_andi_all _ _ _ _ (fun d => d.elim0) (h (fun d => d.elim0)) i
  obtain ⟨e1, e2⟩ := IntOp.andi_eq_one.1 e
  exact ⟨IntOp.cmpi_uge.1 e1, IntOp.cmpi_ule.1 e2⟩

/-- The linear products agree: each scale factor is the power the byte states. -/
theorem lin_eq (X : Vec Ideal Cert.QkIdeal.S6x1536x3072 .bf16) (C : Vec Ideal Cert.QkIdeal.S2048x3072 .fp8e4m3) (S : Vec Ideal Cert.QkIdeal.S2048x96 .i8) (hS : ∀ i, 1 ≤ (S i).toNat ∧ (S i).toNat ≤ 254) (b : Fin 6) (r : Fin 1536) (n : Fin 2048) :
    Cert.QkIdeal.Gen.linF X C S b r n = Cert.QkRefIdeal.Gen.k0_pay3 (F := Ideal) X C S (ix3 b r n) := by
  refine Eq.trans ?_ (Cert.QkRefIdeal.Gen.lin_apply X C S b r n).symm
  unfold Cert.QkIdeal.Gen.linF
  refine Finset.sum_congr rfl fun k _ => ?_
  have e := Common.factor_eq_power (S (ix2 n ⟨k.val / 32, by omega⟩)) (hS _).1 (hS _).2
  rw [← e]
  rfl

/-- So do the products under three rows of zeros. -/
theorem pad_eq (X : Vec Ideal Cert.QkIdeal.S6x1536x3072 .bf16) (C : Vec Ideal Cert.QkIdeal.S2048x3072 .fp8e4m3) (S : Vec Ideal Cert.QkIdeal.S2048x96 .i8) (hS : ∀ i, 1 ≤ (S i).toNat ∧ (S i).toNat ≤ 254) (b : Fin 6) (p : Fin 1539) (n : Fin 2048) :
    Cert.QkIdeal.Gen.padF X C S b p n = Cert.QkRefIdeal.Gen.k0_pay5 (F := Ideal) X C S (ix3 b p n) := by
  refine Eq.trans ?_ (Cert.QkRefIdeal.Gen.pad_apply X C S b p n).symm
  unfold Cert.QkIdeal.Gen.padF
  by_cases h : 3 ≤ p.val
  · rw [dif_pos h, dif_pos h]; exact lin_eq X C S hS b _ n
  · rw [dif_neg h, dif_neg h]

/-- The first result of the kernel is the reference's. -/
theorem target_eq_ref (X : Vec Ideal Cert.QkIdeal.S6x1536x3072 .bf16) (C : Vec Ideal Cert.QkIdeal.S2048x3072 .fp8e4m3) (S : Vec Ideal Cert.QkIdeal.S2048x96 .i8) (T : Vec Ideal Cert.QkIdeal.S4x2048 .f32) (hS : ∀ i, 1 ≤ (S i).toNat ∧ (S i).toNat ≤ 254) :
    Cert.QkIdeal.Gen.target X C S T = Cert.QkRefIdeal.Gen.G4 X C S T := by
  funext j
  obtain ⟨b, r, n, rfl⟩ : ∃ (b : Fin 6) (r : Fin 1536) (n : Fin 2048), j = ix3 b r n := ⟨j 0, j 1, j 2, eq_ix3 j⟩
  refine Eq.trans ?_ (Cert.QkRefIdeal.Gen.out_apply X C S T b r n).symm
  show Cert.Conv.silu (Cert.QkIdeal.Gen.tapF X C S T b r n) = Cert.Conv.silu _
  refine congrArg Cert.Conv.silu ?_
  unfold Cert.QkIdeal.Gen.tapF
  simp only [pad_eq X C S hS, zero_add]

/-- The second result of the kernel is the reference's. -/
theorem tail_eq_ref (X : Vec Ideal Cert.QkIdeal.S6x1536x3072 .bf16) (C : Vec Ideal Cert.QkIdeal.S2048x3072 .fp8e4m3) (S : Vec Ideal Cert.QkIdeal.S2048x96 .i8) (hS : ∀ i, 1 ≤ (S i).toNat ∧ (S i).toNat ≤ 254) :
    Cert.QkIdeal.Gen.targetTail X C S = Cert.QkRefIdeal.Gen.G5 X C S := by
  funext j
  obtain ⟨b, r, n, rfl⟩ : ∃ (b : Fin 6) (r : Fin 3) (n : Fin 2048), j = ix3 b r n := ⟨j 0, j 1, j 2, eq_ix3 j⟩
  exact (lin_eq X C S hS b _ n).trans (Cert.QkRefIdeal.Gen.tail_apply X C S b r n).symm

/-- The value claim: run on the same arguments, kernel and reference leave the same two results. -/
theorem algebraic : Cert.algebraic_QkIdeal_QkRefIdeal_pre_scales_qk := fun m g m' g' hp ha => by
  have hS := fun c => scale_bounds _ _ _ _ (congrFun (hp c))
  refine ⟨fun c => Cert.QkIdeal.Gen.target (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (Cert.QkIdeal.Gen.taps m c), fun c => Cert.QkIdeal.Gen.targetTail (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)), Cert.QkIdeal.Gen.run_target m g, ?_⟩
  refine (θ_run Cert.QkRefIdeal.defs _ _).mono (fun r h c => ⟨(h c).1.trans ?_, (h c).2.1.trans ?_, (h c).2.2⟩) (Cert.QkRefIdeal.Gen.run m' g')
  · obtain ⟨h0, h1, h2, h3⟩ := ha c
    unfold Cert.QkRefIdeal.Gen.taps
    rw [h0, h1, h2, h3]
    exact (target_eq_ref _ _ _ _ (hS c)).symm
  · obtain ⟨h0, h1, h2, h3⟩ := ha c
    rw [h0, h1, h2]
    exact (tail_eq_ref _ _ _ (hS c)).symm

end Cert.QkEq
end
-- ==== Proof.ValTrip.lean ====
/- The `Val` projection: what one trip of the dequantising loop stores. Each of the 24 tiles is its place of ONE function, the
   codes times the powers of two of their scale bytes. -/
module

public import proofs.«01_k».proof.Proof.Common
public import proofs.«01_k».proof.Proof.Gen.ValIdeal.Value

@[expose] public section
noncomputable section
namespace Cert.ValIdeal.Gen
open Idealize.ShloMosaic Idealize.ShloMosaic.TcCoe Idealize.ShloMosaic.Tactic
open Idealize.SL Idealize.SL.RA Idealize.SL.BI

set_option maxRecDepth 65536 in
/-- Every store of a trip writes the dequantised weights at its own place. -/
theorem trip_pieces (𝒱 : Variants) (c : Dev nD) (bd : Option 𝒱.V) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (k0_h1 : k0_cond1 i = 1#1) (X3 : BufTy.Contents (Elt Ideal) arg3.view.ty) (X4 : BufTy.Contents (Elt Ideal) arg4.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 k0_h1 X3 X4 k, ∀ x, p.2 x = Common.weights96 (arg3.view.read (Elt Ideal) X3) (arg4.view.read (Elt Ideal) X4) (p.1.emb x) := by
  unfold tripL_k0_t1 trip_k0_t1
  dsimp only
  refine List.forall_mem_cons.mpr ⟨fun x => Common.piece96 (arg3.view.read (Elt Ideal) X3) (arg4.view.read (Elt Ideal) X4) 23 (by decide) 92#32 rfl k.val (k0_off1 k) (k0_off25 k) (k0_off1_inb i k k0_h1) (k0_off25_inb i k k0_h1) (k0_off1_eq k) (k0_off25_eq k) x, ?_⟩
  refine List.forall_mem_cons.mpr ⟨fun x => Common.piece96 (arg3.view.read (Elt Ideal) X3) (arg4.view.read (Elt Ideal) X4) 22 (by decide) 88#32 rfl k.val (k0_off1 k) (k0_off24 k) (k0_off1_inb i k k0_h1) (k0_off24_inb i k k0_h1) (k0_off1_eq k) (k0_off24_eq k) x, ?_⟩
  refine List.forall_mem_cons.mpr ⟨fun x => Common.piece96 (arg3.view.read (Elt Ideal) X3) (arg4.view.read (Elt Ideal) X4) 21 (by decide) 84#32 rfl k.val (k0_off1 k) (k0_off23 k) (k0_off1_inb i k k0_h1) (k0_off23_inb i k k0_h1) (k0_off1_eq k) (k0_off23_eq k) x, ?_⟩
  refine List.forall_mem_cons.mpr ⟨fun x => Common.piece96 (arg3.view.read (Elt Ideal) X3) (arg4.view.read (Elt Ideal) X4) 20 (by decide) 80#32 rfl k.val (k0_off1 k) (k0_off22 k) (k0_off1_inb i k k0_h1) (k0_off22_inb i k k0_h1) (k0_off1_eq k) (k0_off22_eq k) x, ?_⟩
  refine List.forall_mem_cons.mpr ⟨fun x => Common.piece96 (arg3.view.read (Elt Ideal) X3) (arg4.view.read (Elt Ideal) X4) 19 (by decide) 76#32 rfl k.val (k0_off1 k) (k0_off21 k) (k0_off1_inb i k k0_h1) (k0_off21_inb i k k0_h1) (k0_off1_eq k) (k0_off21_eq k) x, ?_⟩
  refine List.forall_mem_cons.mpr ⟨fun x => Common.piece96 (arg3.view.read (Elt Ideal) X3) (arg4.view.read (Elt Ideal) X4) 18 (by decide) 72#32 rfl k.val (k0_off1 k) (k0_off20 k) (k0_off1_inb i k k0_h1) (k0_off20_inb i k k0_h1) (k0_off1_eq k) (k0_off20_eq k) x, ?_⟩
  refine List.forall_mem_cons.mpr ⟨fun x => Common.piece96 (arg3.view.read (Elt Ideal) X3) (arg4.view.read (Elt Ideal) X4) 17 (by decide) 68#32 rfl k.val (k0_off1 k) (k0_off19 k) (k0_off1_inb i k k0_h1) (k0_off19_inb i k k0_h1) (k0_off1_eq k) (k0_off19_eq k) x, ?_⟩
  refine List.forall_mem_cons.mpr ⟨fun x => Common.piece96 (arg3.view.read (Elt Ideal) X3) (arg4.view.read (Elt Ideal) X4) 16 (by decide) 64#32 rfl k.val (k0_off1 k) (k0_off18 k) (k0_off1_inb i k k0_h1) (k0_off18_inb i k k0_h1) (k0_off1_eq k) (k0_off18_eq k) x, ?_⟩
  refine List.forall_mem_cons.mpr ⟨fun x => Common.piece96 (arg3.view.read (Elt Ideal) X3) (arg4.view.read (Elt Ideal) X4) 15 (by decide) 60#32 rfl k.val (k0_off1 k) (k0_off17 k) (k0_off1_inb i k k0_h1) (k0_off17_inb i k k0_h1) (k0_off1_eq k) (k0_off17_eq k) x, ?_⟩
  refine List.forall_mem_cons.mpr ⟨fun x => Common.piece96 (arg3.view.read (Elt Ideal) X3) (arg4.view.read (Elt Ideal) X4) 14 (by decide) 56#32 rfl k.val (k0_off1 k) (k0_off16 k) (k0_off1_inb i k k0_h1) (k0_off16_inb i k k0_h1) (k0_off1_eq k) (k0_off16_eq k) x, ?_⟩
  refine List.forall_mem_cons.mpr ⟨fun x => Common.piece96 (arg3.view.read (Elt Ideal) X3) (arg4.view.read (Elt Ideal) X4) 13 (by decide) 52#32 rfl k.val (k0_off1 k) (k0_off15 k) (k0_off1_inb i k k0_h1) (k0_off15_inb i k k0_h1) (k0_off1_eq k) (k0_off15_eq k) x, ?_⟩
  refine List.forall_mem_cons.mpr ⟨fun x => Common.piece96 (arg3.view.read (Elt Ideal) X3) (arg4.view.read (Elt Ideal) X4) 12 (by decide) 48#32 rfl k.val (k0_off1 k) (k0_off14 k) (k0_off1_inb i k k0_h1) (k0_off14_inb i k k0_h1) (k0_off1_eq k) (k0_off14_eq k) x, ?_⟩
  refine List.forall_mem_cons.mpr ⟨fun x => Common.piece96 (arg3.view.read (Elt Ideal) X3) (arg4.view.read (Elt Ideal) X4) 11 (by decide) 44#32 rfl k.val (k0_off1 k) (k0_off13 k) (k0_off1_inb i k k0_h1) (k0_off13_inb i k k0_h1) (k0_off1_eq k) (k0_off13_eq k) x, ?_⟩
  refine List.forall_mem_cons.mpr ⟨fun x => Common.piece96 (arg3.view.read (Elt Ideal) X3) (arg4.view.read (Elt Ideal) X4) 10 (by decide) 40#32 rfl k.val (k0_off1 k) (k0_off12 k) (k0_off1_inb i k k0_h1) (k0_off12_inb i k k0_h1) (k0_off1_eq k) (k0_off12_eq k) x, ?_⟩
  refine List.forall_mem_cons.mpr ⟨fun x => Common.piece96 (arg3.view.read (Elt Ideal) X3) (arg4.view.read (Elt Ideal) X4) 9 (by decide) 36#32 rfl k.val (k0_off1 k) (k0_off11 k) (k0_off1_inb i k k0_h1) (k0_off11_inb i k k0_h1) (k0_off1_eq k) (k0_off11_eq k) x, ?_⟩
  refine List.forall_mem_cons.mpr ⟨fun x => Common.piece96 (arg3.view.read (Elt Ideal) X3) (arg4.view.read (Elt Ideal) X4) 8 (by decide) 32#32 rfl k.val (k0_off1 k) (k0_off10 k) (k0_off1_inb i k k0_h1) (k0_off10_inb i k k0_h1) (k0_off1_eq k) (k0_off10_eq k) x, ?_⟩
  refine List.forall_mem_cons.mpr ⟨fun x => Common.piece96 (arg3.view.read (Elt Ideal) X3) (arg4.view.read (Elt Ideal) X4) 7 (by decide) 28#32 rfl k.val (k0_off1 k) (k0_off9 k) (k0_off1_inb i k k0_h1) (k0_off9_inb i k k0_h1) (k0_off1_eq k) (k0_off9_eq k) x, ?_⟩
  refine List.forall_mem_cons.mpr ⟨fun x => Common.piece96 (arg3.view.read (Elt Ideal) X3) (arg4.view.read (Elt Ideal) X4) 6 (by decide) 24#32 rfl k.val (k0_off1 k) (k0_off8 k) (k0_off1_inb i k k0_h1) (k0_off8_inb i k k0_h1) (k0_off1_eq k) (k0_off8_eq k) x, ?_⟩
  refine List.forall_mem_cons.mpr ⟨fun x => Common.piece96 (arg3.view.read (Elt Ideal) X3) (arg4.view.read (Elt Ideal) X4) 5 (by decide) 20#32 rfl k.val (k0_off1 k) (k0_off7 k) (k0_off1_inb i k k0_h1) (k0_off7_inb i k k0_h1) (k0_off1_eq k) (k0_off7_eq k) x, ?_⟩
  refine List.forall_mem_cons.mpr ⟨fun x => Common.piece96 (arg3.view.read (Elt Ideal) X3) (arg4.view.read (Elt Ideal) X4) 4 (by decide) 16#32 rfl k.val (k0_off1 k) (k0_off6 k) (k0_off1_inb i k k0_h1) (k0_off6_inb i k k0_h1) (k0_off1_eq k) (k0_off6_eq k) x, ?_⟩
  refine List.forall_mem_cons.mpr ⟨fun x => Common.piece96 (arg3.view.read (Elt Ideal) X3) (arg4.view.read (Elt Ideal) X4) 3 (by decide) 12#32 rfl k.val (k0_off1 k) (k0_off5 k) (k0_off1_inb i k k0_h1) (k0_off5_inb i k k0_h1) (k0_off1_eq k) (k0_off5_eq k) x, ?_⟩
  refine List.forall_mem_cons.mpr ⟨fun x => Common.piece96 (arg3.view.read (Elt Ideal) X3) (arg4.view.read (Elt Ideal) X4) 2 (by decide) 8#32 rfl k.val (k0_off1 k) (k0_off4 k) (k0_off1_inb i k k0_h1) (k0_off4_inb i k k0_h1) (k0_off1_eq k) (k0_off4_eq k) x, ?_⟩
  refine List.forall_mem_cons.mpr ⟨fun x => Common.piece96 (arg3.view.read (Elt Ideal) X3) (arg4.view.read (Elt Ideal) X4) 1 (by decide) 4#32 rfl k.val (k0_off1 k) (k0_off3 k) (k0_off1_inb i k k0_h1) (k0_off3_inb i k k0_h1) (k0_off1_eq k) (k0_off3_eq k) x, ?_⟩
  refine List.forall_mem_cons.mpr ⟨fun x => Common.piece96 (arg3.view.read (Elt Ideal) X3) (arg4.view.read (Elt Ideal) X4) 0 (by decide) 0#32 rfl k.val (k0_off1 k) (k0_off2 k) (k0_off1_inb i k k0_h1) (k0_off2_inb i k k0_h1) (k0_off1_eq k) (k0_off2_eq k) x, ?_⟩
  exact fun p hp => absurd hp List.not_mem_nil

end Cert.ValIdeal.Gen
end
-- ==== Proof.ValBlock.lean ====
/- The `Val` projection: what the dequantising loop leaves in the scratch, and how the body reads it back. -/
module

public import proofs.«01_k».proof.Proof.ValTrip

@[expose] public section
noncomputable section
namespace Cert.ValIdeal.Gen
open Idealize.ShloMosaic Idealize.ShloMosaic.TcCoe Idealize.ShloMosaic.Tactic
open Idealize.SL Idealize.SL.RA Idealize.SL.BI

/-- Every store of the first `n` trips writes the dequantised weights at its own place. -/
theorem pb_pieces (𝒱 : Variants) (c : Dev nD) (bd : Option 𝒱.V) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (k0_h1 : k0_cond1 i = 1#1) (X3 : BufTy.Contents (Elt Ideal) arg3.view.ty) (X4 : BufTy.Contents (Elt Ideal) arg4.view.ty) (n : ℕ) :
    ∀ p ∈ pb_k0_t1 (F := Ideal) 𝒱 c bd i arg2 harg2 arg3 harg3 arg4 harg4 arg5 harg5 arg6 harg6 arg7 harg7 arg8 harg8 arg9 harg9 k0_h1 X3 X4 n, ∀ x, p.2 x = Common.weights96 (arg3.view.read (Elt Ideal) X3) (arg4.view.read (Elt Ideal) X4) (p.1.emb x) := by
  induction n with
  | zero => exact fun p hp => absurd hp List.not_mem_nil
  | succ n ih =>
    rw [pb_k0_t1.eq_2]; unfold pb_k0_t1Step
    split
    · intro p hp
      rcases List.mem_append.mp hp with h | h
      · exact trip_pieces 𝒱 c bd i arg2 harg2 arg3 harg3 arg4 harg4 arg5 harg5 arg6 harg6 arg7 harg7 arg8 harg8 arg9 harg9 k0_h1 X3 X4 _ p h
      · exact ih p h
    · exact ih

/-- The scratch after the loop: the dequantised weights of the block. -/
theorem sout_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    sout0_A_0 c i arg2 harg2 arg3 harg3 arg4 harg4 arg5 harg5 arg6 harg6 arg7 harg7 arg8 harg8 arg9 harg9 hc0 x0 x1 x2 x3 = Common.weights96 x1 x2 := by
  unfold sout0_A_0
  rw [View.read_writes_junk_eq_canon]
  funext y
  refine View.canon_apply_of_pieces (Common.weights96 x1 x2) _ ?_ y (scover0_A_0 c i arg2 harg2 arg3 harg3 arg4 harg4 arg5 harg5 arg6 harg6 arg7 harg7 arg8 harg8 arg9 harg9 hc0 x0 x1 x2 x3 y)
  have h := pb_pieces Variants.none c none i arg2 harg2 arg3 harg3 arg4 harg4 arg5 harg5 arg6 harg6 arg7 harg7 arg8 harg8 arg9 harg9 hc0 (harg3.unread x1) (harg4.unread x2) k0_t1_loop.trips
  rw [harg3.read_unread, harg4.read_unread] at h
  unfold kernelRun0_A
  exact h

/-- The scratch read back whole after the loop. -/
theorem readback_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1280x3072) ![0, 0] ![1280, 3072] inb_S1280x3072_S1280x3072_0_0).toLoadRect) = Common.weights96 x1 x2 := by
    rw [View.readCov_eq_canon']
    have h : View.canon (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) = Common.weights96 x1 x2 := by
      rw [← sout_A c i arg2 harg2 arg3 harg3 arg4 harg4 arg5 harg5 arg6 harg6 arg7 harg7 arg8 harg8 arg9 harg9 hc0 x0 x1 x2 x3]
      unfold sout0_A_0
      rw [View.read_writes_junk_eq_canon]
      rfl
    rw [h]
    funext j
    refine congrArg (Common.weights96 x1 x2) (funext fun d => Fin.ext ?_)
    match d with
    | ⟨0, _⟩ => show 0 + 1 * (j 0).val = (j 0).val; omega
    | ⟨1, _⟩ => show 0 + 1 * (j 1).val = (j 1).val; omega

/-- The carried scratch read whole. -/
theorem readback_B (arg8 : Memref sig .tc .vmem S1280x3072 .bf16) (harg8 : arg8.IsWhole) (xs0 : Vec Ideal S1280x3072 .bf16) :
    (View.readAt (Elt Ideal) arg8.view (Rect.unit (s := S1280x3072) ![0, 0] ![1280, 3072] inb_S1280x3072_S1280x3072_0_0).toLoadRect (harg8.unread xs0)) = xs0 := by
    rw [View.readAt_eq_ld, harg8.read_unread]
    funext j
    refine congrArg xs0 (funext fun d => Fin.ext ?_)
    match d with
    | ⟨0, _⟩ => show 0 + 1 * (j 0).val = (j 0).val; omega
    | ⟨1, _⟩ => show 0 + 1 * (j 1).val = (j 1).val; omega

end Cert.ValIdeal.Gen
end
-- ==== Proof.ValConv.lean ====
/- The `Val` projection: the stores into the padded rows, the convolution of each row block and the tail rows, as functions of the
   block of rows, the dequantised weights and the convolution's taps. The row blocks are written with the payloads of the first
   one: those of the others are the same operations. -/
module

public import proofs.«01_k».proof.Proof.ValBlock
public import proofs.«01_k».proof.Proof.Conv

@[expose] public section
noncomputable section
namespace Cert.ValIdeal.Gen
open Idealize.ShloMosaic Idealize.ShloMosaic.TcCoe Idealize.ShloMosaic.Tactic
open Idealize.SL Idealize.SL.RA Idealize.SL.BI
open Cert.Conv

/-- A row block's product at an element. -/
theorem lin_apply (xb : Vec Ideal S1x256x3072 .bf16) (W : Vec Ideal S1280x3072 .bf16) (r : Fin 256) (n : Fin 1280) :
    k0_pay51 xb W (ix2 r n) = ∑ k : Fin 3072, (show EReal from xb (ix3 0 r k)) * (show EReal from W (ix2 n k)) := by
  pointwise [k0_pay51]

variable (X : Vec Ideal S1x1536x3072 .bf16) (W : Vec Ideal S1280x3072 .bf16) (C : Vec Ideal S4x1280 .f32)

/-- The stores into the padded rows once `k` row blocks are stored. -/
def rows : (k : ℕ) → k ≤ 6 → List (View.Piece (Elt Ideal) S1544x1280 .f32)
  | 0, _ => [⟨Rect.unit (s := S1544x1280) ![0, 0] S8x1280.size inb_S1544x1280_S8x1280_0_0, k0_pay50 (F := Ideal)⟩]
  | k + 1, hk => ⟨Rect.unit (s := S1544x1280) ![8 + 256 * k, 0] S256x1280.size (inb_padded 1280 _ (by omega)),
      k0_pay51 (View.ld X (Rect.unit (s := S1x1536x3072) ![0, 256 * k, 0] S1x256x3072.size (Common.inb_rows 3072 _ (by omega)))) W⟩ :: rows k (by omega)

/-- After `k` row blocks the padded rows hold the zeros and the first `256 * k` rows of the product. -/
theorem rows_holds : ∀ (k : ℕ) (hk : k ≤ 6), Holds X W (rows X W k hk) (8 + 256 * k)
  | 0, _ => Holds.zeros _ (fun r n => by pointwise [k0_pay50]) _
  | k + 1, hk => (rows_holds k (by omega)).step (256 * k) rfl (Common.inb_rows 3072 _ (by omega)) _ _ (lin_apply _ W)

/-- The result block: the convolution under the activation, each head's 320 columns apart. -/
def conv (j : S1x4x1536x320.Idx) : EReal :=
  silu (tap X W C (j 2) ⟨320 * (j 1).val + (j 3).val, by have h1 : (j 1).val < 4 := (j 1).isLt; have h3 : (j 3).val < 320 := (j 3).isLt; omega⟩)

/-- The activation of four rows, each times its row of the taps, on the columns of head `h`: the payload of a result store. -/
def pay (h : Fin 4) (a0 : Vec Ideal S256x1280 .f32) (c0 : Vec Ideal S1x1280 .f32) (a1 : Vec Ideal S256x1280 .f32) (c1 : Vec Ideal S1x1280 .f32) (a2 : Vec Ideal S256x1280 .f32) (c2 : Vec Ideal S1x1280 .f32) (a3 : Vec Ideal S256x1280 .f32) (c3 : Vec Ideal S1x1280 .f32) : Vec Ideal S1x1x256x320 .bf16 :=
  match h with
  | 0 => k0_pay55 (k0_pay52 a0 c0 a1 c1) a2 (k0_pay53 c2) a3 c3
  | 1 => k0_pay56 (k0_pay52 a0 c0 a1 c1) a2 (k0_pay53 c2) a3 c3
  | 2 => k0_pay57 (k0_pay52 a0 c0 a1 c1) a2 (k0_pay53 c2) a3 c3
  | 3 => k0_pay58 (k0_pay52 a0 c0 a1 c1) a2 (k0_pay53 c2) a3 c3

/-- That payload at an element. -/
theorem pay_apply (h : Fin 4) (a0 : Vec Ideal S256x1280 .f32) (c0 : Vec Ideal S1x1280 .f32) (a1 : Vec Ideal S256x1280 .f32) (c1 : Vec Ideal S1x1280 .f32) (a2 : Vec Ideal S256x1280 .f32) (c2 : Vec Ideal S1x1280 .f32) (a3 : Vec Ideal S256x1280 .f32) (c3 : Vec Ideal S1x1280 .f32) (r : Fin 256) (n : Fin 320) :
    pay h a0 c0 a1 c1 a2 c2 a3 c3 (ix4 0 0 r n) = silu ((show EReal from a0 (ix2 r ⟨320 * h.val + n.val, by omega⟩)) * (show EReal from c0 (ix2 0 ⟨320 * h.val + n.val, by omega⟩)) + (show EReal from a1 (ix2 r ⟨320 * h.val + n.val, by omega⟩)) * (show EReal from c1 (ix2 0 ⟨320 * h.val + n.val, by omega⟩)) + (show EReal from a2 (ix2 r ⟨320 * h.val + n.val, by omega⟩)) * (show EReal from c2 (ix2 0 ⟨320 * h.val + n.val, by omega⟩)) + (show EReal from a3 (ix2 r ⟨320 * h.val + n.val, by omega⟩)) * (show EReal from c3 (ix2 0 ⟨320 * h.val + n.val, by omega⟩))) := by
  unfold silu
  match h with
  | 0 =>
    show k0_pay55 (k0_pay52 a0 c0 a1 c1) a2 (k0_pay53 c2) a3 c3 (ix4 0 0 r n) = _
    have e : ∀ p, (⟨320 * (0 : Fin 4).val + n.val, p⟩ : Fin 1280) = ⟨0 + n.val, by omega⟩ := fun _ => rfl
    simp only [e]
    pointwise [k0_pay55, k0_pay52, k0_pay53, k0_pay54]
  | 1 =>
    show k0_pay56 (k0_pay52 a0 c0 a1 c1) a2 (k0_pay53 c2) a3 c3 (ix4 0 0 r n) = _
    have e : ∀ p, (⟨320 * (1 : Fin 4).val + n.val, p⟩ : Fin 1280) = ⟨320 + n.val, by omega⟩ := fun _ => rfl
    simp only [e]
    pointwise [k0_pay56, k0_pay52, k0_pay53, k0_pay54]
  | 2 =>
    show k0_pay57 (k0_pay52 a0 c0 a1 c1) a2 (k0_pay53 c2) a3 c3 (ix4 0 0 r n) = _
    have e : ∀ p, (⟨320 * (2 : Fin 4).val + n.val, p⟩ : Fin 1280) = ⟨640 + n.val, by omega⟩ := fun _ => rfl
    simp only [e]
    pointwise [k0_pay57, k0_pay52, k0_pay53, k0_pay54]
  | 3 =>
    show k0_pay58 (k0_pay52 a0 c0 a1 c1) a2 (k0_pay53 c2) a3 c3 (ix4 0 0 r n) = _
    have e : ∀ p, (⟨320 * (3 : Fin 4).val + n.val, p⟩ : Fin 1280) = ⟨960 + n.val, by omega⟩ := fun _ => rfl
    simp only [e]
    pointwise [k0_pay58, k0_pay52, k0_pay53, k0_pay54]

/-- The result store of row block `k` and head `h`. -/
def store (v : View sig .tc .vmem S1544x1280 .f32) (k : Fin 6) (h : Fin 4) : View.Piece (Elt Ideal) S1x4x1536x320 .bf16 :=
  ⟨Rect.unit (s := S1x4x1536x320) ![0, h.val, 256 * k.val, 0] S1x1x256x320.size (Common.inb_heads _ _ h.isLt (by omega)),
    pay h (rowsAt v (rows X W (k.val + 1) (by omega)) (5 + 256 * k.val) (inb_padded 1280 _ (by omega))) (tapRow C 0 (inb_taps 1280 0 (by decide))) (rowsAt v (rows X W (k.val + 1) (by omega)) (6 + 256 * k.val) (inb_padded 1280 _ (by omega))) (tapRow C 1 (inb_taps 1280 1 (by decide))) (rowsAt v (rows X W (k.val + 1) (by omega)) (7 + 256 * k.val) (inb_padded 1280 _ (by omega))) (tapRow C 2 (inb_taps 1280 2 (by decide))) (rowsAt v (rows X W (k.val + 1) (by omega)) (8 + 256 * k.val) (inb_padded 1280 _ (by omega))) (tapRow C 3 (inb_taps 1280 3 (by decide)))⟩

/-- Each result store writes the convolution at its own place. -/
theorem store_piece (v : View sig .tc .vmem S1544x1280 .f32) (k : Fin 6) (h : Fin 4) (x : (store X W C v k h).1.shape.Idx) :
    (store X W C v k h).2 x = conv X W C ((store X W C v k h).1.emb x) := by
  obtain ⟨z, z', r, n, rfl⟩ : ∃ (z : Fin 1) (z' : Fin 1) (r : Fin 256) (n : Fin 320), x = ix4 z z' r n := ⟨x 0, x 1, x 2, x 3, eq_ix4 x⟩
  obtain rfl : z = 0 := Subsingleton.elim _ _
  obtain rfl : z' = 0 := Subsingleton.elim _ _
  refine (pay_apply h _ _ _ _ _ _ _ _ r n).trans (congrArg silu (((rows_holds X W (k.val + 1) (by omega)).taps C v (256 * k.val) _ _ _ _ rfl rfl rfl rfl (by omega) (by omega) _ _ _ _ _ _ _ _ r ⟨320 * h.val + n.val, by omega⟩).trans ?_))
  refine congrArg₂ (tap X W C) (Fin.ext ?_) (Fin.ext ?_)
  · show 256 * k.val + r.val = 256 * k.val + 1 * r.val; omega
  · show 320 * h.val + n.val = 320 * (h.val + 1 * 0) + (0 + 1 * n.val); omega

/-- The result stores of row block `k`, the last first. -/
def blockStores (v : View sig .tc .vmem S1544x1280 .f32) (k : Fin 6) (L : List (View.Piece (Elt Ideal) S1x4x1536x320 .bf16)) : List (View.Piece (Elt Ideal) S1x4x1536x320 .bf16) :=
  store X W C v k 3 :: store X W C v k 2 :: store X W C v k 1 :: store X W C v k 0 :: L

/-- All the result stores, the last first. -/
def stores (v : View sig .tc .vmem S1544x1280 .f32) : List (View.Piece (Elt Ideal) S1x4x1536x320 .bf16) :=
  blockStores X W C v 5 (blockStores X W C v 4 (blockStores X W C v 3 (blockStores X W C v 2 (blockStores X W C v 1 (blockStores X W C v 0 [])))))

/-- The stores of one more row block write the convolution if those before it do. -/
theorem blockStores_pieces (v : View sig .tc .vmem S1544x1280 .f32) (k : Fin 6) (L : List (View.Piece (Elt Ideal) S1x4x1536x320 .bf16))
    (hL : ∀ p ∈ L, ∀ x, p.2 x = conv X W C (p.1.emb x)) : ∀ p ∈ blockStores X W C v k L, ∀ x, p.2 x = conv X W C (p.1.emb x) := by
  have h := store_piece X W C v k
  simp only [blockStores, List.forall_mem_cons]
  exact ⟨h 3, h 2, h 1, h 0, hL⟩

/-- All of them write the convolution, each at its own place. -/
theorem stores_pieces (v : View sig .tc .vmem S1544x1280 .f32) : ∀ p ∈ stores X W C v, ∀ x, p.2 x = conv X W C (p.1.emb x) := by
  have h := blockStores_pieces X W C v
  exact h 5 _ (h 4 _ (h 3 _ (h 2 _ (h 1 _ (h 0 _ fun p hp => absurd hp List.not_mem_nil)))))

/-- The tail block: the last three rows of the linear product. -/
def tail (j : S1x3x1280.Idx) : EReal :=
  lin X W ⟨1533 + (j 1).val, by have h : (j 1).val < 3 := (j 1).isLt; omega⟩ (j 2)

/-- The tail's payload at an element. -/
theorem tail_apply (xb : Vec Ideal S1x256x3072 .bf16) (W : Vec Ideal S1280x3072 .bf16) (r : Fin 3) (n : Fin 1280) :
    k0_pay90 xb W (ix3 0 r n) = ∑ k : Fin 3072, (show EReal from xb (ix3 0 ⟨253 + r.val, by omega⟩ k)) * (show EReal from W (ix2 n k)) := by
  pointwise [k0_pay90, k0_pay89]

/-- The tail's store writes the last three rows of the linear product. -/
theorem tail_piece (x : S1x3x1280.Idx) :
    k0_pay90 (View.ld X (Rect.unit (s := S1x1536x3072) ![0, 1280, 0] S1x256x3072.size inb_S1x1536x3072_S1x256x3072_0_1280_0)) W x = tail X W ((Rect.unit (s := S1x3x1280) ![0, 0, 0] S1x3x1280.size inb_S1x3x1280_S1x3x1280_0_0_0).emb x) := by
  obtain ⟨z, r, n, rfl⟩ : ∃ (z : Fin 1) (r : Fin 3) (n : Fin 1280), x = ix3 z r n := ⟨x 0, x 1, x 2, eq_ix3 x⟩
  obtain rfl : z = 0 := Subsingleton.elim _ _
  rw [tail_apply]
  unfold tail lin
  refine Finset.sum_congr rfl fun k _ => ?_
  refine congrArg₂ (fun a b : EReal => a * b) ?_ ?_
  · refine congrArg X (funext fun d => Fin.ext ?_)
    match d with
    | ⟨0, _⟩ => rfl
    | ⟨1, _⟩ => show 1280 + 1 * (253 + r.val) = 1533 + (0 + 1 * r.val); omega
    | ⟨2, _⟩ => show 0 + 1 * k.val = k.val; omega
  · refine congrArg W (funext fun d => Fin.ext ?_)
    match d with
    | ⟨0, _⟩ => show n.val = 0 + 1 * n.val; omega
    | ⟨1, _⟩ => rfl

end Cert.ValIdeal.Gen
end
-- ==== Proof.ValOut.lean ====
/- The `Val` projection: what the body leaves in its two result blocks, the convolved rows and the tail rows, in both of its
   cases: with the weights just dequantised, and with the weights carried in the scratch. -/
module

public import proofs.«01_k».proof.Proof.ValConv

@[expose] public section
noncomputable section
namespace Cert.ValIdeal.Gen
open Idealize.ShloMosaic Idealize.ShloMosaic.TcCoe Idealize.ShloMosaic.Tactic
open Idealize.SL Idealize.SL.RA Idealize.SL.BI

set_option maxRecDepth 65536 in
set_option maxHeartbeats 1000000 in
/-- With the weights dequantised: every store into the first result block writes the convolution at its own place. -/
theorem out_A_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    ∀ p ∈ (kernelRun0_A c i arg2 harg2 arg3 harg3 arg4 harg4 arg5 harg5 arg6 harg6 arg7 harg7 arg8 harg8 arg9 harg9 hc0 x0 x1 x2 x3).1, ∀ x, p.2 x = conv (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1280x3072) ![0, 0] ![1280, 3072] inb_S1280x3072_S1280x3072_0_0).toLoadRect) (arg5.view.read (Elt Ideal) (harg5.unread x3)) (p.1.emb x) := by
  unfold kernelRun0_A
  dsimp only
  exact stores_pieces (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1280x3072) ![0, 0] ![1280, 3072] inb_S1280x3072_S1280x3072_0_0).toLoadRect) (arg5.view.read (Elt Ideal) (harg5.unread x3)) arg9.view

/-- With the weights dequantised: the first result block is the convolution. -/
theorem out_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    out0_A_4 c i arg2 harg2 arg3 harg3 arg4 harg4 arg5 harg5 arg6 harg6 arg7 harg7 arg8 harg8 arg9 harg9 hc0 x0 x1 x2 x3 = conv x0 (Common.weights96 x1 x2) x3 := by
  have hp := out_A_pieces c i arg2 harg2 arg3 harg3 arg4 harg4 arg5 harg5 arg6 harg6 arg7 harg7 arg8 harg8 arg9 harg9 hc0 x0 x1 x2 x3
  rw [readback_A c i arg2 harg2 arg3 harg3 arg4 harg4 arg5 harg5 arg6 harg6 arg7 harg7 arg8 harg8 arg9 harg9 hc0 x0 x1 x2 x3, harg2.read_unread, harg5.read_unread] at hp
  unfold out0_A_4
  rw [View.read_writes_junk_eq_canon]
  funext y
  exact View.canon_apply_of_pieces (conv x0 (Common.weights96 x1 x2) x3) _ hp y (cover0_A_4 c i arg2 harg2 arg3 harg3 arg4 harg4 arg5 harg5 arg6 harg6 arg7 harg7 arg8 harg8 arg9 harg9 hc0 x0 x1 x2 x3 y)

/-- With the weights dequantised: the store into the second result block writes the tail at its own place. -/
theorem tail_A_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    ∀ p ∈ (kernelRun0_A c i arg2 harg2 arg3 harg3 arg4 harg4 arg5 harg5 arg6 harg6 arg7 harg7 arg8 harg8 arg9 harg9 hc0 x0 x1 x2 x3).2.1, ∀ x, p.2 x = tail (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1280x3072) ![0, 0] ![1280, 3072] inb_S1280x3072_S1280x3072_0_0).toLoadRect) (p.1.emb x) := by
  unfold kernelRun0_A
  dsimp only
  exact List.forall_mem_cons.mpr ⟨tail_piece (arg2.view.read (Elt Ideal) (harg2.unread x0)) (arg8.view.readCov (pb_k0_t1 (F := Ideal) Variants.none c none i arg2 harg2 arg3 harg3 arg4 harg4 arg5 harg5 arg6 harg6 arg7 harg7 arg8 harg8 arg9 harg9 hc0 (harg3.unread x1) (harg4.unread x2) k0_t1_loop.trips) (Rect.unit (s := S1280x3072) ![0, 0] ![1280, 3072] inb_S1280x3072_S1280x3072_0_0).toLoadRect), fun p hp => absurd hp List.not_mem_nil⟩

/-- With the weights dequantised: the second result block is the tail. -/
theorem tail_A (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : cond0_0 i) (x0 : Vec Ideal S1x1536x3072 .bf16) (x1 : Vec Ideal S1280x3072 .fp8e4m3) (x2 : Vec Ideal S1280x96 .i8) (x3 : Vec Ideal S4x1280 .f32) :
    out0_A_5 c i arg2 harg2 arg3 harg3 arg4 harg4 arg5 harg5 arg6 harg6 arg7 harg7 arg8 harg8 arg9 harg9 hc0 x0 x1 x2 x3 = tail x0 (Common.weights96 x1 x2) := by
  have hp := tail_A_pieces c i arg2 harg2 arg3 harg3 arg4 harg4 arg5 harg5 arg6 harg6 arg7 harg7 arg8 harg8 arg9 harg9 hc0 x0 x1 x2 x3
  rw [readback_A c i arg2 harg2 arg3 harg3 arg4 harg4 arg5 harg5 arg6 harg6 arg7 harg7 arg8 harg8 arg9 harg9 hc0 x0 x1 x2 x3, harg2.read_unread] at hp
  unfold out0_A_5
  rw [View.read_writes_junk_eq_canon]
  funext y
  exact View.canon_apply_of_pieces (tail x0 (Common.weights96 x1 x2)) _ hp y (cover0_A_5 c i arg2 harg2 arg3 harg3 arg4 harg4 arg5 harg5 arg6 harg6 arg7 harg7 arg8 harg8 arg9 harg9 hc0 x0 x1 x2 x3 y)

set_option maxRecDepth 65536 in
set_option maxHeartbeats 1000000 in
/-- With the weights carried: every store into the first result block writes the convolution at its own place. -/
theorem out_B_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : ¬ cond0_0 i) (x0 : Vec Ideal S1x1536x3072 .bf16) (x1 : Vec Ideal S1280x3072 .fp8e4m3) (x2 : Vec Ideal S1280x96 .i8) (x3 : Vec Ideal S4x1280 .f32) (xs0 : Vec Ideal S1280x3072 .bf16) :
    ∀ p ∈ (kernelRun0_B c i arg2 harg2 arg3 harg3 arg4 harg4 arg5 harg5 arg6 harg6 arg7 harg7 arg8 harg8 arg9 harg9 hc0 x0 x1 x2 x3 xs0).1, ∀ x, p.2 x = conv (arg2.view.read (Elt Ideal) (harg2.unread x0)) (View.readAt (Elt Ideal) arg8.view (Rect.unit (s := S1280x3072) ![0, 0] ![1280, 3072] inb_S1280x3072_S1280x3072_0_0).toLoadRect (harg8.unread xs0)) (arg5.view.read (Elt Ideal) (harg5.unread x3)) (p.1.emb x) := by
  unfold kernelRun0_B
  dsimp only
  exact stores_pieces (arg2.view.read (Elt Ideal) (harg2.unread x0)) (View.readAt (Elt Ideal) arg8.view (Rect.unit (s := S1280x3072) ![0, 0] ![1280, 3072] inb_S1280x3072_S1280x3072_0_0).toLoadRect (harg8.unread xs0)) (arg5.view.read (Elt Ideal) (harg5.unread x3)) arg9.view

/-- With the weights carried: the first result block is the convolution. -/
theorem out_B (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : ¬ cond0_0 i) (x0 : Vec Ideal S1x1536x3072 .bf16) (x1 : Vec Ideal S1280x3072 .fp8e4m3) (x2 : Vec Ideal S1280x96 .i8) (x3 : Vec Ideal S4x1280 .f32) (xs0 : Vec Ideal S1280x3072 .bf16) :
    out0_B_4 c i arg2 harg2 arg3 harg3 arg4 harg4 arg5 harg5 arg6 harg6 arg7 harg7 arg8 harg8 arg9 harg9 hc0 x0 x1 x2 x3 xs0 = conv x0 xs0 x3 := by
  have hp := out_B_pieces c i arg2 harg2 arg3 harg3 arg4 harg4 arg5 harg5 arg6 harg6 arg7 harg7 arg8 harg8 arg9 harg9 hc0 x0 x1 x2 x3 xs0
  rw [readback_B arg8 harg8 xs0, harg2.read_unread, harg5.read_unread] at hp
  unfold out0_B_4
  rw [View.read_writes_junk_eq_canon]
  funext y
  exact View.canon_apply_of_pieces (conv x0 xs0 x3) _ hp y (cover0_B_4 c i arg2 harg2 arg3 harg3 arg4 harg4 arg5 harg5 arg6 harg6 arg7 harg7 arg8 harg8 arg9 harg9 hc0 x0 x1 x2 x3 xs0 y)

/-- With the weights carried: the store into the second result block writes the tail at its own place. -/
theorem tail_B_pieces (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : ¬ cond0_0 i) (x0 : Vec Ideal S1x1536x3072 .bf16) (x1 : Vec Ideal S1280x3072 .fp8e4m3) (x2 : Vec Ideal S1280x96 .i8) (x3 : Vec Ideal S4x1280 .f32) (xs0 : Vec Ideal S1280x3072 .bf16) :
    ∀ p ∈ (kernelRun0_B c i arg2 harg2 arg3 harg3 arg4 harg4 arg5 harg5 arg6 harg6 arg7 harg7 arg8 harg8 arg9 harg9 hc0 x0 x1 x2 x3 xs0).2.1, ∀ x, p.2 x = tail (arg2.view.read (Elt Ideal) (harg2.unread x0)) (View.readAt (Elt Ideal) arg8.view (Rect.unit (s := S1280x3072) ![0, 0] ![1280, 3072] inb_S1280x3072_S1280x3072_0_0).toLoadRect (harg8.unread xs0)) (p.1.emb x) := by
  unfold kernelRun0_B
  dsimp only
  exact List.forall_mem_cons.mpr ⟨tail_piece (arg2.view.read (Elt Ideal) (harg2.unread x0)) (View.readAt (Elt Ideal) arg8.view (Rect.unit (s := S1280x3072) ![0, 0] ![1280, 3072] inb_S1280x3072_S1280x3072_0_0).toLoadRect (harg8.unread xs0)), fun p hp => absurd hp List.not_mem_nil⟩

/-- With the weights carried: the second result block is the tail. -/
theorem tail_B (c : Dev nD) (i : grid0.Coords) (arg2 : Memref sig .tc .vmem S1x1536x3072 .bf16) (harg2 : arg2.IsWhole) (arg3 : Memref sig .tc .vmem S1280x3072 .fp8e4m3) (harg3 : arg3.IsWhole) (arg4 : Memref sig .tc .vmem S1280x96 .i8) (harg4 : arg4.IsWhole) (arg5 : Memref sig .tc .vmem S4x1280 .f32) (harg5 : arg5.IsWhole) (arg6 : Memref sig .tc .vmem S1x4x1536x320 .bf16) (harg6 : arg6.IsWhole) (arg7 : Memref sig .tc .vmem S1x3x1280 .bf16) (harg7 : arg7.IsWhole) (arg8 : Memref sig .tc .vmem S1280x3072 .bf16) (harg8 : arg8.IsWhole) (arg9 : Memref sig .tc .vmem S1544x1280 .f32) (harg9 : arg9.IsWhole) (hc0 : ¬ cond0_0 i) (x0 : Vec Ideal S1x1536x3072 .bf16) (x1 : Vec Ideal S1280x3072 .fp8e4m3) (x2 : Vec Ideal S1280x96 .i8) (x3 : Vec Ideal S4x1280 .f32) (xs0 : Vec Ideal S1280x3072 .bf16) :
    out0_B_5 c i arg2 harg2 arg3 harg3 arg4 harg4 arg5 harg5 arg6 harg6 arg7 harg7 arg8 harg8 arg9 harg9 hc0 x0 x1 x2 x3 xs0 = tail x0 xs0 := by
  have hp := tail_B_pieces c i arg2 harg2 arg3 harg3 arg4 harg4 arg5 harg5 arg6 harg6 arg7 harg7 arg8 harg8 arg9 harg9 hc0 x0 x1 x2 x3 xs0
  rw [readback_B arg8 harg8 xs0, harg2.read_unread] at hp
  unfold out0_B_5
  rw [View.read_writes_junk_eq_canon]
  funext y
  exact View.canon_apply_of_pieces (tail x0 xs0) _ hp y (cover0_B_5 c i arg2 harg2 arg3 harg3 arg4 harg4 arg5 harg5 arg6 harg6 arg7 harg7 arg8 harg8 arg9 harg9 hc0 x0 x1 x2 x3 xs0 y)

end Cert.ValIdeal.Gen
end
-- ==== Proof.ValArray.lean ====
/- The `Val` projection over the whole grid: every block the kernel writes back is the block of ONE array, the convolution of
   the product of the rows with the dequantised weights, and every tail block the block of the last three rows of that
   product. The weights are dequantised at the first of every six grid points and carried in the scratch over the other five. -/
module

public import proofs.«01_k».proof.Proof.ValOut

@[expose] public section
noncomputable section
namespace Cert.ValIdeal.Gen
open Idealize.ShloMosaic Idealize.ShloMosaic.TcCoe Idealize.ShloMosaic.Tactic
open Idealize.SL Idealize.SL.RA Idealize.SL.BI
open Cert.Conv

variable (m : (ℓ : Loc nD τ sig) → Buf (Elt Ideal) ℓ) (ρ : Dev nD → PrngReg)

/-- One element of the product of the rows with the dequantised weights. -/
def linF (X : Vec Ideal S6x1536x3072 .bf16) (C : Vec Ideal S2560x3072 .fp8e4m3) (S : Vec Ideal S2560x96 .i8) (b : Fin 6) (r : Fin 1536) (n : Fin 2560) : EReal :=
  ∑ k : Fin 3072, (show EReal from X (ix3 b r k)) * Common.weights96 (R := 2560) C S (ix2 n k)

/-- The product under three rows of zeros: row `p` of it is row `p - 3` of the product. -/
def padF (X : Vec Ideal S6x1536x3072 .bf16) (C : Vec Ideal S2560x3072 .fp8e4m3) (S : Vec Ideal S2560x96 .i8) (b : Fin 6) (p : Fin 1539) (n : Fin 2560) : EReal :=
  if h : 3 ≤ p.val then linF X C S b ⟨p.val - 3, by omega⟩ n else 0

/-- The four taps over row `r` of sequence `b`. -/
def tapF (X : Vec Ideal S6x1536x3072 .bf16) (C : Vec Ideal S2560x3072 .fp8e4m3) (S : Vec Ideal S2560x96 .i8) (T : Vec Ideal S4x2560 .f32) (b : Fin 6) (r : Fin 1536) (n : Fin 2560) : EReal :=
  padF X C S b ⟨0 + r.val, by omega⟩ n * (show EReal from T (ix2 0 n))
    + padF X C S b ⟨1 + r.val, by omega⟩ n * (show EReal from T (ix2 1 n))
    + padF X C S b ⟨2 + r.val, by omega⟩ n * (show EReal from T (ix2 2 n))
    + padF X C S b ⟨3 + r.val, by omega⟩ n * (show EReal from T (ix2 3 n))

/-- The first result: the convolution under the activation. -/
def target (X : Vec Ideal S6x1536x3072 .bf16) (C : Vec Ideal S2560x3072 .fp8e4m3) (S : Vec Ideal S2560x96 .i8) (T : Vec Ideal S4x2560 .f32) (j : S6x8x1536x320.Idx) : EReal :=
  silu (tapF X C S T (j 0) (j 2) ⟨320 * (j 1).val + (j 3).val, by have h1 : (j 1).val < 8 := (j 1).isLt; have h3 : (j 3).val < 320 := (j 3).isLt; omega⟩)

/-- The second result: the last three rows of the product. -/
def targetTail (X : Vec Ideal S6x1536x3072 .bf16) (C : Vec Ideal S2560x3072 .fp8e4m3) (S : Vec Ideal S2560x96 .i8) (j : S6x3x2560.Idx) : EReal :=
  linF X C S (j 0) ⟨1533 + (j 1).val, by have h : (j 1).val < 3 := (j 1).isLt; omega⟩ (j 2)

/-- The convolution's taps as the region finds them: the host has transposed them. -/
def taps (c : Dev nD) : Vec Ideal S4x2560 .f32 :=
  transpose S4x2560 [1, 0] (m ((c : Thread nD τ).loc main_arg3) : Vec Ideal S2560x4 .f32) transposes_S2560x4_S4x2560_1_0

/-- The host operation before the region wrote the transposed taps. -/
theorem V_main_v0 (c : Dev nD) : V m c main_v0 = taps m c := by
  show StableHlo.after hostOps0 (fun b => m (c, b)) main_v0 = _
  unfold hostOps0
  rw [StableHlo.after_cons, StableHlo.after_nil]
  exact StableHlo.unary_result _ _ _ _ _ _

/-- The weight rows that grid point `n` works with. -/
def wblk (c : Dev nD) (n : ℕ) (hn : n < 12) (j : S1280x3072.Idx) : EReal :=
  Common.weights96 (R := 2560) (m ((c : Thread nD τ).loc main_arg1)) (m ((c : Thread nD τ).loc main_arg2))
    (ix2 ⟨1280 * (n / 6) + (j 0).val, by have h : (j 0).val < 1280 := (j 0).isLt; omega⟩ (j 1))

/-- Window 0's block index over the grid. -/
theorem idx0 : ∀ t : Fin cfg0.N, win0_0.index t 0 = t.val % 6 ∧ win0_0.index t 1 = 0 ∧ win0_0.index t 2 = 0 :=
  (by decide +kernel : ∀ t : Fin grid0.N, win0_0.index t 0 = t.val % 6 ∧ win0_0.index t 1 = 0 ∧ win0_0.index t 2 = 0)
/-- Window 1's block index over the grid. -/
theorem idx1 : ∀ t : Fin cfg0.N, win0_1.index t 0 = t.val / 6 ∧ win0_1.index t 1 = 0 :=
  (by decide +kernel : ∀ t : Fin grid0.N, win0_1.index t 0 = t.val / 6 ∧ win0_1.index t 1 = 0)
/-- Window 2's block index over the grid. -/
theorem idx2 : ∀ t : Fin cfg0.N, win0_2.index t 0 = t.val / 6 ∧ win0_2.index t 1 = 0 :=
  (by decide +kernel : ∀ t : Fin grid0.N, win0_2.index t 0 = t.val / 6 ∧ win0_2.index t 1 = 0)
/-- Window 3's block index over the grid. -/
theorem idx3 : ∀ t : Fin cfg0.N, win0_3.index t 0 = 0 ∧ win0_3.index t 1 = t.val / 6 :=
  (by decide +kernel : ∀ t : Fin grid0.N, win0_3.index t 0 = 0 ∧ win0_3.index t 1 = t.val / 6)
/-- Window 4's block index over the grid. -/
theorem idx4 : ∀ t : Fin cfg0.N, win0_4.index t 0 = t.val % 6 ∧ win0_4.index t 1 = t.val / 6 ∧ win0_4.index t 2 = 0 ∧ win0_4.index t 3 = 0 :=
  (by decide +kernel : ∀ t : Fin grid0.N, win0_4.index t 0 = t.val % 6 ∧ win0_4.index t 1 = t.val / 6 ∧ win0_4.index t 2 = 0 ∧ win0_4.index t 3 = 0)
/-- Window 5's block index over the grid. -/
theorem idx5 : ∀ t : Fin cfg0.N, win0_5.index t 0 = t.val % 6 ∧ win0_5.index t 1 = 0 ∧ win0_5.index t 2 = t.val / 6 :=
  (by decide +kernel : ∀ t : Fin grid0.N, win0_5.index t 0 = t.val % 6 ∧ win0_5.index t 1 = 0 ∧ win0_5.index t 2 = t.val / 6)

/-- The grid has 12 points. -/
theorem lt12 (t : Fin cfg0.N) : t.val < 12 := lt_of_lt_of_eq t.isLt N_0

/-- The row block at a grid point, read at an index. -/
theorem iblk0_apply (c : Dev nD) (t : Fin cfg0.N) (r : Fin 1536) (k : Fin 3072) :
    (iblk m c 0 t : Vec Ideal S1x1536x3072 .bf16) (ix3 0 r k)
      = ((m ((c : Thread nD τ).loc main_arg0)) : Vec Ideal S6x1536x3072 .bf16) (ix3 ⟨t.val % 6, by omega⟩ r k) := by
  obtain ⟨h0, h1, h2⟩ := idx0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val % 6; rw [h0]; omega
  | ⟨1, _⟩ => show win0_0.index t 1 * 1536 + 1 * r.val = r.val; rw [h1]; omega
  | ⟨2, _⟩ => show win0_0.index t 2 * 3072 + 1 * k.val = k.val; rw [h2]; omega

/-- The block of weight codes at a grid point, read at an index. -/
theorem iblk1_apply (c : Dev nD) (t : Fin cfg0.N) (j : S1280x3072.Idx) :
    (iblk m c 1 t : Vec Ideal S1280x3072 .fp8e4m3) j
      = ((m ((c : Thread nD τ).loc main_arg1)) : Vec Ideal S2560x3072 .fp8e4m3)
          (ix2 ⟨1280 * (t.val / 6) + (j 0).val, by have h : (j 0).val < 1280 := (j 0).isLt; have := lt12 t; omega⟩ (j 1)) := by
  obtain ⟨h0, h1⟩ := idx1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1280 + 1 * (j 0).val = 1280 * (t.val / 6) + (j 0).val; rw [h0]; omega
  | ⟨1, _⟩ => show win0_1.index t 1 * 3072 + 1 * (j 1).val = (j 1).val; rw [h1]; omega

/-- The block of scale bytes at a grid point, read at an index. -/
theorem iblk2_apply (c : Dev nD) (t : Fin cfg0.N) (r : Fin 1280) (k : Fin 96) :
    (iblk m c 2 t : Vec Ideal S1280x96 .i8) (ix2 r k)
      = ((m ((c : Thread nD τ).loc main_arg2)) : Vec Ideal S2560x96 .i8)
          (ix2 ⟨1280 * (t.val / 6) + r.val, by have := lt12 t; omega⟩ k) := by
  obtain ⟨h0, h1⟩ := idx2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1280 + 1 * r.val = 1280 * (t.val / 6) + r.val; rw [h0]; omega
  | ⟨1, _⟩ => show win0_2.index t 1 * 96 + 1 * k.val = k.val; rw [h1]; omega

/-- The block of taps at a grid point, read at an index. -/
theorem iblk3_apply (c : Dev nD) (t : Fin cfg0.N) (q : Fin 4) (n : Fin 1280) :
    (iblk m c 3 t : Vec Ideal S4x1280 .f32) (ix2 q n)
      = taps m c (ix2 q ⟨1280 * (t.val / 6) + n.val, by have := lt12 t; omega⟩) := by
  obtain ⟨h0, h1⟩ := idx3 t
  unfold iblk
  rw [View.read_apply]
  show V m c main_v0 _ = taps m c _
  rw [V_main_v0]
  refine congrArg (taps m c) (funext fun a => Fin.ext ?_)
  match a with
  | ⟨0, _⟩ => show win0_3.index t 0 * 4 + 1 * q.val = q.val; rw [h0]; omega
  | ⟨1, _⟩ => show win0_3.index t 1 * 1280 + 1 * n.val = 1280 * (t.val / 6) + n.val; rw [h1]; omega

/-- The weights dequantised from a point's own blocks are the rows of the dequantised array that the point works with. -/
theorem weights_blk (c : Dev nD) (t : Fin cfg0.N) :
    Common.weights96 (R := 1280) (iblk m c 1 t) (iblk m c 2 t) = wblk m c t.val (lt12 t) := by
  funext j
  have h1 : (j 1).val < 3072 := (j 1).isLt
  exact congrArg₂ (fun (a : EReal) s => a * Common.factor s) (iblk1_apply m c t j) (iblk2_apply m c t (j 0) ⟨(j 1).val / 32, by omega⟩)

/-- Points of the same six work with the same weight rows. -/
theorem wblk_congr (c : Dev nD) (n n' : ℕ) (h : n < 12) (h' : n' < 12) (e : n / 6 = n' / 6) :
    wblk m c n h = wblk m c n' h' := by
  unfold wblk
  funext j
  simp only [e]

/-- What a point leaves: its two result blocks and the scratch. -/
def left (c : Dev nD) (t : Fin cfg0.N) : Vec Ideal S1x4x1536x320 .bf16 × Vec Ideal S1x3x1280 .bf16 × Vec Ideal S1280x3072 .bf16 :=
  (conv (iblk m c 0 t) (wblk m c t.val (lt12 t)) (iblk m c 3 t), tail (iblk m c 0 t) (wblk m c t.val (lt12 t)), wblk m c t.val (lt12 t))

/-- At the first point of six. -/
theorem outsA (c : Dev nD) (t : Fin cfg0.N) (h0 : t.val % 6 = 0) : outsAt0 m c t.val t.isLt = left m c t := by
  rw [outsAt0_A m c t h0, out_A, tail_A, sout_A, weights_blk]
  rfl

/-- At a later point, where the scratch still holds the weights. -/
theorem outsB (c : Dev nD) (t : Fin cfg0.N) (h0 : ¬t.val % 6 = 0)
    (hp : (outsAt0 m c (t.val - 1) (Nat.lt_of_le_of_lt (Nat.sub_le _ _) t.isLt)).2.2 = wblk m c t.val (lt12 t)) :
    outsAt0 m c t.val t.isLt = left m c t := by
  rw [outsAt0_B m c t h0, out_B, tail_B]
  unfold sout0_B_0
  rw [hp]
  rfl

/-- At every point the staged results are the point's own, and the scratch holds its weights. -/
theorem outsAt_eq (c : Dev nD) : ∀ (n : ℕ) (h : n < cfg0.N), outsAt0 m c n h = left m c ⟨n, h⟩ := by
  intro n
  induction n with
  | zero => exact fun h => outsA m c ⟨0, h⟩ rfl
  | succ n ih =>
    intro h
    by_cases h0 : (n + 1) % 6 = 0
    · exact outsA m c ⟨n + 1, h⟩ h0
    · refine outsB m c ⟨n + 1, h⟩ h0 ?_
      show (outsAt0 m c n (Nat.lt_of_succ_lt h)).2.2 = wblk m c (n + 1) (lt12 ⟨n + 1, h⟩)
      rw [ih (Nat.lt_of_succ_lt h)]
      exact wblk_congr m c n (n + 1) (lt12 ⟨n, Nat.lt_of_succ_lt h⟩) (lt12 ⟨n + 1, h⟩) (by omega)

/-- A point's linear product is its part of the whole product. -/
theorem lin_blk (c : Dev nD) (t : Fin cfg0.N) (r : Fin 1536) (n : Fin 1280) :
    lin (iblk m c 0 t) (wblk m c t.val (lt12 t)) r n
      = linF (m ((c : Thread nD τ).loc main_arg0)) (m ((c : Thread nD τ).loc main_arg1)) (m ((c : Thread nD τ).loc main_arg2)) ⟨t.val % 6, by omega⟩ r ⟨1280 * (t.val / 6) + n.val, by have := lt12 t; omega⟩ := by
  unfold lin linF
  refine Finset.sum_congr rfl fun k _ => ?_
  exact congrArg₂ (fun a b : EReal => a * b) (iblk0_apply m c t r k) rfl

/-- The same under the rows of zeros: five of the kernel's eight rows of zeros lie above the three that are read. -/
theorem padded_blk (c : Dev nD) (t : Fin cfg0.N) (p : Fin 1544) (q : Fin 1539) (e : p.val = 5 + q.val) (n : Fin 1280) :
    padded (iblk m c 0 t) (wblk m c t.val (lt12 t)) (ix2 p n)
      = padF (m ((c : Thread nD τ).loc main_arg0)) (m ((c : Thread nD τ).loc main_arg1)) (m ((c : Thread nD τ).loc main_arg2)) ⟨t.val % 6, by omega⟩ q ⟨1280 * (t.val / 6) + n.val, by have := lt12 t; omega⟩ := by
  unfold padded padF
  by_cases h : 3 ≤ q.val
  · rw [dif_pos h]
    refine (dif_pos (show 8 ≤ p.val by omega)).trans ?_
    refine Eq.trans ?_ (lin_blk m c t ⟨q.val - 3, by omega⟩ n)
    exact congrArg (fun r => lin (iblk m c 0 t) (wblk m c t.val (lt12 t)) r n) (Fin.ext (by show p.val - 8 = q.val - 3; omega))
  · rw [dif_neg h]
    exact dif_neg (show ¬ 8 ≤ p.val by omega)

/-- A point's taps are the taps of the whole arrays at the same place. -/
theorem tap_blk (c : Dev nD) (t : Fin cfg0.N) (r : Fin 1536) (n : Fin 1280) :
    tap (iblk m c 0 t) (wblk m c t.val (lt12 t)) (iblk m c 3 t) r n
      = tapF (m ((c : Thread nD τ).loc main_arg0)) (m ((c : Thread nD τ).loc main_arg1)) (m ((c : Thread nD τ).loc main_arg2)) (taps m c) ⟨t.val % 6, by omega⟩ r ⟨1280 * (t.val / 6) + n.val, by have := lt12 t; omega⟩ := by
  unfold tap tapF
  refine congrArg₂ (fun a b : EReal => a + b) ?_ (congrArg₂ (fun a b : EReal => a * b)
    (padded_blk m c t ⟨8 + r.val, by omega⟩ ⟨3 + r.val, by omega⟩ (by show 8 + r.val = 5 + (3 + r.val); omega) n) (iblk3_apply m c t 3 n))
  refine congrArg₂ (fun a b : EReal => a + b) ?_ (congrArg₂ (fun a b : EReal => a * b)
    (padded_blk m c t ⟨7 + r.val, by omega⟩ ⟨2 + r.val, by omega⟩ (by show 7 + r.val = 5 + (2 + r.val); omega) n) (iblk3_apply m c t 2 n))
  refine congrArg₂ (fun a b : EReal => a + b) ?_ (congrArg₂ (fun a b : EReal => a * b)
    (padded_blk m c t ⟨6 + r.val, by omega⟩ ⟨1 + r.val, by omega⟩ (by show 6 + r.val = 5 + (1 + r.val); omega) n) (iblk3_apply m c t 1 n))
  exact (congrArg₂ (fun a b : EReal => a * b)
    (padded_blk m c t ⟨5 + r.val, by omega⟩ ⟨0 + r.val, by omega⟩ (by show 5 + r.val = 5 + (0 + r.val); omega) n) (iblk3_apply m c t 0 n))

/-- What a grid point writes back to the first result is its block of the target. -/
theorem flushed4_eq (c : Dev nD) (t : Fin cfg0.N) :
    (dats m 0 c).flushed 4 t = ((cfg0.win 4).blk t).view.read (Elt Ideal) (target (m ((c : Thread nD τ).loc main_arg0)) (m ((c : Thread nD τ).loc main_arg1)) (m ((c : Thread nD τ).loc main_arg2)) (taps m c)) := by
  show (cfg0.win 4).cut (grid0.coords t) ((dats m 0 c).after 4 t) = _
  rw [after0_4, outsAt_eq m c]
  obtain ⟨e0, e1, e2, e3⟩ := idx4 t
  funext y
  show conv (iblk m c 0 t) (wblk m c t.val (lt12 t)) (iblk m c 3 t) y = target _ _ _ _ (((cfg0.win 4).blk t).view.emb y)
  have hy0 : (y 0).val < 1 := (y 0).isLt
  unfold conv target
  have hy1 : (y 1).val < 4 := (y 1).isLt
  have hy3 : (y 3).val < 320 := (y 3).isLt
  have hx : (((cfg0.win 4).blk t).view.emb y 0) = (⟨t.val % 6, by omega⟩ : Fin 6) := by
    apply Fin.ext
    show win0_4.index t 0 * 1 + 1 * (y 0).val = t.val % 6
    rw [e0]; omega
  have hh : (((cfg0.win 4).blk t).view.emb y 1).val = 4 * (t.val / 6) + (y 1).val := by
    show win0_4.index t 1 * 4 + 1 * (y 1).val = 4 * (t.val / 6) + (y 1).val
    rw [e1]; omega
  have hy : (((cfg0.win 4).blk t).view.emb y 2) = (y 2 : Fin 1536) := by
    apply Fin.ext
    show win0_4.index t 2 * 1536 + 1 * (y 2).val = (y 2).val
    rw [e2]; omega
  have hz : (((cfg0.win 4).blk t).view.emb y 3).val = (y 3).val := by
    show win0_4.index t 3 * 320 + 1 * (y 3).val = (y 3).val
    rw [e3]; omega
  rw [hx, hy]
  refine congrArg silu ((tap_blk m c t (y 2) ⟨320 * (y 1).val + (y 3).val, by omega⟩).trans ?_)
  refine congrArg (tapF _ _ _ _ _ _) (Fin.ext ?_)
  show 1280 * (t.val / 6) + (320 * (y 1).val + (y 3).val) = 320 * (((cfg0.win 4).blk t).view.emb y 1).val + (((cfg0.win 4).blk t).view.emb y 3).val
  rw [hh, hz]; omega

/-- What a grid point writes back to the second result is its block of the tail rows. -/
theorem flushed5_eq (c : Dev nD) (t : Fin cfg0.N) :
    (dats m 0 c).flushed 5 t = ((cfg0.win 5).blk t).view.read (Elt Ideal) (targetTail (m ((c : Thread nD τ).loc main_arg0)) (m ((c : Thread nD τ).loc main_arg1)) (m ((c : Thread nD τ).loc main_arg2))) := by
  show (cfg0.win 5).cut (grid0.coords t) ((dats m 0 c).after 5 t) = _
  rw [after0_5, outsAt_eq m c]
  obtain ⟨e0, e1, e2⟩ := idx5 t
  funext y
  show tail (iblk m c 0 t) (wblk m c t.val (lt12 t)) y = targetTail _ _ _ (((cfg0.win 5).blk t).view.emb y)
  have hy0 : (y 0).val < 1 := (y 0).isLt
  have hy1 : (y 1).val < 3 := (y 1).isLt
  have hy2 : (y 2).val < 1280 := (y 2).isLt
  unfold tail targetTail
  have hx : (((cfg0.win 5).blk t).view.emb y 0) = (⟨t.val % 6, by omega⟩ : Fin 6) := by
    apply Fin.ext
    show win0_5.index t 0 * 1 + 1 * (y 0).val = t.val % 6
    rw [e0]; omega
  have hy : (((cfg0.win 5).blk t).view.emb y 1).val = (y 1).val := by
    show win0_5.index t 1 * 3 + 1 * (y 1).val = (y 1).val
    rw [e1]; omega
  have hz : (((cfg0.win 5).blk t).view.emb y 2) = (⟨1280 * (t.val / 6) + (y 2).val, by have := lt12 t; omega⟩ : Fin 2560) := by
    apply Fin.ext
    show win0_5.index t 2 * 1280 + 1 * (y 2).val = 1280 * (t.val / 6) + (y 2).val
    rw [e2]; omega
  rw [hx, hz]
  refine (lin_blk m c t ⟨1533 + (y 1).val, by omega⟩ (y 2)).trans ?_
  refine congrArg (fun r => linF (m ((c : Thread nD τ).loc main_arg0)) (m ((c : Thread nD τ).loc main_arg1)) (m ((c : Thread nD τ).loc main_arg2)) _ r _) (Fin.ext ?_)
  show 1533 + (y 1).val = 1533 + (((cfg0.win 5).blk t).view.emb y 1).val
  rw [hy]

/-- The first result after the run. -/
theorem final4 (c : Dev nD) : (dats m 0 c).arrAt 4 cfg0.N = target (m ((c : Thread nD τ).loc main_arg0)) (m ((c : Thread nD τ).loc main_arg1)) (m ((c : Thread nD τ).loc main_arg2)) (taps m c) :=
  (dats m 0 c).arrAt_eq_of_cover 4 _ (fun t _ => flushed4_eq m c t) (fun i => (Value.covered_iff4 i).2 (by
    have h0 : (i 0).val < 6 := (i 0).isLt; have h1 : (i 1).val < 8 := (i 1).isLt; have h2 : (i 2).val < 1536 := (i 2).isLt; have h3 : (i 3).val < 320 := (i 3).isLt; omega))

/-- The second result after the run. -/
theorem final5 (c : Dev nD) : (dats m 0 c).arrAt 5 cfg0.N = targetTail (m ((c : Thread nD τ).loc main_arg0)) (m ((c : Thread nD τ).loc main_arg1)) (m ((c : Thread nD τ).loc main_arg2)) :=
  (dats m 0 c).arrAt_eq_of_cover 5 _ (fun t _ => flushed5_eq m c t) (fun i => (Value.covered_iff5 i).2 (by
    have h0 : (i 0).val < 6 := (i 0).isLt; have h1 : (i 1).val < 3 := (i 1).isLt; have h2 : (i 2).val < 2560 := (i 2).isLt; omega))

/-- The run, read: the two results are the targets, the arguments are unchanged. -/
theorem run_target : θ_run defs (onTc (τ := τ) (main (F := Ideal))) ⟨m, fun _ => 0, ρ⟩ fun r => ∀ c : Dev nD,
      r.2.mem ((c : Thread nD τ).loc main_v1_0) = target (m ((c : Thread nD τ).loc main_arg0)) (m ((c : Thread nD τ).loc main_arg1)) (m ((c : Thread nD τ).loc main_arg2)) (taps m c)
      ∧ r.2.mem ((c : Thread nD τ).loc main_v1_1) = targetTail (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final4 m c),
      (Value.post5 m r h c).trans (final5 m c),
      Value.kept_main_arg0 m r h c,
      Value.kept_main_arg1 m r h c,
      Value.kept_main_arg2 m r h c,
      Value.kept_main_arg3 m r h c⟩)
    (run_main m ρ)

end Cert.ValIdeal.Gen
end
-- ==== Proof.ValRefRun.lean ====
/- The reference of the `Val` projection: its run. It has one grid point, every window's block is its whole array, so the two
   results are the body's two values of the argument arrays. -/
module

public import proofs.«01_k».proof.Proof.Common
public import proofs.«01_k».proof.Proof.Gen.ValRefIdeal.Frame

@[expose] public section
noncomputable section
namespace Cert.ValRefIdeal.Gen
open Idealize.ShloMosaic Idealize.ShloMosaic.TcCoe Idealize.ShloMosaic.Tactic
open Idealize.SL Idealize.SL.RA Idealize.SL.BI

open Idealize.ShloMosaic.Pipeline (Dat)

variable (m : (ℓ : Loc nD τ sig) → Buf (Elt Ideal) ℓ) (ρ : Dev nD → PrngReg)

/-- The taps as the region finds them: the host has transposed them. -/
def taps (c : Dev nD) : Vec Ideal S4x2560 .f32 :=
  transpose S4x2560 [1, 0] (m ((c : Thread nD τ).loc main_arg3) : Vec Ideal S2560x4 .f32) transposes_S2560x4_S4x2560_1_0

/-- The host operation before the region wrote the transposed taps. -/
theorem V_main_v0 (c : Dev nD) : V m c main_v0 = taps m c := by
  show StableHlo.after hostOps0 (fun b => m (c, b)) main_v0 = _
  unfold hostOps0
  rw [StableHlo.after_cons, StableHlo.after_nil]
  exact StableHlo.unary_result _ _ _ _ _ _

/-- Window 0's block index is zero on every axis. -/
theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x1536x3072.Idx) : ((cfg0.win 0).blk t).view.emb j = j := by
  obtain ⟨e0, e1, e2⟩ := idx0 t
  funext a; apply Fin.ext
  match a with
  | ⟨0, _⟩ => show win0_0.index t (0 : Fin 3) * 6 + 1 * (j 0).val = (j 0).val; omega
  | ⟨1, _⟩ => show win0_0.index t (1 : Fin 3) * 1536 + 1 * (j 1).val = (j 1).val; omega
  | ⟨2, _⟩ => show win0_0.index t (2 : Fin 3) * 3072 + 1 * (j 2).val = (j 2).val; omega

/-- Window 0's block is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- Window 1's block index is zero on every axis. -/
theorem idx1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S2560x3072.Idx) : ((cfg0.win 1).blk t).view.emb j = j := by
  obtain ⟨e0, e1⟩ := idx1 t
  funext a; apply Fin.ext
  match a with
  | ⟨0, _⟩ => show win0_1.index t (0 : Fin 2) * 2560 + 1 * (j 0).val = (j 0).val; omega
  | ⟨1, _⟩ => show win0_1.index t (1 : Fin 2) * 3072 + 1 * (j 1).val = (j 1).val; omega

/-- Window 1's block is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index is zero on every axis. -/
theorem idx2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2560x96.Idx) : ((cfg0.win 2).blk t).view.emb j = j := by
  obtain ⟨e0, e1⟩ := idx2 t
  funext a; apply Fin.ext
  match a with
  | ⟨0, _⟩ => show win0_2.index t (0 : Fin 2) * 2560 + 1 * (j 0).val = (j 0).val; omega
  | ⟨1, _⟩ => show win0_2.index t (1 : Fin 2) * 96 + 1 * (j 1).val = (j 1).val; omega

/-- Window 2's block is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index is zero on every axis. -/
theorem idx3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S4x2560.Idx) : ((cfg0.win 3).blk t).view.emb j = j := by
  obtain ⟨e0, e1⟩ := idx3 t
  funext a; apply Fin.ext
  match a with
  | ⟨0, _⟩ => show win0_3.index t (0 : Fin 2) * 4 + 1 * (j 0).val = (j 0).val; omega
  | ⟨1, _⟩ => show win0_3.index t (1 : Fin 2) * 2560 + 1 * (j 1).val = (j 1).val; omega

/-- Window 3's block is its array as the region finds it. -/
theorem iblk3_eq (c : Dev nD) (t : Fin cfg0.N) : iblk m c 3 t = V m c main_v0 := by
  funext j; show V m c main_v0 (((cfg0.win 3).blk t).view.emb j) = V m c main_v0 j; rw [emb3]

/-- Window 4's block index is zero on every axis. -/
theorem idx4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S6x8x1536x320.Idx) : ((cfg0.win 4).blk t).view.emb j = j := by
  obtain ⟨e0, e1, e2, e3⟩ := idx4 t
  funext a; apply Fin.ext
  match a with
  | ⟨0, _⟩ => show win0_4.index t (0 : Fin 4) * 6 + 1 * (j 0).val = (j 0).val; omega
  | ⟨1, _⟩ => show win0_4.index t (1 : Fin 4) * 8 + 1 * (j 1).val = (j 1).val; omega
  | ⟨2, _⟩ => show win0_4.index t (2 : Fin 4) * 1536 + 1 * (j 2).val = (j 2).val; omega
  | ⟨3, _⟩ => show win0_4.index t (3 : Fin 4) * 320 + 1 * (j 3).val = (j 3).val; omega

/-- Window 5's block index is zero on every axis. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S6x3x2560.Idx) : ((cfg0.win 5).blk t).view.emb j = j := by
  obtain ⟨e0, e1, e2⟩ := idx5 t
  funext a; apply Fin.ext
  match a with
  | ⟨0, _⟩ => show win0_5.index t (0 : Fin 3) * 6 + 1 * (j 0).val = (j 0).val; omega
  | ⟨1, _⟩ => show win0_5.index t (1 : Fin 3) * 3 + 1 * (j 1).val = (j 1).val; omega
  | ⟨2, _⟩ => show win0_5.index t (2 : Fin 3) * 2560 + 1 * (j 2).val = (j 2).val; omega

/-- The body's first value. -/
abbrev G4 (X : Vec Ideal S6x1536x3072 .bf16) (C : Vec Ideal S2560x3072 .fp8e4m3) (S : Vec Ideal S2560x96 .i8) (T : Vec Ideal S4x2560 .f32) : Vec Ideal S6x8x1536x320 .bf16 :=
  k0_pay1 (k0_pay6 X C S T) (k0_pay7 X C S) (k0_pay8 T)

/-- The body's second value. -/
abbrev G5 (X : Vec Ideal S6x1536x3072 .bf16) (C : Vec Ideal S2560x3072 .fp8e4m3) (S : Vec Ideal S2560x96 .i8) : Vec Ideal S6x3x2560 .bf16 := k0_pay2 (k0_pay3 X C S)

/-- The body leaves its value in window 4's block. -/
theorem out4_eq (X : Vec Ideal S6x1536x3072 .bf16) (C : Vec Ideal S2560x3072 .fp8e4m3) (S : Vec Ideal S2560x96 .i8) (T : Vec Ideal S4x2560 .f32) : out0_4 (F := Ideal) X C S T = G4 X C S T := by
  unfold out0_4
  rw [View.canon_unit_zero Common.zeros4, View.ld_unit_zero (S := S6x1536x3072) Common.zeros3 _ X, View.ld_unit_zero (S := S2560x3072) Common.zeros2 _ C, View.ld_unit_zero (S := S2560x96) Common.zeros2 _ S, View.ld_unit_zero (S := S4x2560) Common.zeros2 _ T]

/-- Cutting the point's block out of an array and reading the array through the block give the same. -/
theorem cut4_eq (t : Fin cfg0.N) (Y : Vec Ideal S6x8x1536x320 .bf16) :
    (cfg0.win 4).cut (grid0.coords t) Y = ((cfg0.win 4).blk t).view.read (Elt Ideal) Y := by
  funext j
  show Y j = Y (((cfg0.win 4).blk t).view.emb j)
  rw [emb4]

/-- What the point writes back. -/
theorem flushed4_eq (c : Dev nD) (t : Fin cfg0.N) :
    (dats m 0 c).flushed 4 t = ((cfg0.win 4).blk t).view.read (Elt Ideal) (G4 (V m c main_arg0) (V m c main_arg1) (V m c main_arg2) (V m c main_v0)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S6x8x1536x320.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run. -/
theorem final4 (c : Dev nD) : (dats m 0 c).arrAt 4 cfg0.N = G4 (m ((c : Thread nD τ).loc main_arg0)) (m ((c : Thread nD τ).loc main_arg1)) (m ((c : Thread nD τ).loc main_arg2)) (taps m c) :=
  ((dats m 0 c).arrAt_eq_of_cover 4 (G4 (V m c main_arg0) (V m c main_arg1) (V m c main_arg2) (V m c main_v0)) (fun t _ => flushed4_eq m c t) covered4).trans (by rw [V_main_arg0, V_main_arg1, V_main_arg2, V_main_v0])

/-- The body leaves its value in window 5's block. -/
theorem out5_eq (X : Vec Ideal S6x1536x3072 .bf16) (C : Vec Ideal S2560x3072 .fp8e4m3) (S : Vec Ideal S2560x96 .i8) (T : Vec Ideal S4x2560 .f32) : out0_5 (F := Ideal) X C S T = G5 X C S := by
  unfold out0_5
  rw [View.canon_unit_zero Common.zeros3, View.ld_unit_zero (S := S6x1536x3072) Common.zeros3 _ X, View.ld_unit_zero (S := S2560x3072) Common.zeros2 _ C, View.ld_unit_zero (S := S2560x96) Common.zeros2 _ S]

/-- Cutting the point's block out of an array and reading the array through the block give the same. -/
theorem cut5_eq (t : Fin cfg0.N) (Y : Vec Ideal S6x3x2560 .bf16) :
    (cfg0.win 5).cut (grid0.coords t) Y = ((cfg0.win 5).blk t).view.read (Elt Ideal) Y := by
  funext j
  show Y j = Y (((cfg0.win 5).blk t).view.emb j)
  rw [emb5]

/-- What the point writes back. -/
theorem flushed5_eq (c : Dev nD) (t : Fin cfg0.N) :
    (dats m 0 c).flushed 5 t = ((cfg0.win 5).blk t).view.read (Elt Ideal) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S6x3x2560.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-- The run, read: each result at its function of the arguments, the arguments unchanged. -/
theorem run : θ_run defs (onTc (τ := τ) (main (F := Ideal))) ⟨m, fun _ => 0, ρ⟩ fun r => ∀ c : Dev nD,
      r.2.mem ((c : Thread nD τ).loc main_v1_0) = G4 (m ((c : Thread nD τ).loc main_arg0)) (m ((c : Thread nD τ).loc main_arg1)) (m ((c : Thread nD τ).loc main_arg2)) (taps m c)
      ∧ r.2.mem ((c : Thread nD τ).loc main_v1_1) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ValRefIdeal.Gen
end
-- ==== Proof.ValRef.lean ====
/- The reference of the `Val` projection read at an index: the product of the rows with the codes scaled by `2 ^ (byte - 127)`,
   three rows of zeros above it, the four taps, the activation, and the last three rows. -/
module

public import proofs.«01_k».proof.Proof.ValRefRun

@[expose] public section
noncomputable section
namespace Cert.ValRefIdeal.Gen
open Idealize.ShloMosaic Idealize.ShloMosaic.TcCoe Idealize.ShloMosaic.Tactic
open Idealize.SL Idealize.SL.RA Idealize.SL.BI

/-- The linear product at an index. -/
theorem lin_apply (X : Vec Ideal S6x1536x3072 .bf16) (C : Vec Ideal S2560x3072 .fp8e4m3) (S : Vec Ideal S2560x96 .i8) (b : Fin 6) (r : Fin 1536) (n : Fin 2560) :
    k0_pay3 X C S (ix3 b r n) = ∑ k : Fin 3072, (show EReal from X (ix3 b r k)) * ((show EReal from C (ix2 n k)) * Common.power (S (ix2 n ⟨k.val / 32, by omega⟩))) := by
  pointwise [k0_pay3]
  rfl

/-- The product under three rows of zeros, at an index. -/
theorem pad_apply (X : Vec Ideal S6x1536x3072 .bf16) (C : Vec Ideal S2560x3072 .fp8e4m3) (S : Vec Ideal S2560x96 .i8) (b : Fin 6) (p : Fin 1539) (n : Fin 2560) :
    (show EReal from k0_pay5 X C S (ix3 b p n)) = if h : 3 ≤ p.val then (show EReal from k0_pay3 X C S (ix3 b ⟨p.val - 3, by omega⟩ n)) else 0 := by
  unfold k0_pay5
  refine (concatenate_pair_apply _ _ _ _ _).trans ?_
  by_cases h : p.val < 3
  · rw [dif_neg (by omega : ¬ 3 ≤ p.val)]
    refine (dif_pos h).trans ?_
    pointwise
  · rw [dif_pos (by omega : 3 ≤ p.val)]
    refine (dif_neg h).trans ?_
    pointwise

/-- The first three taps at an index. -/
theorem taps3_apply (X : Vec Ideal S6x1536x3072 .bf16) (C : Vec Ideal S2560x3072 .fp8e4m3) (S : Vec Ideal S2560x96 .i8) (T : Vec Ideal S4x2560 .f32) (b : Fin 6) (r : Fin 1536) (n : Fin 2560) :
    k0_pay6 X C S T (ix3 b r n) = 0 + (show EReal from k0_pay5 (F := Ideal) X C S (ix3 b ⟨0 + r.val, by omega⟩ n)) * (show EReal from T (ix2 0 n)) + (show EReal from k0_pay5 (F := Ideal) X C S (ix3 b ⟨1 + r.val, by omega⟩ n)) * (show EReal from T (ix2 1 n)) + (show EReal from k0_pay5 (F := Ideal) X C S (ix3 b ⟨2 + r.val, by omega⟩ n)) * (show EReal from T (ix2 2 n)) := by
  pointwise [k0_pay6, k0_pay4]

/-- The first result at an index. -/
theorem out_apply (X : Vec Ideal S6x1536x3072 .bf16) (C : Vec Ideal S2560x3072 .fp8e4m3) (S : Vec Ideal S2560x96 .i8) (T : Vec Ideal S4x2560 .f32) (b : Fin 6) (h : Fin 8) (r : Fin 1536) (n : Fin 320) :
    G4 X C S T (ix4 b h r n) = (fun z : EReal => z * Ideal.logistic z) (0 + (show EReal from k0_pay5 (F := Ideal) X C S (ix3 b ⟨0 + r.val, by omega⟩ ⟨320 * h.val + n.val, by omega⟩)) * (show EReal from T (ix2 0 ⟨320 * h.val + n.val, by omega⟩)) + (show EReal from k0_pay5 (F := Ideal) X C S (ix3 b ⟨1 + r.val, by omega⟩ ⟨320 * h.val + n.val, by omega⟩)) * (show EReal from T (ix2 1 ⟨320 * h.val + n.val, by omega⟩)) + (show EReal from k0_pay5 (F := Ideal) X C S (ix3 b ⟨2 + r.val, by omega⟩ ⟨320 * h.val + n.val, by omega⟩)) * (show EReal from T (ix2 2 ⟨320 * h.val + n.val, by omega⟩)) + (show EReal from k0_pay5 (F := Ideal) X C S (ix3 b ⟨3 + r.val, by omega⟩ ⟨320 * h.val + n.val, by omega⟩)) * (show EReal from T (ix2 3 ⟨320 * h.val + n.val, by omega⟩))) := by
  unfold G4
  pointwise [k0_pay1, k0_pay6, k0_pay4, k0_pay7, k0_pay8]
  have e : h.val * 320 + n.val = 320 * h.val + n.val := by omega
  simp only [e]

/-- The second result at an index. -/
theorem tail_apply (X : Vec Ideal S6x1536x3072 .bf16) (C : Vec Ideal S2560x3072 .fp8e4m3) (S : Vec Ideal S2560x96 .i8) (b : Fin 6) (r : Fin 3) (n : Fin 2560) :
    G5 X C S (ix3 b r n) = k0_pay3 X C S (ix3 b ⟨1533 + r.val, by omega⟩ n) := by
  unfold G5
  pointwise [k0_pay2]

end Cert.ValRefIdeal.Gen
end
-- ==== Proof.ValEq.lean ====
/- The `Val` projection: the kernel's two results are the reference's. The two differ in how a scale byte becomes a power of
   two and in where the taps are applied; they agree for bytes from 1 to 254, the precondition. -/
module

public import Idealize.ShloMosaic.Lib.ReduceAll
public import proofs.«01_k».proof.Defs
public import proofs.«01_k».proof.Proof.ValArray
public import proofs.«01_k».proof.Proof.ValRef
public import proofs.«01_k».proof.Proof.Gen.Pre_scales_v

@[expose] public section
noncomputable section
namespace Cert.ValEq
open Idealize.ShloMosaic Idealize.ShloMosaic.TcCoe Idealize.ShloMosaic.Tactic
open Idealize.SL Idealize.SL.RA Idealize.SL.BI

/-- The precondition, unfolded: every scale byte is from 1 to 254. -/
theorem scale_bounds [Cert.Pre_scales_v.Facts] (X : FVec Ideal Cert.Pre_scales_v.S6x1536x3072 .bf16) (C : FVec Ideal Cert.Pre_scales_v.S2560x3072 .fp8e4m3)
    (S : IVec Cert.Pre_scales_v.S2560x96 8) (T : FVec Ideal Cert.Pre_scales_v.S2560x4 .f32) (h : ∀ i, Cert.Pre_scales_v.fn (F := Ideal) X C S T i = 1#1) (i : Cert.Pre_scales_v.S2560x96.Idx) :
    1 ≤ (S i).toNat ∧ (S i).toNat ≤ 254 := by
  have : Subsingleton Cert.Pre_scales_v.S_.Idx := ⟨fun a b => funext fun d => d.elim0⟩
  have e := Host.reduce_andi_all _ _ _ _ (fun d => d.elim0) (h (fun d => d.elim0)) i
  obtain ⟨e1, e2⟩ := IntOp.andi_eq_one.1 e
  exact ⟨IntOp.cmpi_uge.1 e1, IntOp.cmpi_ule.1 e2⟩

/-- The linear products agree: each scale factor is the power the byte states. -/
theorem lin_eq (X : Vec Ideal Cert.ValIdeal.S6x1536x3072 .bf16) (C : Vec Ideal Cert.ValIdeal.S2560x3072 .fp8e4m3) (S : Vec Ideal Cert.ValIdeal.S2560x96 .i8) (hS : ∀ i, 1 ≤ (S i).toNat ∧ (S i).toNat ≤ 254) (b : Fin 6) (r : Fin 1536) (n : Fin 2560) :
    Cert.ValIdeal.Gen.linF X C S b r n = Cert.ValRefIdeal.Gen.k0_pay3 (F := Ideal) X C S (ix3 b r n) := by
  refine Eq.trans ?_ (Cert.ValRefIdeal.Gen.lin_apply X C S b r n).symm
  unfold Cert.ValIdeal.Gen.linF
  refine Finset.sum_congr rfl fun k _ => ?_
  have e := Common.factor_eq_power (S (ix2 n ⟨k.val / 32, by omega⟩)) (hS _).1 (hS _).2
  rw [← e]
  rfl

/-- So do the products under three rows of zeros. -/
theorem pad_eq (X : Vec Ideal Cert.ValIdeal.S6x1536x3072 .bf16) (C : Vec Ideal Cert.ValIdeal.S2560x3072 .fp8e4m3) (S : Vec Ideal Cert.ValIdeal.S2560x96 .i8) (hS : ∀ i, 1 ≤ (S i).toNat ∧ (S i).toNat ≤ 254) (b : Fin 6) (p : Fin 1539) (n : Fin 2560) :
    Cert.ValIdeal.Gen.padF X C S b p n = Cert.ValRefIdeal.Gen.k0_pay5 (F := Ideal) X C S (ix3 b p n) := by
  refine Eq.trans ?_ (Cert.ValRefIdeal.Gen.pad_apply X C S b p n).symm
  unfold Cert.ValIdeal.Gen.padF
  by_cases h : 3 ≤ p.val
  · rw [dif_pos h, dif_pos h]; exact lin_eq X C S hS b _ n
  · rw [dif_neg h, dif_neg h]

/-- The first result of the kernel is the reference's. -/
theorem target_eq_ref (X : Vec Ideal Cert.ValIdeal.S6x1536x3072 .bf16) (C : Vec Ideal Cert.ValIdeal.S2560x3072 .fp8e4m3) (S : Vec Ideal Cert.ValIdeal.S2560x96 .i8) (T : Vec Ideal Cert.ValIdeal.S4x2560 .f32) (hS : ∀ i, 1 ≤ (S i).toNat ∧ (S i).toNat ≤ 254) :
    Cert.ValIdeal.Gen.target X C S T = Cert.ValRefIdeal.Gen.G4 X C S T := by
  funext j
  obtain ⟨b, h, r, n, rfl⟩ : ∃ (b : Fin 6) (h : Fin 8) (r : Fin 1536) (n : Fin 320), j = ix4 b h r n := ⟨j 0, j 1, j 2, j 3, eq_ix4 j⟩
  refine Eq.trans ?_ (Cert.ValRefIdeal.Gen.out_apply X C S T b h r n).symm
  show Cert.Conv.silu (Cert.ValIdeal.Gen.tapF X C S T b r ⟨320 * h.val + n.val, by omega⟩) = Cert.Conv.silu _
  refine congrArg Cert.Conv.silu ?_
  unfold Cert.ValIdeal.Gen.tapF
  simp only [pad_eq X C S hS, zero_add]

/-- The second result of the kernel is the reference's. -/
theorem tail_eq_ref (X : Vec Ideal Cert.ValIdeal.S6x1536x3072 .bf16) (C : Vec Ideal Cert.ValIdeal.S2560x3072 .fp8e4m3) (S : Vec Ideal Cert.ValIdeal.S2560x96 .i8) (hS : ∀ i, 1 ≤ (S i).toNat ∧ (S i).toNat ≤ 254) :
    Cert.ValIdeal.Gen.targetTail X C S = Cert.ValRefIdeal.Gen.G5 X C S := by
  funext j
  obtain ⟨b, r, n, rfl⟩ : ∃ (b : Fin 6) (r : Fin 3) (n : Fin 2560), j = ix3 b r n := ⟨j 0, j 1, j 2, eq_ix3 j⟩
  exact (lin_eq X C S hS b _ n).trans (Cert.ValRefIdeal.Gen.tail_apply X C S b r n).symm

/-- The value claim: run on the same arguments, kernel and reference leave the same two results. -/
theorem algebraic : Cert.algebraic_ValIdeal_ValRefIdeal_pre_scales_v := fun m g m' g' hp ha => by
  have hS := fun c => scale_bounds _ _ _ _ (congrFun (hp c))
  refine ⟨fun c => Cert.ValIdeal.Gen.target (m ((c.tc : Thread Cert.ValIdeal.nD Cert.ValIdeal.τ).loc Cert.ValIdeal.main_arg0)) (m ((c.tc : Thread Cert.ValIdeal.nD Cert.ValIdeal.τ).loc Cert.ValIdeal.main_arg1)) (m ((c.tc : Thread Cert.ValIdeal.nD Cert.ValIdeal.τ).loc Cert.ValIdeal.main_arg2)) (Cert.ValIdeal.Gen.taps m c), fun c => Cert.ValIdeal.Gen.targetTail (m ((c.tc : Thread Cert.ValIdeal.nD Cert.ValIdeal.τ).loc Cert.ValIdeal.main_arg0)) (m ((c.tc : Thread Cert.ValIdeal.nD Cert.ValIdeal.τ).loc Cert.ValIdeal.main_arg1)) (m ((c.tc : Thread Cert.ValIdeal.nD Cert.ValIdeal.τ).loc Cert.ValIdeal.main_arg2)), Cert.ValIdeal.Gen.run_target m g, ?_⟩
  refine (θ_run Cert.ValRefIdeal.defs _ _).mono (fun r h c => ⟨(h c).1.trans ?_, (h c).2.1.trans ?_, (h c).2.2⟩) (Cert.ValRefIdeal.Gen.run m' g')
  · obtain ⟨h0, h1, h2, h3⟩ := ha c
    unfold Cert.ValRefIdeal.Gen.taps
    rw [h0, h1, h2, h3]
    exact (target_eq_ref _ _ _ _ (hS c)).symm
  · obtain ⟨h0, h1, h2, h3⟩ := ha c
    rw [h0, h1, h2]
    exact (tail_eq_ref _ _ _ (hS c)).symm

end Cert.ValEq
end
-- ==== Proof.lean ====
/- The claims of this certificate, put together: the generated frames of the programs, `preserves`, which rewrites nothing,
   and the value claims that the modules `Proof.<Name>Eq` prove. -/
module

public import proofs.«01_k».proof.Defs
public import proofs.«01_k».proof.Proof.Gen.Out.Frame
public import proofs.«01_k».proof.Proof.Gen.OutIdeal.Frame
public import proofs.«01_k».proof.Proof.Gen.OutRefIdeal.Frame
public import proofs.«01_k».proof.Proof.Gen.Pre_scales_out
public import proofs.«01_k».proof.Proof.OutEq
public import proofs.«01_k».proof.Proof.Gen.Gate.Frame
public import proofs.«01_k».proof.Proof.Gen.GateIdeal.Frame
public import proofs.«01_k».proof.Proof.Gen.GateRefIdeal.Frame
public import proofs.«01_k».proof.Proof.Gen.Pre_scales_gate
public import proofs.«01_k».proof.Proof.GateEq
public import proofs.«01_k».proof.Proof.Gen.Qk.Frame
public import proofs.«01_k».proof.Proof.Gen.QkIdeal.Frame
public import proofs.«01_k».proof.Proof.Gen.QkRefIdeal.Frame
public import proofs.«01_k».proof.Proof.Gen.Pre_scales_qk
public import proofs.«01_k».proof.Proof.QkEq
public import proofs.«01_k».proof.Proof.Gen.Val.Frame
public import proofs.«01_k».proof.Proof.Gen.ValIdeal.Frame
public import proofs.«01_k».proof.Proof.Gen.ValRefIdeal.Frame
public import proofs.«01_k».proof.Proof.Gen.Pre_scales_v
public import proofs.«01_k».proof.Proof.ValEq
public import Idealize.ShloMosaic.Adequacy
public import Idealize.ShloMosaic.Init

@[expose] public section

noncomputable section

namespace Cert.Proof

open Idealize.ShloMosaic Idealize.SL.Sem

theorem claim : Cert.Claim :=
  ⟨Cert.Out.Gen.facts,
    Cert.OutIdeal.Gen.facts,
    Cert.OutRefIdeal.Gen.facts,
    Cert.Gate.Gen.facts,
    Cert.GateIdeal.Gen.facts,
    Cert.GateRefIdeal.Gen.facts,
    Cert.Qk.Gen.facts,
    Cert.QkIdeal.Gen.facts,
    Cert.QkRefIdeal.Gen.facts,
    Cert.Val.Gen.facts,
    Cert.ValIdeal.Gen.facts,
    Cert.ValRefIdeal.Gen.facts,
    Cert.Pre_scales_out.Gen.facts,
    Cert.Pre_scales_gate.Gen.facts,
    Cert.Pre_scales_qk.Gen.facts,
    Cert.Pre_scales_v.Gen.facts,
    fun m ρ _ => Cert.Out.Gen.frame m ρ,
    fun m ρ _ => Cert.OutIdeal.Gen.frame m ρ,
    fun m ρ _ => Cert.OutIdeal.Gen.frame m ρ,
    fun m ρ _ => Cert.OutRefIdeal.Gen.frame m ρ,
    fun m ρ _ => Cert.OutRefIdeal.Gen.frame m ρ,
    fun m ρ _ => Cert.Gate.Gen.frame m ρ,
    fun m ρ _ => Cert.GateIdeal.Gen.frame m ρ,
    fun m ρ _ => Cert.GateIdeal.Gen.frame m ρ,
    fun m ρ _ => Cert.GateRefIdeal.Gen.frame m ρ,
    fun m ρ _ => Cert.GateRefIdeal.Gen.frame m ρ,
    fun m ρ _ => Cert.Qk.Gen.frame m ρ,
    fun m ρ _ => Cert.QkIdeal.Gen.frame m ρ,
    fun m ρ _ => Cert.QkIdeal.Gen.frame m ρ,
    fun m ρ _ => Cert.QkRefIdeal.Gen.frame m ρ,
    fun m ρ _ => Cert.QkRefIdeal.Gen.frame m ρ,
    fun m ρ _ => Cert.Val.Gen.frame m ρ,
    fun m ρ _ => Cert.ValIdeal.Gen.frame m ρ,
    fun m ρ _ => Cert.ValIdeal.Gen.frame m ρ,
    fun m ρ _ => Cert.ValRefIdeal.Gen.frame m ρ,
    fun m ρ _ => Cert.ValRefIdeal.Gen.frame m ρ,
    trivial,
    Cert.OutEq.algebraic,
    trivial,
    Cert.GateEq.algebraic,
    trivial,
    Cert.QkEq.algebraic,
    trivial,
    Cert.ValEq.algebraic⟩

end Cert.Proof

end
